-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_weights [hPre_unmasked_weights : Cert.Pre_unmasked_weights.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_weights [hPre_unmasked_weights : Cert.Pre_unmasked_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_unmasked_weights [hKernelIdeal : Cert.KernelIdeal.Facts] [hPre_unmasked_weights : Cert.Pre_unmasked_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_unmasked_weights [hReferenceIdeal : Cert.ReferenceIdeal.Facts] [hPre_unmasked_weights : Cert.Pre_unmasked_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_unmasked_weights [hKernelIdeal : Cert.KernelIdeal.Facts] [hReferenceIdeal : Cert.ReferenceIdeal.Facts] [hPre_unmasked_weights : Cert.Pre_unmasked_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_unmasked_weights : Cert.Pre_unmasked_weights.Facts),
    quiescent_Kernel (hKernel := hKernel)
    ∧ quiescent_KernelIdeal (hKernelIdeal := hKernelIdeal)
    ∧ quiescent_KernelIdeal_pre_unmasked_weights (hKernelIdeal := hKernelIdeal) (hPre_unmasked_weights := hPre_unmasked_weights)
    ∧ quiescent_ReferenceIdeal (hReferenceIdeal := hReferenceIdeal)
    ∧ quiescent_ReferenceIdeal_pre_unmasked_weights (hReferenceIdeal := hReferenceIdeal) (hPre_unmasked_weights := hPre_unmasked_weights)
    ∧ preserves_Kernel_KernelIdeal
    ∧ algebraic_KernelIdeal_ReferenceIdeal_pre_unmasked_weights (hKernelIdeal := hKernelIdeal) (hReferenceIdeal := hReferenceIdeal) (hPre_unmasked_weights := hPre_unmasked_weights)
-- ==== Pre_unmasked_weights.lean ====
abbrev S4x64x768 : Shape := ⟨3, ![4, 64, 768]⟩
abbrev S4x8192x64 : Shape := ⟨3, ![4, 8192, 64]⟩
abbrev S4x64 : Shape := ⟨2, ![4, 64]⟩
abbrev S4x8192 : Shape := ⟨2, ![4, 8192]⟩
abbrev S4x64x3 : Shape := ⟨3, ![4, 64, 3]⟩
abbrev S4x64x3x3 : Shape := ⟨4, ![4, 64, 3, 3]⟩
abbrev S18x768 : Shape := ⟨2, ![18, 768]⟩
abbrev S768 : Shape := ⟨1, ![768]⟩
abbrev S768x768 : Shape := ⟨2, ![768, 768]⟩
abbrev S768x256 : Shape := ⟨2, ![768, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn {F : FTy → Type} [FloatOps F] (main_arg0 : FVec F S4x64x768 .f32) (main_arg1 : FVec F S4x8192x64 .f32) (main_arg2 : FVec F S4x64 .f32) (main_arg3 : FVec F S4x8192 .f32) (main_arg4 : FVec F S4x64x3 .f32) (main_arg5 : FVec F S4x64x3x3 .f32) (main_arg6 : FVec F S4x64x3 .f32) (main_arg7 : FVec F S18x768 .f32) (main_arg8 : FVec F S768 .f32) (main_arg9 : FVec F S768 .f32) (main_arg10 : FVec F S768 .f32) (main_arg11 : FVec F S768x768 .f32) (main_arg12 : FVec F S768 .f32) (main_arg13 : FVec F S768x768 .f32) (main_arg14 : FVec F S768 .f32) (main_arg15 : FVec F S768 .f32) (main_arg16 : FVec F S768 .f32) (main_arg17 : FVec F S768x256 .f32) (main_arg18 : FVec F S256 .f32) (main_arg19 : FVec F S256x256 .f32) (main_arg20 : FVec F S256 .f32) (main_arg21 : FVec F S256x3 .f32) (main_arg22 : FVec F S3 .f32) : IVec S_ 1 :=
  let main_cst : FVec F S_ .f32 := constant S_ .f32 0x3F800000#32
  let main_v0 : FVec F S4x64 .f32 := broadcastInDim S4x64 ![] bcast_S_S4x64 main_cst
  let main_v1 : IVec S4x64 1 := cmpf .oeq main_arg2 main_v0
  let main_c : IVec S_ 1 := constantI S_ 1 1#1
  let main_v2 : IVec S_ 1 := (fun x v => Host.reduce IntOp.andi x v reducesTo_S4x64_S_d0_1 h_S_) main_v1 main_c
  let main_cst_0 : FVec F S_ .f32 := constant S_ .f32 0x3F800000#32
  let main_v3 : FVec F S4x8192 .f32 := broadcastInDim S4x8192 ![] bcast_S_S4x8192 main_cst_0
  let main_v4 : IVec S4x8192 1 := cmpf .oeq main_arg3 main_v3
  let main_c_1 : IVec S_ 1 := constantI S_ 1 1#1
  let main_v5 : IVec S_ 1 := (fun x v => Host.reduce IntOp.andi x v reducesTo_S4x8192_S_d0_1 h_S_) main_v4 main_c_1
  let main_v6 : IVec S_ 1 := andi main_v2 main_v5
  let main_cst_2 : FVec F S_ .f32 := constant S_ .f32 0xFF800000#32
  let main_v7 : FVec F S4x8192x64 .f32 := broadcastInDim S4x8192x64 ![] bcast_S_S4x8192x64 main_cst_2
  let main_v8 : IVec S4x8192x64 1 := cmpf .ogt main_arg1 main_v7
  let main_c_3 : IVec S_ 1 := constantI S_ 1 1#1
  let main_v9 : IVec S_ 1 := (fun x v => Host.reduce IntOp.andi x v reducesTo_S4x8192x64_S_d0_1_2 h_S_) main_v8 main_c_3
  let main_v10 : IVec S_ 1 := andi main_v6 main_v9
  main_v10
-- ==== Kernel.lean ====
abbrev S4x64x768 : Shape := ⟨3, ![4, 64, 768]⟩
abbrev S4x8192x64 : Shape := ⟨3, ![4, 8192, 64]⟩
abbrev S4x64 : Shape := ⟨2, ![4, 64]⟩
abbrev S4x8192 : Shape := ⟨2, ![4, 8192]⟩
abbrev S4x64x3 : Shape := ⟨3, ![4, 64, 3]⟩
abbrev S4x64x3x3 : Shape := ⟨4, ![4, 64, 3, 3]⟩
abbrev S18x768 : Shape := ⟨2, ![18, 768]⟩
abbrev S768 : Shape := ⟨1, ![768]⟩
abbrev S768x768 : Shape := ⟨2, ![768, 768]⟩
abbrev S768x256 : Shape := ⟨2, ![768, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S4x8x64 : Shape := ⟨3, ![4, 8, 64]⟩
abbrev S1x4096x64 : Shape := ⟨3, ![1, 4096, 64]⟩
abbrev S1x8x64 : Shape := ⟨3, ![1, 8, 64]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S1x1x64 : Shape := ⟨3, ![1, 1, 64]⟩
abbrev S4x64x9 : Shape := ⟨3, ![4, 64, 9]⟩
abbrev S1x768 : Shape := ⟨2, ![1, 768]⟩
abbrev S1x256 : Shape := ⟨2, ![1, 256]⟩
abbrev S1x3 : Shape := ⟨2, ![1, 3]⟩
abbrev S4x8192x3 : Shape := ⟨3, ![4, 8192, 3]⟩
abbrev S4x8192x8 : Shape := ⟨3, ![4, 8192, 8]⟩
abbrev S1x64x768 : Shape := ⟨3, ![1, 64, 768]⟩
abbrev S1x64x3 : Shape := ⟨3, ![1, 64, 3]⟩
abbrev S1x64x9 : Shape := ⟨3, ![1, 64, 9]⟩
abbrev S1x4096x3 : Shape := ⟨3, ![1, 4096, 3]⟩
abbrev S1x4096x8 : Shape := ⟨3, ![1, 4096, 8]⟩
abbrev S8x64 : Shape := ⟨2, ![8, 64]⟩
abbrev S256x64 : Shape := ⟨2, ![256, 64]⟩
abbrev S1x4096 : Shape := ⟨2, ![1, 4096]⟩
abbrev S18x4096 : Shape := ⟨2, ![18, 4096]⟩
abbrev S4096x18 : Shape := ⟨2, ![4096, 18]⟩
abbrev S4096x768 : Shape := ⟨2, ![4096, 768]⟩
abbrev S64x768 : Shape := ⟨2, ![64, 768]⟩
abbrev S4096x256 : Shape := ⟨2, ![4096, 256]⟩
abbrev S4096x3 : Shape := ⟨2, ![4096, 3]⟩
abbrev S64x3 : Shape := ⟨2, ![64, 3]⟩
abbrev S64x9 : Shape := ⟨2, ![64, 9]⟩
abbrev S4096x9 : Shape := ⟨2, ![4096, 9]⟩
abbrev S3x9 : Shape := ⟨2, ![3, 9]⟩
abbrev S9x3 : Shape := ⟨2, ![9, 3]⟩
abbrev S4096x8 : Shape := ⟨2, ![4096, 8]⟩
abbrev S4x8192x1 : Shape := ⟨3, ![4, 8192, 1]⟩

abbrev nBuf : Space → Nat
  | .hbm => 44
  | .vmem => 43
  | .smem => 0
  | _ => 0

abbrev bufTy : (tb : Table) → Fin (tcTables nBuf tb) → BufTy
  | .hbm, ⟨0, _⟩ => ⟨S4x64x768, .f32⟩
  | .hbm, ⟨1, _⟩ => ⟨S4x8192x64, .f32⟩
  | .hbm, ⟨2, _⟩ => ⟨S4x64, .f32⟩
  | .hbm, ⟨3, _⟩ => ⟨S4x8192, .f32⟩
  | .hbm, ⟨4, _⟩ => ⟨S4x64x3, .f32⟩
  | .hbm, ⟨5, _⟩ => ⟨S4x64x3x3, .f32⟩
  | .hbm, ⟨6, _⟩ => ⟨S4x64x3, .f32⟩
  | .hbm, ⟨7, _⟩ => ⟨S18x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768x768, .f32⟩
  | .hbm, ⟨12, _⟩ => ⟨S768, .f32⟩
  | .hbm, ⟨13, _⟩ => ⟨S768x768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S768x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S256x3, .f32⟩
  | .hbm, ⟨22, _⟩ => ⟨S3, .f32⟩
  | .hbm, ⟨23, _⟩ => ⟨S4x8x64, .f32⟩
  | .hbm, ⟨24, _⟩ => ⟨S4x64x9, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x256, .f32⟩
  | .hbm, ⟨33, _⟩ => ⟨S1x256, .f32⟩
  | .hbm, ⟨34, _⟩ => ⟨S1x3, .f32⟩
  | .hbm, ⟨35, _⟩ => ⟨S4x8192x3, .f32⟩
  | .hbm, ⟨36, _⟩ => ⟨S4x8192x3, .f32⟩
  | .hbm, ⟨37, _⟩ => ⟨S4x8192x8, .f32⟩
  | .hbm, ⟨38, _⟩ => ⟨S4x8192x64, .f32⟩
  | .hbm, ⟨39, _⟩ => ⟨S4x8192x8, .i32⟩
  | .hbm, ⟨40, _⟩ => ⟨S4x8192x1, .f32⟩
  | .hbm, ⟨41, _⟩ => ⟨S4x8192, .f32⟩
  | .hbm, ⟨42, _⟩ => ⟨S4x8192x1, .i32⟩
  | .hbm, ⟨43, _⟩ => ⟨S4x8192, .i32⟩
  | .local _ .vmem, ⟨0, _⟩ => ⟨S1x4096x64, .f32⟩
  | .local _ .vmem, ⟨1, _⟩ => ⟨S1x4096x64, .f32⟩
  | .local _ .vmem, ⟨2, _⟩ => ⟨S1x8x64, .f32⟩
  | .local _ .vmem, ⟨3, _⟩ => ⟨S1x8x64, .f32⟩
  | .local _ .vmem, ⟨4, _⟩ => ⟨S1x4096x64, .f32⟩
  | .local _ .vmem, ⟨5, _⟩ => ⟨S1x4096x64, .f32⟩
  | .local _ .vmem, ⟨6, _⟩ => ⟨S1x8x64, .f32⟩
  | .local _ .vmem, ⟨7, _⟩ => ⟨S1x8x64, .f32⟩
  | .local _ .vmem, ⟨8, _⟩ => ⟨S1x64x768, .f32⟩
  | .local _ .vmem, ⟨9, _⟩ => ⟨S1x64x768, .f32⟩
  | .local _ .vmem, ⟨10, _⟩ => ⟨S1x64x3, .f32⟩
  | .local _ .vmem, ⟨11, _⟩ => ⟨S1x64x3, .f32⟩
  | .local _ .vmem, ⟨12, _⟩ => ⟨S1x64x9, .f32⟩
  | .local _ .vmem, ⟨13, _⟩ => ⟨S1x64x9, .f32⟩
  | .local _ .vmem, ⟨14, _⟩ => ⟨S1x64x3, .f32⟩
  | .local _ .vmem, ⟨15, _⟩ => ⟨S1x64x3, .f32⟩
  | .local _ .vmem, ⟨16, _⟩ => ⟨S18x768, .f32⟩
  | .local _ .vmem, ⟨17, _⟩ => ⟨S1x768, .f32⟩
  | .local _ .vmem, ⟨18, _⟩ => ⟨S1x768, .f32⟩
  | .local _ .vmem, ⟨19, _⟩ => ⟨S1x768, .f32⟩
  | .local _ .vmem, ⟨20, _⟩ => ⟨S768x768, .f32⟩
  | .local _ .vmem, ⟨21, _⟩ => ⟨S1x768, .f32⟩
  | .local _ .vmem, ⟨22, _⟩ => ⟨S768x768, .f32⟩
  | .local _ .vmem, ⟨23, _⟩ => ⟨S1x768, .f32⟩
  | .local _ .vmem, ⟨24, _⟩ => ⟨S1x768, .f32⟩
  | .local _ .vmem, ⟨25, _⟩ => ⟨S1x768, .f32⟩
  | .local _ .vmem, ⟨26, _⟩ => ⟨S768x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S256x3, .f32⟩
  | .local _ .vmem, ⟨31, _⟩ => ⟨S1x3, .f32⟩
  | .local _ .vmem, ⟨32, _⟩ => ⟨S1x4096x3, .f32⟩
  | .local _ .vmem, ⟨33, _⟩ => ⟨S1x4096x3, .f32⟩
  | .local _ .vmem, ⟨34, _⟩ => ⟨S1x4096x3, .f32⟩
  | .local _ .vmem, ⟨35, _⟩ => ⟨S1x4096x3, .f32⟩
  | .local _ .vmem, ⟨36, _⟩ => ⟨S1x4096x8, .f32⟩
  | .local _ .vmem, ⟨37, _⟩ => ⟨S1x4096x8, .f32⟩
  | .local _ .vmem, ⟨38, _⟩ => ⟨S1x4096x64, .f32⟩
  | .local _ .vmem, ⟨39, _⟩ => ⟨S1x4096x64, .f32⟩
  | .local _ .vmem, ⟨40, _⟩ => ⟨S1x4096x8, .i32⟩
  | .local _ .vmem, ⟨41, _⟩ => ⟨S1x4096x8, .i32⟩
  | .local _ .vmem, ⟨42, _⟩ => ⟨S8x64, .f32⟩
  | _, _ => ⟨S4x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v12_3 : Ref sig .tc := ⟨.hbm, 38, rfl⟩
abbrev main_v12_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_stg18_0 : Ref sig .tc := ⟨.vmem, 28, rfl⟩
abbrev cc1_stg19_0 : Ref sig .tc := ⟨.vmem, 29, rfl⟩
abbrev cc1_stg20_0 : Ref sig .tc := ⟨.vmem, 30, rfl⟩
abbrev cc1_stg21_0 : Ref sig .tc := ⟨.vmem, 31, rfl⟩
abbrev cc1_stg22_0 : Ref sig .tc := ⟨.vmem, 32, rfl⟩
abbrev cc1_stg22_1 : Ref sig .tc := ⟨.vmem, 33, rfl⟩
abbrev cc1_stg23_0 : Ref sig .tc := ⟨.vmem, 34, rfl⟩
abbrev cc1_stg23_1 : Ref sig .tc := ⟨.vmem, 35, rfl⟩
abbrev cc1_stg24_0 : Ref sig .tc := ⟨.vmem, 36, rfl⟩
abbrev cc1_stg24_1 : Ref sig .tc := ⟨.vmem, 37, rfl⟩
abbrev cc1_stg25_0 : Ref sig .tc := ⟨.vmem, 38, rfl⟩
abbrev cc1_stg25_1 : Ref sig .tc := ⟨.vmem, 39, rfl⟩
abbrev cc1_stg26_0 : Ref sig .tc := ⟨.vmem, 40, rfl⟩
abbrev cc1_stg26_1 : Ref sig .tc := ⟨.vmem, 41, rfl⟩
abbrev cc1_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem17_0 : DmaSem sig := 27
abbrev cc1_sem18_0 : DmaSem sig := 28
abbrev cc1_sem19_0 : DmaSem sig := 29
abbrev cc1_sem20_0 : DmaSem sig := 30
abbrev cc1_sem21_0 : DmaSem sig := 31
abbrev cc1_sem22_0 : DmaSem sig := 32
abbrev cc1_sem22_1 : DmaSem sig := 33
abbrev cc1_sem23_0 : DmaSem sig := 34
abbrev cc1_sem23_1 : DmaSem sig := 35
abbrev cc1_sem24_0 : DmaSem sig := 36
abbrev cc1_sem24_1 : DmaSem sig := 37
abbrev cc1_sem25_0 : DmaSem sig := 38
abbrev cc1_sem25_1 : DmaSem sig := 39
abbrev cc1_sem26_0 : DmaSem sig := 40
abbrev cc1_sem26_1 : DmaSem sig := 41

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_23 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_24 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_25 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_26 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x9 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S18x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S768x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S768x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x768 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x768 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x768 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S768x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S256x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 1 → Memref sig .tc .vmem S256x3 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false, false]

abbrev stage1_21 : Fin 1 → Memref sig .tc .vmem S1x3 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false, false]

abbrev stage1_22 : Fin 2 → Memref sig .tc .vmem S1x4096x3 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true, true]

abbrev stage1_23 : Fin 2 → Memref sig .tc .vmem S1x4096x3 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true, true]

abbrev stage1_24 : Fin 2 → Memref sig .tc .vmem S1x4096x8 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true, true]

abbrev stage1_25 : Fin 2 → Memref sig .tc .vmem S1x4096x64 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true, true]

abbrev stage1_26 : Fin 2 → Memref sig .tc .vmem S1x4096x8 .i32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true, true]
-- ==== ReferenceIdeal.lean ====
abbrev S4x64x768 : Shape := ⟨3, ![4, 64, 768]⟩
abbrev S4x8192x64 : Shape := ⟨3, ![4, 8192, 64]⟩
abbrev S4x64 : Shape := ⟨2, ![4, 64]⟩
abbrev S4x8192 : Shape := ⟨2, ![4, 8192]⟩
abbrev S4x64x3 : Shape := ⟨3, ![4, 64, 3]⟩
abbrev S4x64x3x3 : Shape := ⟨4, ![4, 64, 3, 3]⟩
abbrev S18x768 : Shape := ⟨2, ![18, 768]⟩
abbrev S768 : Shape := ⟨1, ![768]⟩
abbrev S768x768 : Shape := ⟨2, ![768, 768]⟩
abbrev S768x256 : Shape := ⟨2, ![768, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S4x8192x1 : Shape := ⟨3, ![4, 8192, 1]⟩
abbrev S4x1x64 : Shape := ⟨3, ![4, 1, 64]⟩
abbrev S_ : Shape := ⟨0, ![]⟩
abbrev S1x1x64 : Shape := ⟨3, ![1, 1, 64]⟩
abbrev S9 : Shape := ⟨1, ![9]⟩
abbrev S1x1x9 : Shape := ⟨3, ![1, 1, 9]⟩
abbrev S4x8192x9 : Shape := ⟨3, ![4, 8192, 9]⟩
abbrev S4x8192x18 : Shape := ⟨3, ![4, 8192, 18]⟩
abbrev S4x8192x768 : Shape := ⟨3, ![4, 8192, 768]⟩
abbrev S1x1x768 : Shape := ⟨3, ![1, 1, 768]⟩
abbrev S4x8192x256 : Shape := ⟨3, ![4, 8192, 256]⟩
abbrev S1x1x256 : Shape := ⟨3, ![1, 1, 256]⟩
abbrev S4x8192x3 : Shape := ⟨3, ![4, 8192, 3]⟩
abbrev S1x1x3 : Shape := ⟨3, ![1, 1, 3]⟩
abbrev S4 : Shape := ⟨1, ![4]⟩
abbrev S4x1 : Shape := ⟨2, ![4, 1]⟩
abbrev S4x8192x2 : Shape := ⟨3, ![4, 8192, 2]⟩
abbrev S4x8192x3x3 : Shape := ⟨4, ![4, 8192, 3, 3]⟩

abbrev nBuf : Space → Nat
  | .hbm => 291
  | .vmem => 0
  | .smem => 0
  | _ => 0

abbrev hbmTy0_0 (i : Nat) : BufTy := match i % 128 with
  | 0 => ⟨S4x64x768, .f32⟩
  | 1 => ⟨S4x8192x64, .f32⟩
  | 2 => ⟨S4x64, .f32⟩
  | 3 => ⟨S4x8192, .f32⟩
  | 4 => ⟨S4x64x3, .f32⟩
  | 5 => ⟨S4x64x3x3, .f32⟩
  | 6 => ⟨S4x64x3, .f32⟩
  | 7 => ⟨S18x768, .f32⟩
  | 8 => ⟨S768, .f32⟩
  | 9 => ⟨S768, .f32⟩
  | 10 => ⟨S768, .f32⟩
  | 11 => ⟨S768x768, .f32⟩
  | 12 => ⟨S768, .f32⟩
  | 13 => ⟨S768x768, .f32⟩
  | 14 => ⟨S768, .f32⟩
  | 15 => ⟨S768, .f32⟩
  | 16 => ⟨S768, .f32⟩
  | 17 => ⟨S768x256, .f32⟩
  | 18 => ⟨S256, .f32⟩
  | 19 => ⟨S256x256, .f32⟩
  | 20 => ⟨S256, .f32⟩
  | 21 => ⟨S256x3, .f32⟩
  | 22 => ⟨S3, .f32⟩
  | 23 => ⟨S4x8192x1, .f32⟩
  | 24 => ⟨S4x1x64, .f32⟩
  | 25 => ⟨S4x8192x64, .f32⟩
  | 26 => ⟨S4x8192x64, .f32⟩
  | 27 => ⟨S4x8192x64, .f32⟩
  | 28 => ⟨S4x8192x64, .f32⟩
  | 29 => ⟨S_, .f32⟩
  | 30 => ⟨S4x8192, .f32⟩
  | 31 => ⟨S4x8192x1, .f32⟩
  | 32 => ⟨S_, .f32⟩
  | 33 => ⟨S_, .f32⟩
  | 34 => ⟨S4x8192x1, .f32⟩
  | 35 => ⟨S4x8192x1, .f32⟩
  | 36 => ⟨S4x8192x64, .f32⟩
  | 37 => ⟨S4x8192x64, .f32⟩
  | 38 => ⟨S4x8192x64, .f32⟩
  | 39 => ⟨S4x8192x64, .f32⟩
  | 40 => ⟨S4x8192x64, .i32⟩
  | 41 => ⟨S_, .f32⟩
  | 42 => ⟨S_, .i32⟩
  | 43 => ⟨S4x8192, .f32⟩
  | 44 => ⟨S4x8192, .i32⟩
  | 45 => ⟨S4x8192x1, .i32⟩
  | 46 => ⟨S1x1x64, .i32⟩
  | 47 => ⟨S4x8192x64, .i32⟩
  | 48 => ⟨S4x8192x64, .i32⟩
  | 49 => ⟨S4x8192x64, .i1⟩
  | 50 => ⟨S4x8192x64, .f32⟩
  | 51 => ⟨S4x8192x64, .f32⟩
  | 52 => ⟨S4x8192x64, .f32⟩
  | 53 => ⟨S4x8192x64, .f32⟩
  | 54 => ⟨S4x8192x64, .f32⟩
  | 55 => ⟨S4x8192x64, .f32⟩
  | 56 => ⟨S4x8192x64, .f32⟩
  | 57 => ⟨S_, .f32⟩
  | 58 => ⟨S_, .f32⟩
  | 59 => ⟨S4x8192x64, .f32⟩
  | 60 => ⟨S_, .f32⟩
  | 61 => ⟨S4x64, .f32⟩
  | 62 => ⟨S4x1x64, .f32⟩
  | 63 => ⟨S_, .f32⟩
  | 64 => ⟨S_, .f32⟩
  | 65 => ⟨S4x1x64, .f32⟩
  | 66 => ⟨S4x1x64, .f32⟩
  | 67 => ⟨S4x8192x64, .f32⟩
  | 68 => ⟨S4x8192x64, .f32⟩
  | 69 => ⟨S4x8192x64, .f32⟩
  | 70 => ⟨S_, .f32⟩
  | 71 => ⟨S4x8192, .f32⟩
  | 72 => ⟨S4x8192, .f32⟩
  | 73 => ⟨S9, .f32⟩
  | 74 => ⟨S_, .f32⟩
  | 75 => ⟨S9, .f32⟩
  | 76 => ⟨S9, .f32⟩
  | 77 => ⟨S_, .f32⟩
  | 78 => ⟨S9, .f32⟩
  | 79 => ⟨S9, .f32⟩
  | 80 => ⟨S4x8192x1, .f32⟩
  | 81 => ⟨S1x1x9, .f32⟩
  | 82 => ⟨S4x8192x9, .f32⟩
  | 83 => ⟨S4x8192x9, .f32⟩
  | 84 => ⟨S4x8192x9, .f32⟩
  | 85 => ⟨S4x8192x9, .f32⟩
  | 86 => ⟨S4x8192x9, .f32⟩
  | 87 => ⟨S4x8192x18, .f32⟩
  | 88 => ⟨S4x8192x768, .f32⟩
  | 89 => ⟨S1x1x768, .f32⟩
  | 90 => ⟨S4x8192x768, .f32⟩
  | 91 => ⟨S4x8192x768, .f32⟩
  | 92 => ⟨S4x8192x768, .f32⟩
  | 93 => ⟨S4x8192x768, .f32⟩
  | 94 => ⟨S4x8192x768, .f32⟩
  | 95 => ⟨S_, .f32⟩
  | 96 => ⟨S4x8192x768, .f32⟩
  | 97 => ⟨S4x8192x768, .f32⟩
  | 98 => ⟨S4x8192x768, .f32⟩
  | 99 => ⟨S4x8192x768, .f32⟩
  | 100 => ⟨S4x8192x768, .f32⟩
  | 101 => ⟨S_, .f32⟩
  | 102 => ⟨S4x8192, .f32⟩
  | 103 => ⟨S4x8192x1, .f32⟩
  | 104 => ⟨S_, .f32⟩
  | 105 => ⟨S4x8192x1, .f32⟩
  | 106 => ⟨S4x8192x1, .f32⟩
  | 107 => ⟨S_, .i32⟩
  | 108 => ⟨S_, .f32⟩
  | 109 => ⟨S4x8192, .f32⟩
  | 110 => ⟨S4x8192x1, .f32⟩
  | 111 => ⟨S_, .f32⟩
  | 112 => ⟨S4x8192x1, .f32⟩
  | 113 => ⟨S4x8192x1, .f32⟩
  | 114 => ⟨S4x8192x768, .f32⟩
  | 115 => ⟨S4x8192x768, .f32⟩
  | 116 => ⟨S4x8192x768, .f32⟩
  | 117 => ⟨S_, .f32⟩
  | 118 => ⟨S_, .f32⟩
  | 119 => ⟨S_, .f32⟩
  | 120 => ⟨S_, .f32⟩
  | 121 => ⟨S4x8192, .f32⟩
  | 122 => ⟨S4x8192x1, .f32⟩
  | 123 => ⟨S4x8192x1, .f32⟩
  | 124 => ⟨S4x8192x1, .f32⟩
  | 125 => ⟨S_, .f32⟩
  | 126 => ⟨S_, .i1⟩
  | 127 => ⟨S_, .f32⟩
  | _ => ⟨S4x64x768, .f32⟩

abbrev hbmTy0_1 (i : Nat) : BufTy := match i % 128 with
  | 0 => ⟨S_, .f32⟩
  | 1 => ⟨S4x8192x1, .f32⟩
  | 2 => ⟨S4x8192x1, .f32⟩
  | 3 => ⟨S4x8192x768, .f32⟩
  | 4 => ⟨S4x8192x768, .f32⟩
  | 5 => ⟨S_, .f32⟩
  | 6 => ⟨S4x8192x1, .f32⟩
  | 7 => ⟨S4x8192x1, .f32⟩
  | 8 => ⟨S4x8192x1, .f32⟩
  | 9 => ⟨S4x8192x768, .f32⟩
  | 10 => ⟨S4x8192x768, .f32⟩
  | 11 => ⟨S1x1x768, .f32⟩
  | 12 => ⟨S4x8192x768, .f32⟩
  | 13 => ⟨S4x8192x768, .f32⟩
  | 14 => ⟨S1x1x768, .f32⟩
  | 15 => ⟨S4x8192x768, .f32⟩
  | 16 => ⟨S4x8192x768, .f32⟩
  | 17 => ⟨S4x8192x768, .f32⟩
  | 18 => ⟨S1x1x768, .f32⟩
  | 19 => ⟨S4x8192x768, .f32⟩
  | 20 => ⟨S4x8192x768, .f32⟩
  | 21 => ⟨S4x8192x768, .f32⟩
  | 22 => ⟨S4x8192x768, .f32⟩
  | 23 => ⟨S_, .f32⟩
  | 24 => ⟨S4x8192x768, .f32⟩
  | 25 => ⟨S4x8192x768, .f32⟩
  | 26 => ⟨S_, .f32⟩
  | 27 => ⟨S4x8192x768, .f32⟩
  | 28 => ⟨S4x8192x768, .f32⟩
  | 29 => ⟨S4x8192x768, .f32⟩
  | 30 => ⟨S4x8192x768, .f32⟩
  | 31 => ⟨S1x1x768, .f32⟩
  | 32 => ⟨S4x8192x768, .f32⟩
  | 33 => ⟨S4x8192x768, .f32⟩
  | 34 => ⟨S4x8192x768, .f32⟩
  | 35 => ⟨S4x8192x768, .f32⟩
  | 36 => ⟨S_, .f32⟩
  | 37 => ⟨S4x8192, .f32⟩
  | 38 => ⟨S4x8192x1, .f32⟩
  | 39 => ⟨S_, .f32⟩
  | 40 => ⟨S4x8192x1, .f32⟩
  | 41 => ⟨S4x8192x1, .f32⟩
  | 42 => ⟨S_, .i32⟩
  | 43 => ⟨S_, .f32⟩
  | 44 => ⟨S4x8192, .f32⟩
  | 45 => ⟨S4x8192x1, .f32⟩
  | 46 => ⟨S_, .f32⟩
  | 47 => ⟨S4x8192x1, .f32⟩
  | 48 => ⟨S4x8192x1, .f32⟩
  | 49 => ⟨S4x8192x768, .f32⟩
  | 50 => ⟨S4x8192x768, .f32⟩
  | 51 => ⟨S4x8192x768, .f32⟩
  | 52 => ⟨S_, .f32⟩
  | 53 => ⟨S_, .f32⟩
  | 54 => ⟨S_, .f32⟩
  | 55 => ⟨S_, .f32⟩
  | 56 => ⟨S4x8192, .f32⟩
  | 57 => ⟨S4x8192x1, .f32⟩
  | 58 => ⟨S4x8192x1, .f32⟩
  | 59 => ⟨S4x8192x1, .f32⟩
  | 60 => ⟨S_, .f32⟩
  | 61 => ⟨S_, .i1⟩
  | 62 => ⟨S_, .f32⟩
  | 63 => ⟨S_, .f32⟩
  | 64 => ⟨S4x8192x1, .f32⟩
  | 65 => ⟨S4x8192x1, .f32⟩
  | 66 => ⟨S4x8192x768, .f32⟩
  | 67 => ⟨S4x8192x768, .f32⟩
  | 68 => ⟨S_, .f32⟩
  | 69 => ⟨S4x8192x1, .f32⟩
  | 70 => ⟨S4x8192x1, .f32⟩
  | 71 => ⟨S4x8192x1, .f32⟩
  | 72 => ⟨S4x8192x768, .f32⟩
  | 73 => ⟨S4x8192x768, .f32⟩
  | 74 => ⟨S1x1x768, .f32⟩
  | 75 => ⟨S4x8192x768, .f32⟩
  | 76 => ⟨S4x8192x768, .f32⟩
  | 77 => ⟨S1x1x768, .f32⟩
  | 78 => ⟨S4x8192x768, .f32⟩
  | 79 => ⟨S4x8192x768, .f32⟩
  | 80 => ⟨S4x8192x256, .f32⟩
  | 81 => ⟨S1x1x256, .f32⟩
  | 82 => ⟨S4x8192x256, .f32⟩
  | 83 => ⟨S4x8192x256, .f32⟩
  | 84 => ⟨S4x8192x256, .f32⟩
  | 85 => ⟨S4x8192x256, .f32⟩
  | 86 => ⟨S_, .f32⟩
  | 87 => ⟨S4x8192x256, .f32⟩
  | 88 => ⟨S4x8192x256, .f32⟩
  | 89 => ⟨S_, .f32⟩
  | 90 => ⟨S4x8192x256, .f32⟩
  | 91 => ⟨S4x8192x256, .f32⟩
  | 92 => ⟨S4x8192x256, .f32⟩
  | 93 => ⟨S4x8192x256, .f32⟩
  | 94 => ⟨S1x1x256, .f32⟩
  | 95 => ⟨S4x8192x256, .f32⟩
  | 96 => ⟨S4x8192x256, .f32⟩
  | 97 => ⟨S4x8192x256, .f32⟩
  | 98 => ⟨S4x8192x256, .f32⟩
  | 99 => ⟨S_, .f32⟩
  | 100 => ⟨S4x8192x256, .f32⟩
  | 101 => ⟨S4x8192x256, .f32⟩
  | 102 => ⟨S_, .f32⟩
  | 103 => ⟨S4x8192x256, .f32⟩
  | 104 => ⟨S4x8192x256, .f32⟩
  | 105 => ⟨S4x8192x256, .f32⟩
  | 106 => ⟨S4x8192x3, .f32⟩
  | 107 => ⟨S1x1x3, .f32⟩
  | 108 => ⟨S4x8192x3, .f32⟩
  | 109 => ⟨S4x8192x3, .f32⟩
  | 110 => ⟨S4x8192x3, .f32⟩
  | 111 => ⟨S4x8192x3, .f32⟩
  | 112 => ⟨S4x8192x3, .f32⟩
  | 113 => ⟨S_, .f32⟩
  | 114 => ⟨S4x8192x3, .f32⟩
  | 115 => ⟨S4x8192x3, .f32⟩
  | 116 => ⟨S_, .f32⟩
  | 117 => ⟨S_, .f32⟩
  | 118 => ⟨S4x64x3, .f32⟩
  | 119 => ⟨S4x64x3, .f32⟩
  | 120 => ⟨S_, .i32⟩
  | 121 => ⟨S_, .i32⟩
  | 122 => ⟨S_, .i32⟩
  | 123 => ⟨S4x8192, .i32⟩
  | 124 => ⟨S4x8192, .i32⟩
  | 125 => ⟨S_, .i32⟩
  | 126 => ⟨S4x8192, .i32⟩
  | 127 => ⟨S4x8192, .i32⟩
  | _ => ⟨S4x64x768, .f32⟩

abbrev hbmTy0_2 (i : Nat) : BufTy := match i % 128 with
  | 0 => ⟨S4, .i32⟩
  | 1 => ⟨S4x1, .i32⟩
  | 2 => ⟨S_, .i32⟩
  | 3 => ⟨S4x1, .i32⟩
  | 4 => ⟨S4x1, .i1⟩
  | 5 => ⟨S_, .i32⟩
  | 6 => ⟨S4x1, .i32⟩
  | 7 => ⟨S4x1, .i32⟩
  | 8 => ⟨S4x1, .i32⟩
  | 9 => ⟨S_, .i32⟩
  | 10 => ⟨S4x8192, .i32⟩
  | 11 => ⟨S4x8192, .i1⟩
  | 12 => ⟨S_, .i32⟩
  | 13 => ⟨S4x8192, .i32⟩
  | 14 => ⟨S4x8192, .i32⟩
  | 15 => ⟨S4x8192, .i32⟩
  | 16 => ⟨S4x8192, .i32⟩
  | 17 => ⟨S4x8192x1, .i32⟩
  | 18 => ⟨S4x8192x1, .i32⟩
  | 19 => ⟨S4x8192x2, .i32⟩
  | 20 => ⟨S4x8192x3x3, .f32⟩
  | 21 => ⟨S4x8192x3, .f32⟩
  | 22 => ⟨S4x8192x3, .f32⟩
  | 23 => ⟨S_, .f32⟩
  | 24 => ⟨S_, .f32⟩
  | 25 => ⟨S4x8192x3, .f32⟩
  | 26 => ⟨S4x8192x3, .f32⟩
  | 27 => ⟨S4x8192x3, .f32⟩
  | 28 => ⟨S4x8192x3, .f32⟩
  | 29 => ⟨S4x8192x3, .f32⟩
  | 30 => ⟨S4x8192x3, .f32⟩
  | 31 => ⟨S4x8192x3, .f32⟩
  | 32 => ⟨S_, .f32⟩
  | 33 => ⟨S4x8192x3, .f32⟩
  | 34 => ⟨S4x8192x3, .f32⟩
  | _ => ⟨S4x64x768, .f32⟩

abbrev hbmTy (i : Nat) : BufTy := match i / 128 with
  | 0 => hbmTy0_0 i
  | 1 => hbmTy0_1 i
  | 2 => hbmTy0_2 i
  | _ => ⟨S4x64x768, .f32⟩

abbrev bufTy : (tb : Table) → Fin (tcTables nBuf tb) → BufTy
  | .hbm, ⟨i, _⟩ => hbmTy i
  | _, _ => ⟨S4x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v13 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_call3_call0_cst : Ref sig .tc := ⟨.hbm, 57, rfl⟩
abbrev main_call3_call0_v0 : Ref sig .tc := ⟨.hbm, 58, rfl⟩
abbrev main_v21 : Ref sig .tc := ⟨.hbm, 59, rfl⟩
abbrev main_cst_1 : Ref sig .tc := ⟨.hbm, 60, rfl⟩
abbrev main_v22 : Ref sig .tc := ⟨.hbm, 61, rfl⟩
abbrev main_v23 : Ref sig .tc := ⟨.hbm, 62, rfl⟩
abbrev main_cst_2 : Ref sig .tc := ⟨.hbm, 63, rfl⟩
abbrev main_call4_v0 : Ref sig .tc := ⟨.hbm, 64, rfl⟩
abbrev main_call4_v1 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_4 : Ref sig .tc := ⟨.hbm, 74, rfl⟩
abbrev main_v31 : Ref sig .tc := ⟨.hbm, 75, rfl⟩
abbrev main_v32 : Ref sig .tc := ⟨.hbm, 76, rfl⟩
abbrev main_cst_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_6 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_7 : Ref sig .tc := ⟨.hbm, 101, rfl⟩
abbrev main_v55 : Ref sig .tc := ⟨.hbm, 102, rfl⟩
abbrev main_v56 : Ref sig .tc := ⟨.hbm, 103, rfl⟩
abbrev main_cst_8 : Ref sig .tc := ⟨.hbm, 104, rfl⟩
abbrev main_v57 : Ref sig .tc := ⟨.hbm, 105, rfl⟩
abbrev main_v58 : Ref sig .tc := ⟨.hbm, 106, rfl⟩
abbrev main_c : Ref sig .tc := ⟨.hbm, 107, rfl⟩
abbrev main_call5_cst : Ref sig .tc := ⟨.hbm, 108, rfl⟩
abbrev main_call5_v0 : Ref sig .tc := ⟨.hbm, 109, rfl⟩
abbrev main_call5_v1 : Ref sig .tc := ⟨.hbm, 110, rfl⟩
abbrev main_call5_cst_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_v6 : Ref sig .tc := ⟨.hbm, 116, rfl⟩
abbrev main_call5_v7 : Ref sig .tc := ⟨.hbm, 117, rfl⟩
abbrev main_call5_cst_1 : Ref sig .tc := ⟨.hbm, 118, rfl⟩
abbrev main_call5_v8 : Ref sig .tc := ⟨.hbm, 119, rfl⟩
abbrev main_call5_cst_2 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_v12 : Ref sig .tc := ⟨.hbm, 124, rfl⟩
abbrev main_call5_cst_3 : Ref sig .tc := ⟨.hbm, 125, rfl⟩
abbrev main_call5_v13 : Ref sig .tc := ⟨.hbm, 126, rfl⟩
abbrev main_call5_cst_4 : Ref sig .tc := ⟨.hbm, 127, rfl⟩
abbrev main_call5_call0_v0 : Ref sig .tc := ⟨.hbm, 128, rfl⟩
abbrev main_call5_call0_v1 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_9 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_cst_10 : Ref sig .tc := ⟨.hbm, 151, rfl⟩
abbrev main_v79 : Ref sig .tc := ⟨.hbm, 152, rfl⟩
abbrev main_v80 : Ref sig .tc := ⟨.hbm, 153, rfl⟩
abbrev main_cst_11 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_12 : Ref sig .tc := ⟨.hbm, 164, rfl⟩
abbrev main_v90 : Ref sig .tc := ⟨.hbm, 165, rfl⟩
abbrev main_v91 : Ref sig .tc := ⟨.hbm, 166, rfl⟩
abbrev main_cst_13 : Ref sig .tc := ⟨.hbm, 167, rfl⟩
abbrev main_v92 : Ref sig .tc := ⟨.hbm, 168, rfl⟩
abbrev main_v93 : Ref sig .tc := ⟨.hbm, 169, rfl⟩
abbrev main_c_14 : Ref sig .tc := ⟨.hbm, 170, rfl⟩
abbrev main_call6_cst : Ref sig .tc := ⟨.hbm, 171, rfl⟩
abbrev main_call6_v0 : Ref sig .tc := ⟨.hbm, 172, rfl⟩
abbrev main_call6_v1 : Ref sig .tc := ⟨.hbm, 173, rfl⟩
abbrev main_call6_cst_0 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_v7 : Ref sig .tc := ⟨.hbm, 180, rfl⟩
abbrev main_call6_cst_1 : Ref sig .tc := ⟨.hbm, 181, rfl⟩
abbrev main_call6_v8 : Ref sig .tc := ⟨.hbm, 182, rfl⟩
abbrev main_call6_cst_2 : Ref sig .tc := ⟨.hbm, 183, rfl⟩
abbrev main_call6_v9 : Ref sig .tc := ⟨.hbm, 184, rfl⟩
abbrev main_call6_v10 : Ref sig .tc := ⟨.hbm, 185, rfl⟩
abbrev main_call6_v11 : Ref sig .tc := ⟨.hbm, 186, rfl⟩
abbrev main_call6_v12 : Ref sig .tc := ⟨.hbm, 187, rfl⟩
abbrev main_call6_cst_3 : Ref sig .tc := ⟨.hbm, 188, rfl⟩
abbrev main_call6_v13 : Ref sig .tc := ⟨.hbm, 189, rfl⟩
abbrev main_call6_cst_4 : Ref sig .tc := ⟨.hbm, 190, rfl⟩
abbrev main_call6_call0_v0 : Ref sig .tc := ⟨.hbm, 191, rfl⟩
abbrev main_call6_call0_v1 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_cst_15 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_cst_16 : Ref sig .tc := ⟨.hbm, 214, rfl⟩
abbrev main_v114 : Ref sig .tc := ⟨.hbm, 215, rfl⟩
abbrev main_v115 : Ref sig .tc := ⟨.hbm, 216, rfl⟩
abbrev main_cst_17 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_cst_18 : Ref sig .tc := ⟨.hbm, 227, rfl⟩
abbrev main_v125 : Ref sig .tc := ⟨.hbm, 228, rfl⟩
abbrev main_v126 : Ref sig .tc := ⟨.hbm, 229, rfl⟩
abbrev main_cst_19 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_cst_20 : Ref sig .tc := ⟨.hbm, 241, rfl⟩
abbrev main_v137 : Ref sig .tc := ⟨.hbm, 242, rfl⟩
abbrev main_v138 : Ref sig .tc := ⟨.hbm, 243, rfl⟩
abbrev main_cst_21 : Ref sig .tc := ⟨.hbm, 244, rfl⟩
abbrev main_call7_v0 : Ref sig .tc := ⟨.hbm, 245, rfl⟩
abbrev main_call7_v1 : Ref sig .tc := ⟨.hbm, 246, rfl⟩
abbrev main_v139 : Ref sig .tc := ⟨.hbm, 247, rfl⟩
abbrev main_c_22 : Ref sig .tc := ⟨.hbm, 248, rfl⟩
abbrev main_c_23 : Ref sig .tc := ⟨.hbm, 249, rfl⟩
abbrev main_call8_v0 : Ref sig .tc := ⟨.hbm, 250, rfl⟩
abbrev main_call8_v1 : Ref sig .tc := ⟨.hbm, 251, rfl⟩
abbrev main_call8_v2 : Ref sig .tc := ⟨.hbm, 252, rfl⟩
abbrev main_call8_v3 : Ref sig .tc := ⟨.hbm, 253, rfl⟩
abbrev main_call8_v4 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_c_24 : Ref sig .tc := ⟨.hbm, 258, rfl⟩
abbrev main_v143 : Ref sig .tc := ⟨.hbm, 259, rfl⟩
abbrev main_v144 : Ref sig .tc := ⟨.hbm, 260, rfl⟩
abbrev main_c_25 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_c_26 : Ref sig .tc := ⟨.hbm, 265, rfl⟩
abbrev main_v148 : Ref sig .tc := ⟨.hbm, 266, rfl⟩
abbrev main_v149 : Ref sig .tc := ⟨.hbm, 267, rfl⟩
abbrev main_c_27 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_cst_28 : Ref sig .tc := ⟨.hbm, 279, rfl⟩
abbrev main_call9_v0 : Ref sig .tc := ⟨.hbm, 280, rfl⟩
abbrev main_call9_v1 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_29 : Ref sig .tc := ⟨.hbm, 288, rfl⟩
abbrev main_v166 : Ref sig .tc := ⟨.hbm, 289, rfl⟩
abbrev main_v167 : Ref sig .tc := ⟨.hbm, 290, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal
public import Idealize.ShloMosaic.Lib.Tactic
public import Idealize.ShloMosaic.Lib.Pipeline.RegionsLoop

/-! # One program under two names

The idealized program is the kernel's own text, no operation rewritten: what one does at the bit-exact
instance the other does too. -/

@[expose] public section

noncomputable section

namespace Cert.Proof

open Idealize.ShloMosaic Idealize.SL.Sem

/-- The kernel leaves its arguments as they were and every semaphore at zero, at the bit-exact instance. -/
def keepsKernel [Cert.Kernel.Facts] : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)) ∧ r.2.sem = fun _ => 0)

/-- The same of its idealization's text, at the bit-exact instance. -/
def keepsKernelIdeal [Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)) ∧ r.2.sem = fun _ => 0)

/-- The two statements are one. -/
theorem same (h₁ : Cert.Kernel.Facts) (h₂ : Cert.KernelIdeal.Facts) : @keepsKernel h₁ = @keepsKernelIdeal h₂ := by chain_rfl

end Cert.Proof

end
-- ==== Proof.Region0.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! # The first call: column totals of each batch

Its body adds the column sums of a block of normalised rows to the staging buffer of the totals,
which it first sets to zero at the first point of a batch; the buffer is written back after the
second. -/

@[expose] public section

set_option maxRecDepth 16384

noncomputable section

namespace Cert.KernelIdeal.Totals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- The body's branch condition: the second grid coordinate is zero. -/
abbrev first (i : grid0.Coords) : Prop := (Scalar.cmpi .ne (Scalar.extui (Scalar.cmpi .eq (BitVec.ofNat 32 (i 1).val) 0#32)) 0#32) = 1#1

/-- It holds at the even points. -/
theorem first_iff : ∀ t : Fin cfg0.N, first (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [first, e0, e1]
    word_cmp
   : ∀ t : Fin grid0.N, first (grid0.coords t) ↔ t.val % 2 = 0)

set_option maxHeartbeats 1000000 in
/-- At a first point the totals' buffer ends at the block's column sums over zero. -/
theorem body_first (c : Dev nD) (i : grid0.Coords)
    (arg2 : Memref sig .tc .vmem S1x4096x64 .f32) (harg2 : arg2.IsWhole) (arg3 : Memref sig .tc .vmem S1x8x64 .f32) (harg3 : arg3.IsWhole)
    (hc0 : first i) (x : Vec F S1x4096x64 .f32) (E : Set ℕ) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (k0_pay2 x k0_pay1)) -∗ K ⟨⟩))
      ⊢ wp frame (wpE (defs₀ (F := F)) Variants.none c none) E (cc0__totals_body i arg2 harg2 arg3 harg3) K := by
  simp only [cc0__totals_body_eq_skeleton]; unfold cc0__totals_body_skel
  unfold owns
  iintro ⟨⟨%f0, %hf0, H0⟩, ⟨%d1, %f1, -, H1⟩, Hk⟩
  obtain rfl := harg2.eq_unread hf0
  sl_exec (disch := first | sl_exact hc0)
  sl_step
  iapply Hk
  isplitl [H0]
  · iexists _; isplitr; · ipureintro; exact harg2.read_unread _
    iexact H0
  iexists _; isplitr; swap; · iexact H1
  ipureintro
  refine (View.read_writes_full _ _ _ _ _).trans ?_
  sl_unfold_run_names
  exact congrArg₂ k0_pay2 ((View.readAt_full _ _ _).trans (harg2.read_unread _)) (View.readCov_full _ _ _ _ _)

set_option maxHeartbeats 1000000 in
/-- At a later point the block's column sums are added to the buffer. -/
theorem body_next (c : Dev nD) (i : grid0.Coords)
    (arg2 : Memref sig .tc .vmem S1x4096x64 .f32) (harg2 : arg2.IsWhole) (arg3 : Memref sig .tc .vmem S1x8x64 .f32) (harg3 : arg3.IsWhole)
    (hc0 : ¬first i) (x : Vec F S1x4096x64 .f32) (y : Vec F S1x8x64 .f32) (E : Set ℕ) (K : PUnit → sProp 𝕄) :
    iprop(owns (c : Thread nD τ) arg2 fullShare x ∗ owns (c : Thread nD τ) arg3 fullShare y
        ∗ (iprop(owns (c : Thread nD τ) arg2 fullShare x ∗ owns (c : Thread nD τ) arg3 fullShare (k0_pay2 x y)) -∗ K ⟨⟩))
      ⊢ wp frame (wpE (defs₀ (F := F)) Variants.none c none) E (cc0__totals_body i arg2 harg2 arg3 harg3) K := by
  simp only [cc0__totals_body_eq_skeleton]; unfold cc0__totals_body_skel
  unfold owns
  iintro ⟨⟨%f0, %hf0, H0⟩, ⟨%f1, %hf1, H1⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  iexists _; isplitr; swap; · iexact H1
  ipureintro
  refine (View.read_writes_full _ _ _ _ _).trans ?_
  sl_unfold_run_names
  exact congrArg₂ k0_pay2 ((View.readAt_full _ _ _).trans (harg2.read_unread _)) ((View.readAt_full _ _ _).trans (harg3.read_unread _))

/-! ## The region's data -/

variable (V : (c : Dev nD) → (b : Ref sig .tc) → Buf (Elt F) ((c : Thread nD τ).loc b))

/-- A window's block at a point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point before. -/
def prev (t : Fin cfg0.N) : Fin cfg0.N := ⟨t.val - 1, Nat.lt_of_le_of_lt (Nat.sub_le _ _) t.isLt⟩

/-- What the totals' buffer holds after a point: the sums of the batch's blocks so far. -/
def acc (c : Dev nD) (t : Fin cfg0.N) : Vec F S1x8x64 .f32 :=
  if t.val % 2 = 0 then k0_pay2 (blk V c 0 t) k0_pay1 else k0_pay2 (blk V c 0 t) (k0_pay2 (blk V c 0 (prev t)) k0_pay1)

/-- The region's proof data: arrays as found, the input's block left in place, the totals at `acc`. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => acc V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after_in (c : Dev nD) (t : Fin cfg0.N) : (dat0 V c).after 0 t = blk V c 0 t := by dsimp only [dat0]
theorem after_out (c : Dev nD) (t : Fin cfg0.N) : (dat0 V c).after 1 t = acc V c t := by dsimp only [dat0]

/-- The input's buffer holds its block at every point. -/
theorem before_in (c : Dev nD) (t : Fin cfg0.N) (d) : (dat0 V c).before 0 t d = blk V c 0 t :=
  ((dat0 V c).before_in_eq_fetched 0 rfl (fun _ => rfl) (fun _ _ _ => rfl)
    (fun t => by rw [after_in]; unfold Dat.blockOf blk; rw [A_eq0]; try rfl) t d).trans
    (by unfold Dat.fetched Dat.blockOf blk; rw [A_eq0]; try rfl)

/-- At an odd point the totals' buffer holds what the point before left. -/
theorem before_out (c : Dev nD) (t : Fin cfg0.N) (h0 : ¬t.val % 2 = 0) (d) :
    (dat0 V c).before 1 t d = k0_pay2 (blk V c 0 (prev t)) k0_pay1 := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  exact (after_out V c (prev t)).trans (if_pos (by show (t.val - 1) % 2 = 0; omega))

/-- The current staging memrefs. -/
abbrev m0 (t : Fin cfg0.N) : Memref sig .tc .vmem S1x4096x64 .f32 := win0_0.stage (cfg0.slots t 0)
abbrev m1 (t : Fin cfg0.N) : Memref sig .tc .vmem S1x8x64 .f32 := win0_1.stage (cfg0.slots t 1)

set_option maxHeartbeats 800000 in
/-- The body at any point, from the buffers as the pipeline hands them to what the proof data say. -/
theorem sound (c : Dev nD) (t : Fin cfg0.N) :
    iprop((dat0 V c).Φ t.castSucc ∗ (dat0 V c).owesAt () t.castSucc
        ∗ (∃ d, owns (c : Thread nD τ) (m0 t) fullShare ((dat0 V c).before 0 t d))
        ∗ (∃ d, owns (c : Thread nD τ) (m1 t) fullShare ((dat0 V c).before 1 t d)))
      ⊢ wp frame (wpE (defs₀ (F := F)) Variants.none c none) Set.univ (bodyAt0 t) (fun _ =>
        iprop((dat0 V c).Φ t.succ ∗ (dat0 V c).owesAt () t.succ
        ∗ owns (c : Thread nD τ) (m0 t) fullShare ((dat0 V c).after 0 t)
        ∗ owns (c : Thread nD τ) (m1 t) fullShare ((dat0 V c).after 1 t))) := by
  unfold bodyAt0
  simp only [before_in]
  rw [show (dat0 V c).Φ t.succ = (dat0 V c).Φ t.castSucc from rfl,
    show (dat0 V c).owesAt () t.succ = (dat0 V c).owesAt () t.castSucc from rfl, after_in, after_out]
  unfold acc
  by_cases h0 : t.val % 2 = 0
  · rw [if_pos h0]
    iintro ⟨HΦ, Ho, ⟨%d0, H0⟩, ⟨%d1, H1⟩⟩
    iapply (body_first c (grid0.coords t) _ _ _ _ ((first_iff t).mpr h0) (blk V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [if_neg h0]
    simp only [before_out V c t h0]
    iintro ⟨HΦ, Ho, ⟨%d0, H0⟩, ⟨%d1, H1⟩⟩
    iapply (body_next c (grid0.coords t) _ _ _ _ (fun h => h0 ((first_iff t).mp h)) (blk V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound V c t) rfl .rfl fun _ => .rfl

end Cert.KernelIdeal.Totals

end
-- ==== Proof.Vals.lean ====
module

public import proofs.«01_k».proof.Proof.Gen.KernelIdeal.Skeleton
public import Idealize.ShloMosaic.Lib.Writes

/-! # What one grid point of the fused call computes

The fused body as a function of the blocks it loads (`Ins`) and of the row `r` of running column
sums that the previous point left in the scratch buffer: one definition per printed intermediate
value that crosses a part of the printed body, and the five blocks and the new running row. -/

@[expose] public section

noncomputable section

namespace Cert.KernelIdeal.Fused

open Idealize.ShloMosaic Idealize.SL.Sem Cert.KernelIdeal Cert.KernelIdeal.Gen

variable {F : FTy → Type} [FloatOps F]

/-- The blocks of the 22 inputs at one grid point, in the order the body takes them. -/
structure Ins (F : FTy → Type) [FloatOps F] where
  a : Vec F S1x4096x64 .f32
  tot : Vec F S1x8x64 .f32
  sp : Vec F S1x64x768 .f32
  mu : Vec F S1x64x3 .f32
  R9 : Vec F S1x64x9 .f32
  sk : Vec F S1x64x3 .f32
  Wpos : Vec F S18x768 .f32
  bpos : Vec F S1x768 .f32
  g1 : Vec F S1x768 .f32
  be1 : Vec F S1x768 .f32
  Wq1 : Vec F S768x768 .f32
  bq1 : Vec F S1x768 .f32
  Wq2 : Vec F S768x768 .f32
  bq2 : Vec F S1x768 .f32
  g2 : Vec F S1x768 .f32
  be2 : Vec F S1x768 .f32
  Wm1 : Vec F S768x256 .f32
  bm1 : Vec F S1x256 .f32
  Wm2 : Vec F S256x256 .f32
  bm2 : Vec F S1x256 .f32
  Wm3 : Vec F S256x3 .f32
  bm3 : Vec F S1x3 .f32

/-! ## The running sums, chunk of 256 rows by chunk

`c40`, `c51`, … , `c183` and `c192`/`c194` are the inclusive prefix sums of the sixteen chunks of
256 rows; `c42`, `c86`, `c141`, `c185` are running rows between them. -/

variable (a : Vec F S1x4096x64 .f32) (r : Vec F S1x64 .f32)

def w10 : FVec F S4096x64 .f32 := k1_pay6 a
def k19 : IVec S4096x1 32 := k1_pay7 a
def h23 : FVec F S4096x64 .f32 := k1_pay8 a
def u25 : FVec F S4096x64 .f32 := k1_pay9 a
def tri : FVec F S256x256 .f32 := k1_pay10 (F := F)
def c40 : FVec F S256x64 .f32 := k1_pay12 a r
def c42 : FVec F S1x64 .f32 := k1_pay13 a r
def c51 : FVec F S256x64 .f32 := k1_pay15 (w10 a) tri (c42 a r)
def c62 : FVec F S256x64 .f32 := k1_pay18 (w10 a) tri (c42 a r)
def c73 : FVec F S256x64 .f32 := k1_pay21 (w10 a) tri (c42 a r)
def c84 : FVec F S256x64 .f32 := k1_pay24 (w10 a) tri (c42 a r)
def c86 : FVec F S1x64 .f32 := k1_pay25 (w10 a) tri (c42 a r)
def c90 : FVec F S256x64 .f32 := k1_pay28 (w10 a) tri
def c92 : FVec F S256x64 .f32 := k1_pay29 (w10 a) tri
def c95 : FVec F S256x64 .f32 := k1_pay31 (c86 a r) (c90 a) (c92 a)
def c106 : FVec F S256x64 .f32 := k1_pay34 (w10 a) tri (c86 a r) (c90 a) (c92 a)
def c117 : FVec F S256x64 .f32 := k1_pay37 (w10 a) tri (c86 a r) (c90 a) (c92 a)
def c128 : FVec F S256x64 .f32 := k1_pay40 (w10 a) tri (c86 a r) (c90 a) (c92 a)
def c139 : FVec F S256x64 .f32 := k1_pay43 (w10 a) tri (c86 a r) (c90 a) (c92 a)
def c141 : FVec F S1x64 .f32 := k1_pay44 (w10 a) tri (c86 a r) (c90 a) (c92 a)
def c142 : FVec F S256x64 .f32 := k1_pay45 (w10 a)
def c144 : FVec F S256x64 .f32 := k1_pay46 (w10 a)
def c150 : FVec F S256x64 .f32 := k1_pay48 tri (c141 a r) (c142 a) (c144 a)
def c161 : FVec F S256x64 .f32 := k1_pay51 (w10 a) tri (c141 a r) (c142 a) (c144 a)
def c172 : FVec F S256x64 .f32 := k1_pay54 (w10 a) tri (c141 a r) (c142 a) (c144 a)
def c183 : FVec F S256x64 .f32 := k1_pay57 (w10 a) tri (c141 a r) (c142 a) (c144 a)
def c185 : FVec F S1x64 .f32 := k1_pay58 (w10 a) tri (c141 a r) (c142 a) (c144 a)
def c192 : FVec F S256x64 .f32 := k1_pay59 (w10 a) tri
def c194 : FVec F S256x64 .f32 := k1_pay60 (w10 a) tri (c141 a r) (c142 a) (c144 a)
/-- The row of running column sums the point leaves for the next one. -/
def run : FVec F S1x64 .f32 := k1_pay63 (w10 a) tri (c185 a r) (c192 a)

/-! ## The positional features, from the first row `t` of the batch's column totals -/

variable (t : Vec F S1x1x64 .f32)

/-- The position of each row in the ordering its assignment induces. -/
def pos : FVec F S4096x1 .f32 := k1_pay64 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q224 : FVec F S1x4096 .f32 := k1_pay66 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q225 : FVec F S1x4096 .f32 := k1_pay67 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q228 : FVec F S1x4096 .f32 := k1_pay68 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q231 : FVec F S1x4096 .f32 := k1_pay69 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q234 : FVec F S1x4096 .f32 := k1_pay70 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q237 : FVec F S1x4096 .f32 := k1_pay71 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t
def q240 : FVec F S1x4096 .f32 := k1_pay72 (w10 a) tri (c40 a r) (c51 a r) (c62 a r) (c73 a r) (c84 a r) (c95 a r) (c106 a r) (c117 a r) (c128 a r) (c139 a r) (c150 a r) (c161 a r) (c172 a r) (c183 a r) (c185 a r) (c192 a) (c194 a r) t

/-! ## The blocks the point leaves -/

/-- The first row of the totals' block, as the body loads it. -/
def Ins.tot0 (X : Ins F) : Vec F S1x1x64 .f32 :=
  fun y => X.tot ((Rect.unit (s := S1x8x64) ![0, 0, 0] S1x1x64.size inb_S1x8x64_S1x1x64_0_0_0).emb y)

variable (X : Ins F)

/-- Parent features of each row plus its positional embedding. -/
def feat : FVec F S4096x768 .f32 :=
  k1_pay73 (u25 X.a) (q224 X.a r X.tot0) (q225 X.a r X.tot0) (q228 X.a r X.tot0) (q231 X.a r X.tot0) (q234 X.a r X.tot0)
    (q237 X.a r X.tot0) (q240 X.a r X.tot0) X.Wpos X.bpos X.sp
/-- The residual query block. -/
def query : FVec F S4096x768 .f32 := k1_pay74 (feat r X) X.g1 X.be1 X.Wq1 X.bq1 X.Wq2 X.bq2
/-- The second layer of the coordinate head. -/
def head : FVec F S4096x256 .f32 := k1_pay75 (query r X) X.g2 X.be2 X.Wm1 X.bm1 X.Wm2 X.bm2
/-- The coordinates in the parent's frame. -/
def xi : FVec F S4096x3 .f32 := k1_pay76 (head r X) X.Wm3 X.bm3
/-- The coordinates of result 1. -/
def xhatBlk : FVec F S1x4096x3 .f32 :=
  k1_pay84 (k1_pay77 (u25 X.a) X.mu) (k1_pay78 (u25 X.a) (head r X) X.Wm3 X.bm3 X.sk) (k1_pay79 (h23 X.a) X.R9)
    (iota .tc S3x9 32 [0] iota_S3x9_d0_w32) (Scalar.select (Scalar.cmpi .eq 3#32 0#32) 1#32 3#32) k1_pay80 k1_pay81 k1_pay82 k1_pay83
/-- The block of result 2. -/
def xiBlk : FVec F S1x4096x3 .f32 := k1_pay1 (xi r X)
/-- The block of result 3, eight equal columns. -/
def posBlk : FVec F S1x4096x8 .f32 := k1_pay2 (pos X.a r X.tot0)
/-- The block of result 4. -/
def useBlk : FVec F S1x4096x64 .f32 := k1_pay3 (u25 X.a)
/-- The block of result 5, eight equal columns. -/
def idxBlk : IVec S1x4096x8 32 := k1_pay4 (k19 X.a)

/-! ## The branch and the scratch buffer's first row -/

/-- The body's branch condition: the second grid coordinate is zero. -/
abbrev first (i : grid1.Coords) : Prop := (Scalar.cmpi .ne (Scalar.extui (Scalar.cmpi .eq (BitVec.ofNat 32 (i 1).val) 0#32)) 0#32) = 1#1

/-- The row of zeros the first point of a batch starts from. -/
def zrow : Vec F S1x64 .f32 := fun y => k1_pay5 (F := F) ((Rect.unit (s := S8x64) ![0, 0] S1x64.size inb_S8x64_S1x64_0_0).emb y)

/-- The first row of a scratch buffer's contents. -/
def row0 (S : Vec F S8x64 .f32) : Vec F S1x64 .f32 := fun y => S ((Rect.unit (s := S8x64) ![0, 0] S1x64.size inb_S8x64_S1x64_0_0).emb y)

/-- What a scratch buffer holds in its first row after a store into that row. -/
theorem row0_writes {sig' : RefSig} {κ : Kind} {sp : Space} (v : View sig' κ sp S8x64 .f32) (f : v.ty.Contents (Elt F))
    (w : (Rect.unit (s := S8x64) ![0, 0] S1x64.size inb_S8x64_S1x64_0_0).shape.Idx → Elt F .f32)
    (L : List (View.Piece (Elt F) S8x64 .f32)) (y) :
    row0 (v.read (Elt F) (v.writes (Elt F) f (⟨Rect.unit (s := S8x64) ![0, 0] S1x64.size inb_S8x64_S1x64_0_0, w⟩ :: L))) y = w y := by
  unfold row0
  exact View.read_writes_cons_emb (Val := Elt F) v f _ w L y

end Cert.KernelIdeal.Fused

end
-- ==== Proof.Body1First.lean ====
module

public import proofs.«01_k».proof.Proof.Vals
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! # The body of the fused call on any staging buffers -/

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- At a first point of a batch: the running row starts from zero. -/
theorem body_first (c : Dev nD) (i : grid1.Coords)
    (arg2 : Memref sig .tc .vmem S1x4096x64 .f32) (harg2 : arg2.IsWhole) (arg3 : Memref sig .tc .vmem S1x8x64 .f32) (harg3 : arg3.IsWhole) (arg4
    : Memref sig .tc .vmem S1x64x768 .f32) (harg4 : arg4.IsWhole) (arg5 : Memref sig .tc .vmem S1x64x3 .f32) (harg5 : arg5.IsWhole) (arg6 :
    Memref sig .tc .vmem S1x64x9 .f32) (harg6 : arg6.IsWhole) (arg7 : Memref sig .tc .vmem S1x64x3 .f32) (harg7 : arg7.IsWhole) (arg8 : Memref
    sig .tc .vmem S18x768 .f32) (harg8 : arg8.IsWhole) (arg9 : Memref sig .tc .vmem S1x768 .f32) (harg9 : arg9.IsWhole) (arg10 : Memref sig .tc
    .vmem S1x768 .f32) (harg10 : arg10.IsWhole) (arg11 : Memref sig .tc .vmem S1x768 .f32) (harg11 : arg11.IsWhole) (arg12 : Memref sig .tc
    .vmem S768x768 .f32) (harg12 : arg12.IsWhole) (arg13 : Memref sig .tc .vmem S1x768 .f32) (harg13 : arg13.IsWhole) (arg14 : Memref sig .tc
    .vmem S768x768 .f32) (harg14 : arg14.IsWhole) (arg15 : Memref sig .tc .vmem S1x768 .f32) (harg15 : arg15.IsWhole) (arg16 : Memref sig .tc
    .vmem S1x768 .f32) (harg16 : arg16.IsWhole) (arg17 : Memref sig .tc .vmem S1x768 .f32) (harg17 : arg17.IsWhole) (arg18 : Memref sig .tc
    .vmem S768x256 .f32) (harg18 : arg18.IsWhole) (arg19 : Memref sig .tc .vmem S1x256 .f32) (harg19 : arg19.IsWhole) (arg20 : Memref sig .tc
    .vmem S256x256 .f32) (harg20 : arg20.IsWhole) (arg21 : Memref sig .tc .vmem S1x256 .f32) (harg21 : arg21.IsWhole) (arg22 : Memref sig .tc
    .vmem S256x3 .f32) (harg22 : arg22.IsWhole) (arg23 : Memref sig .tc .vmem S1x3 .f32) (harg23 : arg23.IsWhole) (arg24 : Memref sig .tc .vmem
    S1x4096x3 .f32) (harg24 : arg24.IsWhole) (arg25 : Memref sig .tc .vmem S1x4096x3 .f32) (harg25 : arg25.IsWhole) (arg26 : Memref sig .tc
    .vmem S1x4096x8 .f32) (harg26 : arg26.IsWhole) (arg27 : Memref sig .tc .vmem S1x4096x64 .f32) (harg27 : arg27.IsWhole) (arg28 : Memref sig
    .tc .vmem S1x4096x8 .i32) (harg28 : arg28.IsWhole) (arg29 : Memref sig .tc .vmem S8x64 .f32) (harg29 : arg29.IsWhole)
    (hc0 : first i) (X : Ins F) (E : Set ℕ) (K : PUnit → sProp 𝕄) :
    iprop(owns (c : Thread nD τ) arg2 fullShare X.a ∗ owns (c : Thread nD τ) arg3 fullShare X.tot ∗ owns (c : Thread nD τ) arg4 fullShare
        X.sp ∗ owns (c : Thread nD τ) arg5 fullShare X.mu ∗ owns (c : Thread nD τ) arg6 fullShare X.R9 ∗ owns (c : Thread nD τ) arg7
        fullShare X.sk ∗ owns (c : Thread nD τ) arg8 fullShare X.Wpos ∗ owns (c : Thread nD τ) arg9 fullShare X.bpos ∗ owns (c : Thread nD
        τ) arg10 fullShare X.g1 ∗ owns (c : Thread nD τ) arg11 fullShare X.be1 ∗ owns (c : Thread nD τ) arg12 fullShare X.Wq1 ∗ owns (c :
        Thread nD τ) arg13 fullShare X.bq1 ∗ owns (c : Thread nD τ) arg14 fullShare X.Wq2 ∗ owns (c : Thread nD τ) arg15 fullShare X.bq2 ∗
        owns (c : Thread nD τ) arg16 fullShare X.g2 ∗ owns (c : Thread nD τ) arg17 fullShare X.be2 ∗ owns (c : Thread nD τ) arg18
        fullShare X.Wm1 ∗ owns (c : Thread nD τ) arg19 fullShare X.bm1 ∗ owns (c : Thread nD τ) arg20 fullShare X.Wm2 ∗ owns (c : Thread
        nD τ) arg21 fullShare X.bm2 ∗ owns (c : Thread nD τ) arg22 fullShare X.Wm3 ∗ owns (c : Thread nD τ) arg23 fullShare X.bm3
        ∗ (∃ d, owns (c : Thread nD τ) arg24 fullShare d) ∗ (∃ d, owns (c : Thread nD τ) arg25 fullShare d) ∗ (∃ d, owns (c : Thread nD τ)
        arg26 fullShare d) ∗ (∃ d, owns (c : Thread nD τ) arg27 fullShare d) ∗ (∃ d, owns (c : Thread nD τ) arg28 fullShare d)
        ∗ (∃ d, owns (c : Thread nD τ) arg29 fullShare d)
        ∗ (iprop(owns (c : Thread nD τ) arg2 fullShare X.a ∗ owns (c : Thread nD τ) arg3 fullShare X.tot ∗ owns (c : Thread nD τ) arg4 fullShare
        X.sp ∗ owns (c : Thread nD τ) arg5 fullShare X.mu ∗ owns (c : Thread nD τ) arg6 fullShare X.R9 ∗ owns (c : Thread nD τ) arg7
        fullShare X.sk ∗ owns (c : Thread nD τ) arg8 fullShare X.Wpos ∗ owns (c : Thread nD τ) arg9 fullShare X.bpos ∗ owns (c : Thread nD
        τ) arg10 fullShare X.g1 ∗ owns (c : Thread nD τ) arg11 fullShare X.be1 ∗ owns (c : Thread nD τ) arg12 fullShare X.Wq1 ∗ owns (c :
        Thread nD τ) arg13 fullShare X.bq1 ∗ owns (c : Thread nD τ) arg14 fullShare X.Wq2 ∗ owns (c : Thread nD τ) arg15 fullShare X.bq2 ∗
        owns (c : Thread nD τ) arg16 fullShare X.g2 ∗ owns (c : Thread nD τ) arg17 fullShare X.be2 ∗ owns (c : Thread nD τ) arg18
        fullShare X.Wm1 ∗ owns (c : Thread nD τ) arg19 fullShare X.bm1 ∗ owns (c : Thread nD τ) arg20 fullShare X.Wm2 ∗ owns (c : Thread
        nD τ) arg21 fullShare X.bm2 ∗ owns (c : Thread nD τ) arg22 fullShare X.Wm3 ∗ owns (c : Thread nD τ) arg23 fullShare X.bm3
        ∗ owns (c : Thread nD τ) arg24 fullShare (xhatBlk zrow X) ∗ owns (c : Thread nD τ) arg25 fullShare (xiBlk zrow X) ∗ owns (c : Thread
        nD τ) arg26 fullShare (posBlk zrow X) ∗ owns (c : Thread nD τ) arg27 fullShare (useBlk X) ∗ owns (c : Thread nD τ) arg28 fullShare
        (idxBlk X)
        ∗ (∃ T, owns (c : Thread nD τ) arg29 fullShare T ∗ ⌜row0 T = run X.a zrow⌝)) -∗ K ⟨⟩))
      ⊢ wp frame (wpE (defs₀ (F := F)) Variants.none c none) E
          (cc1__fused_body i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 arg19 harg19 arg20 harg20 arg21
            harg21 arg22 harg22 arg23 harg23 arg24 harg24 arg25 harg25 arg26 harg26 arg27 harg27 arg28 harg28 arg29 harg29) K := by
  simp only [cc1__fused_body_eq_skeleton]; unfold cc1__fused_body_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  have L0 : View.readAt (Elt F) arg2.view (Rect.unit (s := S1x4096x64) ![0, 0, 0] S1x4096x64.size inb_S1x4096x64_S1x4096x64_0_0_0).toLoadRect (harg2.unread X.a) = X.a :=
    (View.readAt_full _ _ _).trans (harg2.read_unread _)
  have L1 : View.readAt (Elt F) arg3.view (Rect.unit (s := S1x8x64) ![0, 0, 0] S1x1x64.size inb_S1x8x64_S1x1x64_0_0_0).toLoadRect (harg3.unread X.tot) = X.tot0 :=
    funext fun y => congrFun (harg3.read_unread X.tot) _
  have L2 : View.readAt (Elt F) arg4.view (Rect.unit (s := S1x64x768) ![0, 0, 0] S1x64x768.size inb_S1x64x768_S1x64x768_0_0_0).toLoadRect (harg4.unread X.sp) = X.sp :=
    (View.readAt_full _ _ _).trans (harg4.read_unread _)
  have L3 : View.readAt (Elt F) arg5.view (Rect.unit (s := S1x64x3) ![0, 0, 0] S1x64x3.size inb_S1x64x3_S1x64x3_0_0_0).toLoadRect (harg5.unread X.mu) = X.mu :=
    (View.readAt_full _ _ _).trans (harg5.read_unread _)
  have L4 : View.readAt (Elt F) arg6.view (Rect.unit (s := S1x64x9) ![0, 0, 0] S1x64x9.size inb_S1x64x9_S1x64x9_0_0_0).toLoadRect (harg6.unread X.R9) = X.R9 :=
    (View.readAt_full _ _ _).trans (harg6.read_unread _)
  have L5 : View.readAt (Elt F) arg7.view (Rect.unit (s := S1x64x3) ![0, 0, 0] S1x64x3.size inb_S1x64x3_S1x64x3_0_0_0).toLoadRect (harg7.unread X.sk) = X.sk :=
    (View.readAt_full _ _ _).trans (harg7.read_unread _)
  have L6 : View.readAt (Elt F) arg8.view (Rect.unit (s := S18x768) ![0, 0] S18x768.size inb_S18x768_S18x768_0_0).toLoadRect (harg8.unread X.Wpos) = X.Wpos :=
    (View.readAt_full _ _ _).trans (harg8.read_unread _)
  have L7 : View.readAt (Elt F) arg9.view (Rect.unit (s := S1x768) ![0, 0] S1x768.size inb_S1x768_S1x768_0_0).toLoadRect (harg9.unread X.bpos) = X.bpos :=
    (View.readAt_full _ _ _).trans (harg9.read_unread _)
  have L8 : View.readAt (Elt F) arg10.view (Rect.unit (s := S1x768) ![0, 0] S1x768.size inb_S1x768_S1x768_0_0).toLoadRect (harg10.unread X.g1) = X.g1 :=
    (View.readAt_full _ _ _).trans (harg10.read_unread _)
  have L9 : View.readAt (Elt F) arg11.view (Rect.unit (s := S1x768) ![0, 0] S1x768.size inb_S1x768_S1x768_0_0).toLoadRect (harg11.unread X.be1) = X.be1 :=
    (View.readAt_full _ _ _).trans (harg11.read_unread _)
  have L10 : View.readAt (Elt F) arg12.view (Rect.unit (s := S768x768) ![0, 0] S768x768.size inb_S768x768_S768x768_0_0).toLoadRect (harg12.unread X.Wq1) = X.Wq1 :=
    (View.readAt_full _ _ _).trans (harg12.read_unread _)
  have L11 : View.readAt (Elt F) arg13.view (Rect.unit (s := S1x768) ![0, 0] S1x768.size inb_S1x768_S1x768_0_0).toLoadRect (harg13.unread X.bq1) = X.bq1 :=
    (View.readAt_full _ _ _).trans (harg13.read_unread _)
  have L12 : View.readAt (Elt F) arg14.view (Rect.unit (s := S768x768) ![0, 0] S768x768.size inb_S768x768_S768x768_0_0).toLoadRect (harg14.unread X.Wq2) = X.Wq2 :=
    (View.readAt_full _ _ _).trans (harg14.read_unread _)
  have L13 : View.readAt (Elt F) arg15.view (Rect.unit (s := S1x768) ![0, 0] S1x768.size inb_S1x768_S1x768_0_0).toLoadRect (harg15.unread X.bq2) = X.bq2 :=
    (View.readAt_full _ _ _).trans (harg15.read_unread _)
  have L14 : View.readAt (Elt F) arg16.view (Rect.unit (s := S1x768) ![0, 0] S1x768.size inb_S1x768_S1x768_0_0).toLoadRect (harg16.unread X.g2) = X.g2 :=
    (View.readAt_full _ _ _).trans (harg16.read_unread _)
  have L15 : View.readAt (Elt F) arg17.view (Rect.unit (s := S1x768) ![0, 0] S1x768.size inb_S1x768_S1x768_0_0).toLoadRect (harg17.unread X.be2) = X.be2 :=
    (View.readAt_full _ _ _).trans (harg17.read_unread _)
  have L16 : View.readAt (Elt F) arg18.view (Rect.unit (s := S768x256) ![0, 0] S768x256.size inb_S768x256_S768x256_0_0).toLoadRect (harg18.unread X.Wm1) = X.Wm1 :=
    (View.readAt_full _ _ _).trans (harg18.read_unread _)
  have L17 : View.readAt (Elt F) arg19.view (Rect.unit (s := S1x256) ![0, 0] S1x256.size inb_S1x256_S1x256_0_0).toLoadRect (harg19.unread X.bm1) = X.bm1 :=
    (View.readAt_full _ _ _).trans (harg19.read_unread _)
  have L18 : View.readAt (Elt F) arg20.view (Rect.unit (s := S256x256) ![0, 0] S256x256.size inb_S256x256_S256x256_0_0).toLoadRect (harg20.unread X.Wm2) = X.Wm2 :=
    (View.readAt_full _ _ _).trans (harg20.read_unread _)
  have L19 : View.readAt (Elt F) arg21.view (Rect.unit (s := S1x256) ![0, 0] S1x256.size inb_S1x256_S1x256_0_0).toLoadRect (harg21.unread X.bm2) = X.bm2 :=
    (View.readAt_full _ _ _).trans (harg21.read_unread _)
  have L20 : View.readAt (Elt F) arg22.view (Rect.unit (s := S256x3) ![0, 0] S256x3.size inb_S256x3_S256x3_0_0).toLoadRect (harg22.unread X.Wm3) = X.Wm3 :=
    (View.readAt_full _ _ _).trans (harg22.read_unread _)
  have L21 : View.readAt (Elt F) arg23.view (Rect.unit (s := S1x3) ![0, 0] S1x3.size inb_S1x3_S1x3_0_0).toLoadRect (harg23.unread X.bm3) = X.bm3 :=
    (View.readAt_full _ _ _).trans (harg23.read_unread _)
  have LR : arg29.view.readCov [⟨Rect.unit (s := S8x64) ![0, 0] S8x64.size inb_S8x64_S8x64_0_0, k1_pay5 (F := F)⟩]
      (Rect.unit (s := S8x64) ![0, 0] S1x64.size inb_S8x64_S1x64_0_0).toLoadRect = zrow :=
    funext fun y => congrFun (View.read_writes_full (Val := Elt F) (e := .f32) arg29.view arg29.view.junk inb_S8x64_S8x64_0_0 (k1_pay5 (F := F)) []) _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7,
    H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14,
    %hf14, H14⟩, ⟨%f15, %hf15, H15⟩, ⟨%f16, %hf16, H16⟩, ⟨%f17, %hf17, H17⟩, ⟨%f18, %hf18, H18⟩, ⟨%f19, %hf19, H19⟩, ⟨%f20, %hf20,
    H20⟩, ⟨%f21, %hf21, H21⟩,
    ⟨%d22, %f22, -, H22⟩, ⟨%d23, %f23, -, H23⟩, ⟨%d24, %f24, -, H24⟩, ⟨%d25, %f25, -, H25⟩, ⟨%d26, %f26, -, H26⟩, ⟨%d27, %f27, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12; obtain rfl := harg15.eq_unread hf13; obtain rfl := harg16.eq_unread hf14; obtain rfl := harg17.eq_unread hf15
  obtain rfl := harg18.eq_unread hf16; obtain rfl := harg19.eq_unread hf17; obtain rfl := harg20.eq_unread hf18; obtain rfl := harg21.eq_unread hf19
  obtain rfl := harg22.eq_unread hf20; obtain rfl := harg23.eq_unread hf21
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _; isplitr; swap; · iexact H22
    ipureintro
    refine (View.read_writes_full _ _ _ _ _).trans ?_
    sl_unfold_run_names
    rfl
  isplitl [H23]
  · iexists _; isplitr; swap; · iexact H23
    ipureintro
    refine (View.read_writes_full _ _ _ _ _).trans ?_
    sl_unfold_run_names
    rfl
  isplitl [H24]
  · iexists _; isplitr; swap; · iexact H24
    ipureintro
    refine (View.read_writes_full _ _ _ _ _).trans ?_
    sl_unfold_run_names
    rfl
  isplitl [H25]
  · iexists _; isplitr; swap; · iexact H25
    ipureintro
    refine (View.read_writes_full _ _ _ _ _).trans ?_
    sl_unfold_run_names
    rfl
  isplitl [H26]
  · iexists _; isplitr; swap; · iexact H26
    ipureintro
    refine (View.read_writes_full _ _ _ _ _).trans ?_
    sl_unfold_run_names
    rfl
  iexists _; isplitl [HS]
  · iexists _; isplitr; swap; · iexact HS
    ipureintro; rfl
  ipureintro
  refine (funext fun y => row0_writes arg29.view _ _ _ y).trans ?_
  sl_unfold_run_names
  rfl

end Cert.KernelIdeal.Fused

end
-- ==== Proof.Body1Next.lean ====
module

public import proofs.«01_k».proof.Proof.Vals
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! # The body of the fused call on any staging buffers -/

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- At a later point: the running row is the scratch buffer's first. -/
theorem body_next (c : Dev nD) (i : grid1.Coords)
    (arg2 : Memref sig .tc .vmem S1x4096x64 .f32) (harg2 : arg2.IsWhole) (arg3 : Memref sig .tc .vmem S1x8x64 .f32) (harg3 : arg3.IsWhole) (arg4
    : Memref sig .tc .vmem S1x64x768 .f32) (harg4 : arg4.IsWhole) (arg5 : Memref sig .tc .vmem S1x64x3 .f32) (harg5 : arg5.IsWhole) (arg6 :
    Memref sig .tc .vmem S1x64x9 .f32) (harg6 : arg6.IsWhole) (arg7 : Memref sig .tc .vmem S1x64x3 .f32) (harg7 : arg7.IsWhole) (arg8 : Memref
    sig .tc .vmem S18x768 .f32) (harg8 : arg8.IsWhole) (arg9 : Memref sig .tc .vmem S1x768 .f32) (harg9 : arg9.IsWhole) (arg10 : Memref sig .tc
    .vmem S1x768 .f32) (harg10 : arg10.IsWhole) (arg11 : Memref sig .tc .vmem S1x768 .f32) (harg11 : arg11.IsWhole) (arg12 : Memref sig .tc
    .vmem S768x768 .f32) (harg12 : arg12.IsWhole) (arg13 : Memref sig .tc .vmem S1x768 .f32) (harg13 : arg13.IsWhole) (arg14 : Memref sig .tc
    .vmem S768x768 .f32) (harg14 : arg14.IsWhole) (arg15 : Memref sig .tc .vmem S1x768 .f32) (harg15 : arg15.IsWhole) (arg16 : Memref sig .tc
    .vmem S1x768 .f32) (harg16 : arg16.IsWhole) (arg17 : Memref sig .tc .vmem S1x768 .f32) (harg17 : arg17.IsWhole) (arg18 : Memref sig .tc
    .vmem S768x256 .f32) (harg18 : arg18.IsWhole) (arg19 : Memref sig .tc .vmem S1x256 .f32) (harg19 : arg19.IsWhole) (arg20 : Memref sig .tc
    .vmem S256x256 .f32) (harg20 : arg20.IsWhole) (arg21 : Memref sig .tc .vmem S1x256 .f32) (harg21 : arg21.IsWhole) (arg22 : Memref sig .tc
    .vmem S256x3 .f32) (harg22 : arg22.IsWhole) (arg23 : Memref sig .tc .vmem S1x3 .f32) (harg23 : arg23.IsWhole) (arg24 : Memref sig .tc .vmem
    S1x4096x3 .f32) (harg24 : arg24.IsWhole) (arg25 : Memref sig .tc .vmem S1x4096x3 .f32) (harg25 : arg25.IsWhole) (arg26 : Memref sig .tc
    .vmem S1x4096x8 .f32) (harg26 : arg26.IsWhole) (arg27 : Memref sig .tc .vmem S1x4096x64 .f32) (harg27 : arg27.IsWhole) (arg28 : Memref sig
    .tc .vmem S1x4096x8 .i32) (harg28 : arg28.IsWhole) (arg29 : Memref sig .tc .vmem S8x64 .f32) (harg29 : arg29.IsWhole)
    (hc0 : ¬first i) (X : Ins F) (S : Vec F S8x64 .f32) (E : Set ℕ) (K : PUnit → sProp 𝕄) :
    iprop(owns (c : Thread nD τ) arg2 fullShare X.a ∗ owns (c : Thread nD τ) arg3 fullShare X.tot ∗ owns (c : Thread nD τ) arg4 fullShare
        X.sp ∗ owns (c : Thread nD τ) arg5 fullShare X.mu ∗ owns (c : Thread nD τ) arg6 fullShare X.R9 ∗ owns (c : Thread nD τ) arg7
        fullShare X.sk ∗ owns (c : Thread nD τ) arg8 fullShare X.Wpos ∗ owns (c : Thread nD τ) arg9 fullShare X.bpos ∗ owns (c : Thread nD
        τ) arg10 fullShare X.g1 ∗ owns (c : Thread nD τ) arg11 fullShare X.be1 ∗ owns (c : Thread nD τ) arg12 fullShare X.Wq1 ∗ owns (c :
        Thread nD τ) arg13 fullShare X.bq1 ∗ owns (c : Thread nD τ) arg14 fullShare X.Wq2 ∗ owns (c : Thread nD τ) arg15 fullShare X.bq2 ∗
        owns (c : Thread nD τ) arg16 fullShare X.g2 ∗ owns (c : Thread nD τ) arg17 fullShare X.be2 ∗ owns (c : Thread nD τ) arg18
        fullShare X.Wm1 ∗ owns (c : Thread nD τ) arg19 fullShare X.bm1 ∗ owns (c : Thread nD τ) arg20 fullShare X.Wm2 ∗ owns (c : Thread
        nD τ) arg21 fullShare X.bm2 ∗ owns (c : Thread nD τ) arg22 fullShare X.Wm3 ∗ owns (c : Thread nD τ) arg23 fullShare X.bm3
        ∗ (∃ d, owns (c : Thread nD τ) arg24 fullShare d) ∗ (∃ d, owns (c : Thread nD τ) arg25 fullShare d) ∗ (∃ d, owns (c : Thread nD τ)
        arg26 fullShare d) ∗ (∃ d, owns (c : Thread nD τ) arg27 fullShare d) ∗ (∃ d, owns (c : Thread nD τ) arg28 fullShare d)
        ∗ owns (c : Thread nD τ) arg29 fullShare S
        ∗ (iprop(owns (c : Thread nD τ) arg2 fullShare X.a ∗ owns (c : Thread nD τ) arg3 fullShare X.tot ∗ owns (c : Thread nD τ) arg4 fullShare
        X.sp ∗ owns (c : Thread nD τ) arg5 fullShare X.mu ∗ owns (c : Thread nD τ) arg6 fullShare X.R9 ∗ owns (c : Thread nD τ) arg7
        fullShare X.sk ∗ owns (c : Thread nD τ) arg8 fullShare X.Wpos ∗ owns (c : Thread nD τ) arg9 fullShare X.bpos ∗ owns (c : Thread nD
        τ) arg10 fullShare X.g1 ∗ owns (c : Thread nD τ) arg11 fullShare X.be1 ∗ owns (c : Thread nD τ) arg12 fullShare X.Wq1 ∗ owns (c :
        Thread nD τ) arg13 fullShare X.bq1 ∗ owns (c : Thread nD τ) arg14 fullShare X.Wq2 ∗ owns (c : Thread nD τ) arg15 fullShare X.bq2 ∗
        owns (c : Thread nD τ) arg16 fullShare X.g2 ∗ owns (c : Thread nD τ) arg17 fullShare X.be2 ∗ owns (c : Thread nD τ) arg18
        fullShare X.Wm1 ∗ owns (c : Thread nD τ) arg19 fullShare X.bm1 ∗ owns (c : Thread nD τ) arg20 fullShare X.Wm2 ∗ owns (c : Thread
        nD τ) arg21 fullShare X.bm2 ∗ owns (c : Thread nD τ) arg22 fullShare X.Wm3 ∗ owns (c : Thread nD τ) arg23 fullShare X.bm3
        ∗ owns (c : Thread nD τ) arg24 fullShare (xhatBlk (row0 S) X) ∗ owns (c : Thread nD τ) arg25 fullShare (xiBlk (row0 S) X) ∗ owns (c
        : Thread nD τ) arg26 fullShare (posBlk (row0 S) X) ∗ owns (c : Thread nD τ) arg27 fullShare (useBlk X) ∗ owns (c : Thread nD τ)
        arg28 fullShare (idxBlk X)
        ∗ (∃ T, owns (c : Thread nD τ) arg29 fullShare T ∗ ⌜row0 T = run X.a (row0 S)⌝)) -∗ K ⟨⟩))
      ⊢ wp frame (wpE (defs₀ (F := F)) Variants.none c none) E
          (cc1__fused_body i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 arg19 harg19 arg20 harg20 arg21
            harg21 arg22 harg22 arg23 harg23 arg24 harg24 arg25 harg25 arg26 harg26 arg27 harg27 arg28 harg28 arg29 harg29) K := by
  simp only [cc1__fused_body_eq_skeleton]; unfold cc1__fused_body_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  have L0 : View.readAt (Elt F) arg2.view (Rect.unit (s := S1x4096x64) ![0, 0, 0] S1x4096x64.size inb_S1x4096x64_S1x4096x64_0_0_0).toLoadRect (harg2.unread X.a) = X.a :=
    (View.readAt_full _ _ _).trans (harg2.read_unread _)
  have L1 : View.readAt (Elt F) arg3.view (Rect.unit (s := S1x8x64) ![0, 0, 0] S1x1x64.size inb_S1x8x64_S1x1x64_0_0_0).toLoadRect (harg3.unread X.tot) = X.tot0 :=
    funext fun y => congrFun (harg3.read_unread X.tot) _
  have L2 : View.readAt (Elt F) arg4.view (Rect.unit (s := S1x64x768) ![0, 0, 0] S1x64x768.size inb_S1x64x768_S1x64x768_0_0_0).toLoadRect (harg4.unread X.sp) = X.sp :=
    (View.readAt_full _ _ _).trans (harg4.read_unread _)
  have L3 : View.readAt (Elt F) arg5.view (Rect.unit (s := S1x64x3) ![0, 0, 0] S1x64x3.size inb_S1x64x3_S1x64x3_0_0_0).toLoadRect (harg5.unread X.mu) = X.mu :=
    (View.readAt_full _ _ _).trans (harg5.read_unread _)
  have L4 : View.readAt (Elt F) arg6.view (Rect.unit (s := S1x64x9) ![0, 0, 0] S1x64x9.size inb_S1x64x9_S1x64x9_0_0_0).toLoadRect (harg6.unread X.R9) = X.R9 :=
    (View.readAt_full _ _ _).trans (harg6.read_unread _)
  have L5 : View.readAt (Elt F) arg7.view (Rect.unit (s := S1x64x3) ![0, 0, 0] S1x64x3.size inb_S1x64x3_S1x64x3_0_0_0).toLoadRect (harg7.unread X.sk) = X.sk :=
    (View.readAt_full _ _ _).trans (harg7.read_unread _)
  have L6 : View.readAt (Elt F) arg8.view (Rect.unit (s := S18x768) ![0, 0] S18x768.size inb_S18x768_S18x768_0_0).toLoadRect (harg8.unread X.Wpos) = X.Wpos :=
    (View.readAt_full _ _ _).trans (harg8.read_unread _)
  have L7 : View.readAt (Elt F) arg9.view (Rect.unit (s := S1x768) ![0, 0] S1x768.size inb_S1x768_S1x768_0_0).toLoadRect (harg9.unread X.bpos) = X.bpos :=
    (View.readAt_full _ _ _).trans (harg9.read_unread _)
  have L8 : View.readAt (Elt F) arg10.view (Rect.unit (s := S1x768) ![0, 0] S1x768.size inb_S1x768_S1x768_0_0).toLoadRect (harg10.unread X.g1) = X.g1 :=
    (View.readAt_full _ _ _).trans (harg10.read_unread _)
  have L9 : View.readAt (Elt F) arg11.view (Rect.unit (s := S1x768) ![0, 0] S1x768.size inb_S1x768_S1x768_0_0).toLoadRect (harg11.unread X.be1) = X.be1 :=
    (View.readAt_full _ _ _).trans (harg11.read_unread _)
  have L10 : View.readAt (Elt F) arg12.view (Rect.unit (s := S768x768) ![0, 0] S768x768.size inb_S768x768_S768x768_0_0).toLoadRect (harg12.unread X.Wq1) = X.Wq1 :=
    (View.readAt_full _ _ _).trans (harg12.read_unread _)
  have L11 : View.readAt (Elt F) arg13.view (Rect.unit (s := S1x768) ![0, 0] S1x768.size inb_S1x768_S1x768_0_0).toLoadRect (harg13.unread X.bq1) = X.bq1 :=
    (View.readAt_full _ _ _).trans (harg13.read_unread _)
  have L12 : View.readAt (Elt F) arg14.view (Rect.unit (s := S768x768) ![0, 0] S768x768.size inb_S768x768_S768x768_0_0).toLoadRect (harg14.unread X.Wq2) = X.Wq2 :=
    (View.readAt_full _ _ _).trans (harg14.read_unread _)
  have L13 : View.readAt (Elt F) arg15.view (Rect.unit (s := S1x768) ![0, 0] S1x768.size inb_S1x768_S1x768_0_0).toLoadRect (harg15.unread X.bq2) = X.bq2 :=
    (View.readAt_full _ _ _).trans (harg15.read_unread _)
  have L14 : View.readAt (Elt F) arg16.view (Rect.unit (s := S1x768) ![0, 0] S1x768.size inb_S1x768_S1x768_0_0).toLoadRect (harg16.unread X.g2) = X.g2 :=
    (View.readAt_full _ _ _).trans (harg16.read_unread _)
  have L15 : View.readAt (Elt F) arg17.view (Rect.unit (s := S1x768) ![0, 0] S1x768.size inb_S1x768_S1x768_0_0).toLoadRect (harg17.unread X.be2) = X.be2 :=
    (View.readAt_full _ _ _).trans (harg17.read_unread _)
  have L16 : View.readAt (Elt F) arg18.view (Rect.unit (s := S768x256) ![0, 0] S768x256.size inb_S768x256_S768x256_0_0).toLoadRect (harg18.unread X.Wm1) = X.Wm1 :=
    (View.readAt_full _ _ _).trans (harg18.read_unread _)
  have L17 : View.readAt (Elt F) arg19.view (Rect.unit (s := S1x256) ![0, 0] S1x256.size inb_S1x256_S1x256_0_0).toLoadRect (harg19.unread X.bm1) = X.bm1 :=
    (View.readAt_full _ _ _).trans (harg19.read_unread _)
  have L18 : View.readAt (Elt F) arg20.view (Rect.unit (s := S256x256) ![0, 0] S256x256.size inb_S256x256_S256x256_0_0).toLoadRect (harg20.unread X.Wm2) = X.Wm2 :=
    (View.readAt_full _ _ _).trans (harg20.read_unread _)
  have L19 : View.readAt (Elt F) arg21.view (Rect.unit (s := S1x256) ![0, 0] S1x256.size inb_S1x256_S1x256_0_0).toLoadRect (harg21.unread X.bm2) = X.bm2 :=
    (View.readAt_full _ _ _).trans (harg21.read_unread _)
  have L20 : View.readAt (Elt F) arg22.view (Rect.unit (s := S256x3) ![0, 0] S256x3.size inb_S256x3_S256x3_0_0).toLoadRect (harg22.unread X.Wm3) = X.Wm3 :=
    (View.readAt_full _ _ _).trans (harg22.read_unread _)
  have L21 : View.readAt (Elt F) arg23.view (Rect.unit (s := S1x3) ![0, 0] S1x3.size inb_S1x3_S1x3_0_0).toLoadRect (harg23.unread X.bm3) = X.bm3 :=
    (View.readAt_full _ _ _).trans (harg23.read_unread _)
  have LR : View.readAt (Elt F) arg29.view (Rect.unit (s := S8x64) ![0, 0] S1x64.size inb_S8x64_S1x64_0_0).toLoadRect (harg29.unread S) = row0 S :=
    funext fun y => congrFun (harg29.read_unread S) _
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7,
    H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14,
    %hf14, H14⟩, ⟨%f15, %hf15, H15⟩, ⟨%f16, %hf16, H16⟩, ⟨%f17, %hf17, H17⟩, ⟨%f18, %hf18, H18⟩, ⟨%f19, %hf19, H19⟩, ⟨%f20, %hf20,
    H20⟩, ⟨%f21, %hf21, H21⟩,
    ⟨%d22, %f22, -, H22⟩, ⟨%d23, %f23, -, H23⟩, ⟨%d24, %f24, -, H24⟩, ⟨%d25, %f25, -, H25⟩, ⟨%d26, %f26, -, H26⟩, ⟨%f27, %hf27, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12; obtain rfl := harg15.eq_unread hf13; obtain rfl := harg16.eq_unread hf14; obtain rfl := harg17.eq_unread hf15
  obtain rfl := harg18.eq_unread hf16; obtain rfl := harg19.eq_unread hf17; obtain rfl := harg20.eq_unread hf18; obtain rfl := harg21.eq_unread hf19
  obtain rfl := harg22.eq_unread hf20; obtain rfl := harg23.eq_unread hf21; obtain rfl := harg29.eq_unread hf27
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _; isplitr; swap; · iexact H22
    ipureintro
    refine (View.read_writes_full _ _ _ _ _).trans ?_
    sl_unfold_run_names
    rfl
  isplitl [H23]
  · iexists _; isplitr; swap; · iexact H23
    ipureintro
    refine (View.read_writes_full _ _ _ _ _).trans ?_
    sl_unfold_run_names
    rfl
  isplitl [H24]
  · iexists _; isplitr; swap; · iexact H24
    ipureintro
    refine (View.read_writes_full _ _ _ _ _).trans ?_
    sl_unfold_run_names
    rfl
  isplitl [H25]
  · iexists _; isplitr; swap; · iexact H25
    ipureintro
    refine (View.read_writes_full _ _ _ _ _).trans ?_
    sl_unfold_run_names
    rfl
  isplitl [H26]
  · iexists _; isplitr; swap; · iexact H26
    ipureintro
    refine (View.read_writes_full _ _ _ _ _).trans ?_
    sl_unfold_run_names
    rfl
  iexists _; isplitl [HS]
  · iexists _; isplitr; swap; · iexact HS
    ipureintro; rfl
  ipureintro
  refine (funext fun y => row0_writes arg29.view _ _ _ y).trans ?_
  sl_unfold_run_names
  rfl

end Cert.KernelIdeal.Fused

end
-- ==== Proof.Region1.lean ====
module

public import proofs.«01_k».proof.Proof.Body1First
public import proofs.«01_k».proof.Proof.Body1Next
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! # The second call's region

The proof data of the fused call: the 22 inputs' blocks left in place, the five outputs at the
blocks `Vals` names, and an invariant that keeps the first row of the scratch buffer after the
first point of a batch. -/

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- The branch is taken at the even points. -/
theorem first_iff : ∀ t : Fin cfg1.N, first (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [first, e0, e1]
    word_cmp
   : ∀ t : Fin grid1.N, first (grid1.coords t) ↔ t.val % 2 = 0)

variable (V : (c : Dev nD) → (b : Ref sig .tc) → Buf (Elt F) ((c : Thread nD τ).loc b))

/-- A window's block at a point, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The inputs' blocks at a point. -/
def ins (c : Dev nD) (t : Fin cfg1.N) : Ins F where
  a := blk V c 0 t
  tot := blk V c 1 t
  sp := blk V c 2 t
  mu := blk V c 3 t
  R9 := blk V c 4 t
  sk := blk V c 5 t
  Wpos := blk V c 6 t
  bpos := blk V c 7 t
  g1 := blk V c 8 t
  be1 := blk V c 9 t
  Wq1 := blk V c 10 t
  bq1 := blk V c 11 t
  Wq2 := blk V c 12 t
  bq2 := blk V c 13 t
  g2 := blk V c 14 t
  be2 := blk V c 15 t
  Wm1 := blk V c 16 t
  bm1 := blk V c 17 t
  Wm2 := blk V c 18 t
  bm2 := blk V c 19 t
  Wm3 := blk V c 20 t
  bm3 := blk V c 21 t

/-- The point before. -/
def prev (t : Fin cfg1.N) : Fin cfg1.N := ⟨t.val - 1, Nat.lt_of_le_of_lt (Nat.sub_le _ _) t.isLt⟩

/-- The running row a point starts from: zeros at a batch's first point, what that point left at its second. -/
def rowAt (c : Dev nD) (t : Fin cfg1.N) : Vec F S1x64 .f32 :=
  if t.val % 2 = 0 then zrow else run (blk V c 0 (prev t)) zrow

/-- The scratch buffer. -/
abbrev scr : Memref sig .tc .vmem S8x64 .f32 := Memref.whole cc1_scratch0

/-- The core's other scoped buffers, at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Before point `n` the scratch buffer holds anything, or, inside a batch, the running row the batch's first point left. -/
def Inv (c : Dev nD) (n : Fin (cfg1.N + 1)) : sProp 𝕄 :=
  iprop((others c ∗ ∃ S, owns (c : Thread nD τ) scr fullShare S
      ∗ ⌜∀ h : n.val % 2 = 1, row0 S = run (blk V c 0 ⟨n.val - 1, by have := n.isLt; omega⟩) zrow⌝) ∗ ∃ r, prngReg c r)

/-- What the launch hands the region. -/
theorem given_eq (c : Dev nD) : (Pipeline.ΦA spec1 c : sProp 𝕄)
    ⊣⊢ iprop((others c ∗ ∃ S, owns (c : Thread nD τ) scr fullShare S) ∗ ∃ r, prngReg c r) := by
  unfold Pipeline.ΦA others; rw [scopedRest1_eq]; simp only [scr, owns_whole]
  constructor
  · iintro ⟨⟨H0, H1, H2, H3, H4⟩, Hp⟩
    isplitl [H0 H1 H2 H3 H4]
    · isplitl [H0 H1 H2 H3]
      · isplitl [H0]; · iexact H0
        isplitl [H1]; · iexact H1
        isplitl [H2]; · iexact H2
        iexact H3
      iexact H4
    iexact Hp
  · iintro ⟨⟨⟨H0, H1, H2, H3⟩, H4⟩, Hp⟩
    isplitl [H0 H1 H2 H3 H4]
    · isplitl [H0]; · iexact H0
      isplitl [H1]; · iexact H1
      isplitl [H2]; · iexact H2
      isplitl [H3]; · iexact H3
      iexact H4
    iexact Hp

/-- The launch's hand-over establishes the invariant. -/
theorem inv_in (c : Dev nD) : (Pipeline.ΦA spec1 c : sProp 𝕄) ⊢ Inv V c 0 := by
  refine (given_eq c).1.trans ?_
  unfold Inv
  iintro ⟨⟨Ho, ⟨%S, HS⟩⟩, Hp⟩
  isplitl [Ho HS]
  · isplitl [Ho]; · iexact Ho
    iexists S; isplitl [HS]; · iexact HS
    ipureintro; intro h; exact absurd h (by decide)
  iexact Hp

/-- The invariant gives the hand-over back. -/
theorem inv_out (c : Dev nD) (n : Fin (cfg1.N + 1)) : Inv V c n ⊢ (Pipeline.ΦA spec1 c : sProp 𝕄) := by
  refine BIBase.Entails.trans ?_ (given_eq c).2
  unfold Inv
  iintro ⟨⟨Ho, ⟨%S, HS, -⟩⟩, Hp⟩
  isplitl [Ho HS]
  · isplitl [Ho]; · iexact Ho
    iexists S; iexact HS
  iexact Hp

/-- The region's proof data. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => blk V c 15 t
    | ⟨16, _⟩ => blk V c 16 t
    | ⟨17, _⟩ => blk V c 17 t
    | ⟨18, _⟩ => blk V c 18 t
    | ⟨19, _⟩ => blk V c 19 t
    | ⟨20, _⟩ => blk V c 20 t
    | ⟨21, _⟩ => blk V c 21 t
    | ⟨22, _⟩ => xhatBlk (rowAt V c t) (ins V c t)
    | ⟨23, _⟩ => xiBlk (rowAt V c t) (ins V c t)
    | ⟨24, _⟩ => posBlk (rowAt V c t) (ins V c t)
    | ⟨25, _⟩ => useBlk (ins V c t)
    | ⟨26, _⟩ => idxBlk (ins V c t)
    | ⟨_ + 27, h⟩ => absurd h (Nat.not_lt.2 (Nat.le_add_left _ _))
  Φ n := Inv V c n
  q _ := fullShare
  owed _ := 0

theorem A_eq1 (c : Dev nD) (w : Fin cfg1.W) : (dat1 V c).A w = V c (Pipeline.arrRef spec1 w) := by dsimp only [dat1]

/-- The current staging memref of window `w`. -/
abbrev m0 (t : Fin cfg1.N) : Memref sig .tc .vmem S1x4096x64 .f32 := win1_0.stage (cfg1.slots t 0)
abbrev m1 (t : Fin cfg1.N) : Memref sig .tc .vmem S1x8x64 .f32 := win1_1.stage (cfg1.slots t 1)
abbrev m2 (t : Fin cfg1.N) : Memref sig .tc .vmem S1x64x768 .f32 := win1_2.stage (cfg1.slots t 2)
abbrev m3 (t : Fin cfg1.N) : Memref sig .tc .vmem S1x64x3 .f32 := win1_3.stage (cfg1.slots t 3)
abbrev m4 (t : Fin cfg1.N) : Memref sig .tc .vmem S1x64x9 .f32 := win1_4.stage (cfg1.slots t 4)
abbrev m5 (t : Fin cfg1.N) : Memref sig .tc .vmem S1x64x3 .f32 := win1_5.stage (cfg1.slots t 5)
abbrev m6 (t : Fin cfg1.N) : Memref sig .tc .vmem S18x768 .f32 := win1_6.stage (cfg1.slots t 6)
abbrev m7 (t : Fin cfg1.N) : Memref sig .tc .vmem S1x768 .f32 := win1_7.stage (cfg1.slots t 7)
abbrev m8 (t : Fin cfg1.N) : Memref sig .tc .vmem S1x768 .f32 := win1_8.stage (cfg1.slots t 8)
abbrev m9 (t : Fin cfg1.N) : Memref sig .tc .vmem S1x768 .f32 := win1_9.stage (cfg1.slots t 9)
abbrev m10 (t : Fin cfg1.N) : Memref sig .tc .vmem S768x768 .f32 := win1_10.stage (cfg1.slots t 10)
abbrev m11 (t : Fin cfg1.N) : Memref sig .tc .vmem S1x768 .f32 := win1_11.stage (cfg1.slots t 11)
abbrev m12 (t : Fin cfg1.N) : Memref sig .tc .vmem S768x768 .f32 := win1_12.stage (cfg1.slots t 12)
abbrev m13 (t : Fin cfg1.N) : Memref sig .tc .vmem S1x768 .f32 := win1_13.stage (cfg1.slots t 13)
abbrev m14 (t : Fin cfg1.N) : Memref sig .tc .vmem S1x768 .f32 := win1_14.stage (cfg1.slots t 14)
abbrev m15 (t : Fin cfg1.N) : Memref sig .tc .vmem S1x768 .f32 := win1_15.stage (cfg1.slots t 15)
abbrev m16 (t : Fin cfg1.N) : Memref sig .tc .vmem S768x256 .f32 := win1_16.stage (cfg1.slots t 16)
abbrev m17 (t : Fin cfg1.N) : Memref sig .tc .vmem S1x256 .f32 := win1_17.stage (cfg1.slots t 17)
abbrev m18 (t : Fin cfg1.N) : Memref sig .tc .vmem S256x256 .f32 := win1_18.stage (cfg1.slots t 18)
abbrev m19 (t : Fin cfg1.N) : Memref sig .tc .vmem S1x256 .f32 := win1_19.stage (cfg1.slots t 19)
abbrev m20 (t : Fin cfg1.N) : Memref sig .tc .vmem S256x3 .f32 := win1_20.stage (cfg1.slots t 20)
abbrev m21 (t : Fin cfg1.N) : Memref sig .tc .vmem S1x3 .f32 := win1_21.stage (cfg1.slots t 21)
abbrev m22 (t : Fin cfg1.N) : Memref sig .tc .vmem S1x4096x3 .f32 := win1_22.stage (cfg1.slots t 22)
abbrev m23 (t : Fin cfg1.N) : Memref sig .tc .vmem S1x4096x3 .f32 := win1_23.stage (cfg1.slots t 23)
abbrev m24 (t : Fin cfg1.N) : Memref sig .tc .vmem S1x4096x8 .f32 := win1_24.stage (cfg1.slots t 24)
abbrev m25 (t : Fin cfg1.N) : Memref sig .tc .vmem S1x4096x64 .f32 := win1_25.stage (cfg1.slots t 25)
abbrev m26 (t : Fin cfg1.N) : Memref sig .tc .vmem S1x4096x8 .i32 := win1_26.stage (cfg1.slots t 26)
theorem after_0 (c : Dev nD) (t : Fin cfg1.N) : (dat1 V c).after 0 t = blk V c 0 t := by dsimp only [dat1]
theorem after_1 (c : Dev nD) (t : Fin cfg1.N) : (dat1 V c).after 1 t = blk V c 1 t := by dsimp only [dat1]
theorem after_2 (c : Dev nD) (t : Fin cfg1.N) : (dat1 V c).after 2 t = blk V c 2 t := by dsimp only [dat1]
theorem after_3 (c : Dev nD) (t : Fin cfg1.N) : (dat1 V c).after 3 t = blk V c 3 t := by dsimp only [dat1]
theorem after_4 (c : Dev nD) (t : Fin cfg1.N) : (dat1 V c).after 4 t = blk V c 4 t := by dsimp only [dat1]
theorem after_5 (c : Dev nD) (t : Fin cfg1.N) : (dat1 V c).after 5 t = blk V c 5 t := by dsimp only [dat1]
theorem after_6 (c : Dev nD) (t : Fin cfg1.N) : (dat1 V c).after 6 t = blk V c 6 t := by dsimp only [dat1]
theorem after_7 (c : Dev nD) (t : Fin cfg1.N) : (dat1 V c).after 7 t = blk V c 7 t := by dsimp only [dat1]
theorem after_8 (c : Dev nD) (t : Fin cfg1.N) : (dat1 V c).after 8 t = blk V c 8 t := by dsimp only [dat1]
theorem after_9 (c : Dev nD) (t : Fin cfg1.N) : (dat1 V c).after 9 t = blk V c 9 t := by dsimp only [dat1]
theorem after_10 (c : Dev nD) (t : Fin cfg1.N) : (dat1 V c).after 10 t = blk V c 10 t := by dsimp only [dat1]
theorem after_11 (c : Dev nD) (t : Fin cfg1.N) : (dat1 V c).after 11 t = blk V c 11 t := by dsimp only [dat1]
theorem after_12 (c : Dev nD) (t : Fin cfg1.N) : (dat1 V c).after 12 t = blk V c 12 t := by dsimp only [dat1]
theorem after_13 (c : Dev nD) (t : Fin cfg1.N) : (dat1 V c).after 13 t = blk V c 13 t := by dsimp only [dat1]
theorem after_14 (c : Dev nD) (t : Fin cfg1.N) : (dat1 V c).after 14 t = blk V c 14 t := by dsimp only [dat1]
theorem after_15 (c : Dev nD) (t : Fin cfg1.N) : (dat1 V c).after 15 t = blk V c 15 t := by dsimp only [dat1]
theorem after_16 (c : Dev nD) (t : Fin cfg1.N) : (dat1 V c).after 16 t = blk V c 16 t := by dsimp only [dat1]
theorem after_17 (c : Dev nD) (t : Fin cfg1.N) : (dat1 V c).after 17 t = blk V c 17 t := by dsimp only [dat1]
theorem after_18 (c : Dev nD) (t : Fin cfg1.N) : (dat1 V c).after 18 t = blk V c 18 t := by dsimp only [dat1]
theorem after_19 (c : Dev nD) (t : Fin cfg1.N) : (dat1 V c).after 19 t = blk V c 19 t := by dsimp only [dat1]
theorem after_20 (c : Dev nD) (t : Fin cfg1.N) : (dat1 V c).after 20 t = blk V c 20 t := by dsimp only [dat1]
theorem after_21 (c : Dev nD) (t : Fin cfg1.N) : (dat1 V c).after 21 t = blk V c 21 t := by dsimp only [dat1]
theorem after_22 (c : Dev nD) (t : Fin cfg1.N) : (dat1 V c).after 22 t = xhatBlk (rowAt V c t) (ins V c t) := by dsimp only [dat1]
theorem after_23 (c : Dev nD) (t : Fin cfg1.N) : (dat1 V c).after 23 t = xiBlk (rowAt V c t) (ins V c t) := by dsimp only [dat1]
theorem after_24 (c : Dev nD) (t : Fin cfg1.N) : (dat1 V c).after 24 t = posBlk (rowAt V c t) (ins V c t) := by dsimp only [dat1]
theorem after_25 (c : Dev nD) (t : Fin cfg1.N) : (dat1 V c).after 25 t = useBlk (ins V c t) := by dsimp only [dat1]
theorem after_26 (c : Dev nD) (t : Fin cfg1.N) : (dat1 V c).after 26 t = idxBlk (ins V c t) := by dsimp only [dat1]
theorem before_0 (c : Dev nD) (t : Fin cfg1.N) (d) : (dat1 V c).before 0 t d = blk V c 0 t :=
  ((dat1 V c).before_in_eq_fetched 0 rfl (fun _ => rfl) (fun _ _ _ => rfl)
    (fun t => by rw [after_0]; unfold Dat.blockOf blk; rw [A_eq1]; try rfl) t d).trans (by unfold Dat.fetched Dat.blockOf blk; rw [A_eq1]; try rfl)
theorem before_1 (c : Dev nD) (t : Fin cfg1.N) (d) : (dat1 V c).before 1 t d = blk V c 1 t :=
  ((dat1 V c).before_in_eq_fetched 1 rfl (fun _ => rfl) (fun _ _ _ => rfl)
    (fun t => by rw [after_1]; unfold Dat.blockOf blk; rw [A_eq1]; try rfl) t d).trans (by unfold Dat.fetched Dat.blockOf blk; rw [A_eq1]; try rfl)
theorem before_2 (c : Dev nD) (t : Fin cfg1.N) (d) : (dat1 V c).before 2 t d = blk V c 2 t :=
  ((dat1 V c).before_in_eq_fetched 2 rfl (fun _ => rfl) (fun _ _ _ => rfl)
    (fun t => by rw [after_2]; unfold Dat.blockOf blk; rw [A_eq1]; try rfl) t d).trans (by unfold Dat.fetched Dat.blockOf blk; rw [A_eq1]; try rfl)
theorem before_3 (c : Dev nD) (t : Fin cfg1.N) (d) : (dat1 V c).before 3 t d = blk V c 3 t :=
  ((dat1 V c).before_in_eq_fetched 3 rfl (fun _ => rfl) (fun _ _ _ => rfl)
    (fun t => by rw [after_3]; unfold Dat.blockOf blk; rw [A_eq1]; try rfl) t d).trans (by unfold Dat.fetched Dat.blockOf blk; rw [A_eq1]; try rfl)
theorem before_4 (c : Dev nD) (t : Fin cfg1.N) (d) : (dat1 V c).before 4 t d = blk V c 4 t :=
  ((dat1 V c).before_in_eq_fetched 4 rfl (fun _ => rfl) (fun _ _ _ => rfl)
    (fun t => by rw [after_4]; unfold Dat.blockOf blk; rw [A_eq1]; try rfl) t d).trans (by unfold Dat.fetched Dat.blockOf blk; rw [A_eq1]; try rfl)
theorem before_5 (c : Dev nD) (t : Fin cfg1.N) (d) : (dat1 V c).before 5 t d = blk V c 5 t :=
  ((dat1 V c).before_in_eq_fetched 5 rfl (fun _ => rfl) (fun _ _ _ => rfl)
    (fun t => by rw [after_5]; unfold Dat.blockOf blk; rw [A_eq1]; try rfl) t d).trans (by unfold Dat.fetched Dat.blockOf blk; rw [A_eq1]; try rfl)
theorem before_6 (c : Dev nD) (t : Fin cfg1.N) (d) : (dat1 V c).before 6 t d = blk V c 6 t :=
  ((dat1 V c).before_in_eq_fetched 6 rfl (fun _ => rfl) (fun _ _ _ => rfl)
    (fun t => by rw [after_6]; unfold Dat.blockOf blk; rw [A_eq1]; try rfl) t d).trans (by unfold Dat.fetched Dat.blockOf blk; rw [A_eq1]; try rfl)
theorem before_7 (c : Dev nD) (t : Fin cfg1.N) (d) : (dat1 V c).before 7 t d = blk V c 7 t :=
  ((dat1 V c).before_in_eq_fetched 7 rfl (fun _ => rfl) (fun _ _ _ => rfl)
    (fun t => by rw [after_7]; unfold Dat.blockOf blk; rw [A_eq1]; try rfl) t d).trans (by unfold Dat.fetched Dat.blockOf blk; rw [A_eq1]; try rfl)
theorem before_8 (c : Dev nD) (t : Fin cfg1.N) (d) : (dat1 V c).before 8 t d = blk V c 8 t :=
  ((dat1 V c).before_in_eq_fetched 8 rfl (fun _ => rfl) (fun _ _ _ => rfl)
    (fun t => by rw [after_8]; unfold Dat.blockOf blk; rw [A_eq1]; try rfl) t d).trans (by unfold Dat.fetched Dat.blockOf blk; rw [A_eq1]; try rfl)
theorem before_9 (c : Dev nD) (t : Fin cfg1.N) (d) : (dat1 V c).before 9 t d = blk V c 9 t :=
  ((dat1 V c).before_in_eq_fetched 9 rfl (fun _ => rfl) (fun _ _ _ => rfl)
    (fun t => by rw [after_9]; unfold Dat.blockOf blk; rw [A_eq1]; try rfl) t d).trans (by unfold Dat.fetched Dat.blockOf blk; rw [A_eq1]; try rfl)
theorem before_10 (c : Dev nD) (t : Fin cfg1.N) (d) : (dat1 V c).before 10 t d = blk V c 10 t :=
  ((dat1 V c).before_in_eq_fetched 10 rfl (fun _ => rfl) (fun _ _ _ => rfl)
    (fun t => by rw [after_10]; unfold Dat.blockOf blk; rw [A_eq1]; try rfl) t d).trans (by unfold Dat.fetched Dat.blockOf blk; rw [A_eq1]; try rfl)
theorem before_11 (c : Dev nD) (t : Fin cfg1.N) (d) : (dat1 V c).before 11 t d = blk V c 11 t :=
  ((dat1 V c).before_in_eq_fetched 11 rfl (fun _ => rfl) (fun _ _ _ => rfl)
    (fun t => by rw [after_11]; unfold Dat.blockOf blk; rw [A_eq1]; try rfl) t d).trans (by unfold Dat.fetched Dat.blockOf blk; rw [A_eq1]; try rfl)
theorem before_12 (c : Dev nD) (t : Fin cfg1.N) (d) : (dat1 V c).before 12 t d = blk V c 12 t :=
  ((dat1 V c).before_in_eq_fetched 12 rfl (fun _ => rfl) (fun _ _ _ => rfl)
    (fun t => by rw [after_12]; unfold Dat.blockOf blk; rw [A_eq1]; try rfl) t d).trans (by unfold Dat.fetched Dat.blockOf blk; rw [A_eq1]; try rfl)
theorem before_13 (c : Dev nD) (t : Fin cfg1.N) (d) : (dat1 V c).before 13 t d = blk V c 13 t :=
  ((dat1 V c).before_in_eq_fetched 13 rfl (fun _ => rfl) (fun _ _ _ => rfl)
    (fun t => by rw [after_13]; unfold Dat.blockOf blk; rw [A_eq1]; try rfl) t d).trans (by unfold Dat.fetched Dat.blockOf blk; rw [A_eq1]; try rfl)
theorem before_14 (c : Dev nD) (t : Fin cfg1.N) (d) : (dat1 V c).before 14 t d = blk V c 14 t :=
  ((dat1 V c).before_in_eq_fetched 14 rfl (fun _ => rfl) (fun _ _ _ => rfl)
    (fun t => by rw [after_14]; unfold Dat.blockOf blk; rw [A_eq1]; try rfl) t d).trans (by unfold Dat.fetched Dat.blockOf blk; rw [A_eq1]; try rfl)
theorem before_15 (c : Dev nD) (t : Fin cfg1.N) (d) : (dat1 V c).before 15 t d = blk V c 15 t :=
  ((dat1 V c).before_in_eq_fetched 15 rfl (fun _ => rfl) (fun _ _ _ => rfl)
    (fun t => by rw [after_15]; unfold Dat.blockOf blk; rw [A_eq1]; try rfl) t d).trans (by unfold Dat.fetched Dat.blockOf blk; rw [A_eq1]; try rfl)
theorem before_16 (c : Dev nD) (t : Fin cfg1.N) (d) : (dat1 V c).before 16 t d = blk V c 16 t :=
  ((dat1 V c).before_in_eq_fetched 16 rfl (fun _ => rfl) (fun _ _ _ => rfl)
    (fun t => by rw [after_16]; unfold Dat.blockOf blk; rw [A_eq1]; try rfl) t d).trans (by unfold Dat.fetched Dat.blockOf blk; rw [A_eq1]; try rfl)
theorem before_17 (c : Dev nD) (t : Fin cfg1.N) (d) : (dat1 V c).before 17 t d = blk V c 17 t :=
  ((dat1 V c).before_in_eq_fetched 17 rfl (fun _ => rfl) (fun _ _ _ => rfl)
    (fun t => by rw [after_17]; unfold Dat.blockOf blk; rw [A_eq1]; try rfl) t d).trans (by unfold Dat.fetched Dat.blockOf blk; rw [A_eq1]; try rfl)
theorem before_18 (c : Dev nD) (t : Fin cfg1.N) (d) : (dat1 V c).before 18 t d = blk V c 18 t :=
  ((dat1 V c).before_in_eq_fetched 18 rfl (fun _ => rfl) (fun _ _ _ => rfl)
    (fun t => by rw [after_18]; unfold Dat.blockOf blk; rw [A_eq1]; try rfl) t d).trans (by unfold Dat.fetched Dat.blockOf blk; rw [A_eq1]; try rfl)
theorem before_19 (c : Dev nD) (t : Fin cfg1.N) (d) : (dat1 V c).before 19 t d = blk V c 19 t :=
  ((dat1 V c).before_in_eq_fetched 19 rfl (fun _ => rfl) (fun _ _ _ => rfl)
    (fun t => by rw [after_19]; unfold Dat.blockOf blk; rw [A_eq1]; try rfl) t d).trans (by unfold Dat.fetched Dat.blockOf blk; rw [A_eq1]; try rfl)
theorem before_20 (c : Dev nD) (t : Fin cfg1.N) (d) : (dat1 V c).before 20 t d = blk V c 20 t :=
  ((dat1 V c).before_in_eq_fetched 20 rfl (fun _ => rfl) (fun _ _ _ => rfl)
    (fun t => by rw [after_20]; unfold Dat.blockOf blk; rw [A_eq1]; try rfl) t d).trans (by unfold Dat.fetched Dat.blockOf blk; rw [A_eq1]; try rfl)
theorem before_21 (c : Dev nD) (t : Fin cfg1.N) (d) : (dat1 V c).before 21 t d = blk V c 21 t :=
  ((dat1 V c).before_in_eq_fetched 21 rfl (fun _ => rfl) (fun _ _ _ => rfl)
    (fun t => by rw [after_21]; unfold Dat.blockOf blk; rw [A_eq1]; try rfl) t d).trans (by unfold Dat.fetched Dat.blockOf blk; rw [A_eq1]; try rfl)

set_option maxHeartbeats 4000000 in
/-- The body at any point, from the buffers as the pipeline hands them to what the proof data say. -/
theorem sound (c : Dev nD) (t : Fin cfg1.N) :
    iprop((dat1 V c).Φ t.castSucc ∗ (dat1 V c).owesAt () t.castSucc
        ∗ (∃ d, owns (c : Thread nD τ) (m0 t) fullShare ((dat1 V c).before 0 t d)) ∗ (∃ d, owns (c : Thread nD τ) (m1 t) fullShare ((dat1 V
        c).before 1 t d)) ∗ (∃ d, owns (c : Thread nD τ) (m2 t) fullShare ((dat1 V c).before 2 t d)) ∗ (∃ d, owns (c : Thread nD τ) (m3 t)
        fullShare ((dat1 V c).before 3 t d)) ∗ (∃ d, owns (c : Thread nD τ) (m4 t) fullShare ((dat1 V c).before 4 t d)) ∗ (∃ d, owns (c :
        Thread nD τ) (m5 t) fullShare ((dat1 V c).before 5 t d)) ∗ (∃ d, owns (c : Thread nD τ) (m6 t) fullShare ((dat1 V c).before 6 t
        d)) ∗ (∃ d, owns (c : Thread nD τ) (m7 t) fullShare ((dat1 V c).before 7 t d)) ∗ (∃ d, owns (c : Thread nD τ) (m8 t) fullShare
        ((dat1 V c).before 8 t d)) ∗ (∃ d, owns (c : Thread nD τ) (m9 t) fullShare ((dat1 V c).before 9 t d)) ∗ (∃ d, owns (c : Thread nD
        τ) (m10 t) fullShare ((dat1 V c).before 10 t d)) ∗ (∃ d, owns (c : Thread nD τ) (m11 t) fullShare ((dat1 V c).before 11 t d)) ∗ (∃
        d, owns (c : Thread nD τ) (m12 t) fullShare ((dat1 V c).before 12 t d)) ∗ (∃ d, owns (c : Thread nD τ) (m13 t) fullShare ((dat1 V
        c).before 13 t d)) ∗ (∃ d, owns (c : Thread nD τ) (m14 t) fullShare ((dat1 V c).before 14 t d)) ∗ (∃ d, owns (c : Thread nD τ)
        (m15 t) fullShare ((dat1 V c).before 15 t d)) ∗ (∃ d, owns (c : Thread nD τ) (m16 t) fullShare ((dat1 V c).before 16 t d)) ∗ (∃ d,
        owns (c : Thread nD τ) (m17 t) fullShare ((dat1 V c).before 17 t d)) ∗ (∃ d, owns (c : Thread nD τ) (m18 t) fullShare ((dat1 V
        c).before 18 t d)) ∗ (∃ d, owns (c : Thread nD τ) (m19 t) fullShare ((dat1 V c).before 19 t d)) ∗ (∃ d, owns (c : Thread nD τ)
        (m20 t) fullShare ((dat1 V c).before 20 t d)) ∗ (∃ d, owns (c : Thread nD τ) (m21 t) fullShare ((dat1 V c).before 21 t d)) ∗ (∃ d,
        owns (c : Thread nD τ) (m22 t) fullShare ((dat1 V c).before 22 t d)) ∗ (∃ d, owns (c : Thread nD τ) (m23 t) fullShare ((dat1 V
        c).before 23 t d)) ∗ (∃ d, owns (c : Thread nD τ) (m24 t) fullShare ((dat1 V c).before 24 t d)) ∗ (∃ d, owns (c : Thread nD τ)
        (m25 t) fullShare ((dat1 V c).before 25 t d)) ∗ (∃ d, owns (c : Thread nD τ) (m26 t) fullShare ((dat1 V c).before 26 t d)))
      ⊢ wp frame (wpE (defs₀ (F := F)) Variants.none c none) Set.univ (bodyAt1 t) (fun _ =>
        iprop((dat1 V c).Φ t.succ ∗ (dat1 V c).owesAt () t.succ
        ∗ owns (c : Thread nD τ) (m0 t) fullShare ((dat1 V c).after 0 t) ∗ owns (c : Thread nD τ) (m1 t) fullShare ((dat1 V c).after 1 t) ∗
        owns (c : Thread nD τ) (m2 t) fullShare ((dat1 V c).after 2 t) ∗ owns (c : Thread nD τ) (m3 t) fullShare ((dat1 V c).after 3 t) ∗
        owns (c : Thread nD τ) (m4 t) fullShare ((dat1 V c).after 4 t) ∗ owns (c : Thread nD τ) (m5 t) fullShare ((dat1 V c).after 5 t) ∗
        owns (c : Thread nD τ) (m6 t) fullShare ((dat1 V c).after 6 t) ∗ owns (c : Thread nD τ) (m7 t) fullShare ((dat1 V c).after 7 t) ∗
        owns (c : Thread nD τ) (m8 t) fullShare ((dat1 V c).after 8 t) ∗ owns (c : Thread nD τ) (m9 t) fullShare ((dat1 V c).after 9 t) ∗
        owns (c : Thread nD τ) (m10 t) fullShare ((dat1 V c).after 10 t) ∗ owns (c : Thread nD τ) (m11 t) fullShare ((dat1 V c).after 11
        t) ∗ owns (c : Thread nD τ) (m12 t) fullShare ((dat1 V c).after 12 t) ∗ owns (c : Thread nD τ) (m13 t) fullShare ((dat1 V c).after
        13 t) ∗ owns (c : Thread nD τ) (m14 t) fullShare ((dat1 V c).after 14 t) ∗ owns (c : Thread nD τ) (m15 t) fullShare ((dat1 V
        c).after 15 t) ∗ owns (c : Thread nD τ) (m16 t) fullShare ((dat1 V c).after 16 t) ∗ owns (c : Thread nD τ) (m17 t) fullShare
        ((dat1 V c).after 17 t) ∗ owns (c : Thread nD τ) (m18 t) fullShare ((dat1 V c).after 18 t) ∗ owns (c : Thread nD τ) (m19 t)
        fullShare ((dat1 V c).after 19 t) ∗ owns (c : Thread nD τ) (m20 t) fullShare ((dat1 V c).after 20 t) ∗ owns (c : Thread nD τ) (m21
        t) fullShare ((dat1 V c).after 21 t) ∗ owns (c : Thread nD τ) (m22 t) fullShare ((dat1 V c).after 22 t) ∗ owns (c : Thread nD τ)
        (m23 t) fullShare ((dat1 V c).after 23 t) ∗ owns (c : Thread nD τ) (m24 t) fullShare ((dat1 V c).after 24 t) ∗ owns (c : Thread nD
        τ) (m25 t) fullShare ((dat1 V c).after 25 t) ∗ owns (c : Thread nD τ) (m26 t) fullShare ((dat1 V c).after 26 t))) := by
  unfold bodyAt1
  simp only [before_0, before_1, before_2, before_3, before_4, before_5, before_6, before_7, before_8, before_9, before_10, before_11,
    before_12, before_13, before_14, before_15, before_16, before_17, before_18, before_19, before_20, before_21]
  rw [show (dat1 V c).Φ t.castSucc = Inv V c t.castSucc from rfl, show (dat1 V c).Φ t.succ = Inv V c t.succ from rfl,
    show (dat1 V c).owesAt () t.succ = (dat1 V c).owesAt () t.castSucc from rfl,
    after_0, after_1, after_2, after_3, after_4, after_5, after_6, after_7, after_8, after_9, after_10, after_11, after_12, after_13,
    after_14, after_15, after_16, after_17, after_18, after_19, after_20, after_21, after_22, after_23, after_24, after_25, after_26]
  unfold Inv rowAt
  by_cases h0 : t.val % 2 = 0
  · rw [if_pos h0]
    iintro ⟨⟨⟨Hr, ⟨%S, HS, -⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
    H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21,
    H21⟩, ⟨%d22, H22⟩, ⟨%d23, H23⟩, ⟨%d24, H24⟩, ⟨%d25, H25⟩, ⟨%d26, H26⟩⟩
    iapply (body_first c (grid1.coords t)
      _ _ _ _ _ _ _ _ _ _ _ _ _ _ _ _ _ _ _ _ _ _ _ _ _ _ _ _ _ _ _ _ _ _ _ _ _ _ _ _ _ _ _ _ _ _ _ _ _ _ _ _ _ _ _ _
      ((first_iff t).mpr h0) (ins V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [H23]; · iexists _; iexact H23
    isplitl [H24]; · iexists _; iexact H24
    isplitl [H25]; · iexists _; iexact H25
    isplitl [H26]; · iexists _; iexact H26
    isplitl [HS]; · iexists _; iexact HS
    iintro ⟨H0, H1, H2, H3, H4, H5, H6, H7, H8, H9, H10, H11, H12, H13, H14, H15, H16, H17, H18, H19, H20, H21, H22, H23, H24, H25, H26, ⟨%S', HS, %hS'⟩⟩
    isplitl [Hr HS Hg]
    · isplitl [Hr HS]
      · isplitl [Hr]; · iexact Hr
        iexists S'; isplitl [HS]; · iexact HS
        ipureintro
        intro h
        exact hS'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  · rw [if_neg h0]
    iintro ⟨⟨⟨Hr, ⟨%S, HS, %hS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
    H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21,
    H21⟩, ⟨%d22, H22⟩, ⟨%d23, H23⟩, ⟨%d24, H24⟩, ⟨%d25, H25⟩, ⟨%d26, H26⟩⟩
    have hrow : run (blk V c 0 (prev t)) zrow = row0 S := (hS (by show t.val % 2 = 1; omega)).symm
    rw [hrow]
    iapply (body_next c (grid1.coords t)
      _ _ _ _ _ _ _ _ _ _ _ _ _ _ _ _ _ _ _ _ _ _ _ _ _ _ _ _ _ _ _ _ _ _ _ _ _ _ _ _ _ _ _ _ _ _ _ _ _ _ _ _ _ _ _ _
      (fun h => h0 ((first_iff t).mp h)) (ins V c t) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [H23]; · iexists _; iexact H23
    isplitl [H24]; · iexists _; iexact H24
    isplitl [H25]; · iexists _; iexact H25
    isplitl [H26]; · iexists _; iexact H26
    isplitl [HS]; · iexact HS
    iintro ⟨H0, H1, H2, H3, H4, H5, H6, H7, H8, H9, H10, H11, H12, H13, H14, H15, H16, H17, H18, H19, H20, H21, H22, H23, H24, H25, H26, ⟨%S', HS, %hS'⟩⟩
    isplitl [Hr HS Hg]
    · isplitl [Hr HS]
      · isplitl [Hr]; · iexact Hr
        iexists S'; isplitl [HS]; · iexact HS
        ipureintro
        intro h
        exact absurd h (by show ¬(t.val + 1) % 2 = 1; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 2000000 in
/-- The library's body obligation at every point. -/
theorem body_obligation1 (c : Dev nD) : BodyObligation (dat1 (F := F) V c) (defs₀ (F := F)) Variants.none () Set.univ := fun t => by
  rw [bigSep_W1, bigSep_W1, defs₀_row1]
  exact triple_restated (sound V c t) rfl .rfl fun _ => .rfl

end Cert.KernelIdeal.Fused

end
-- ==== Proof.Run.lean ====
module

public import proofs.«01_k».proof.Proof.Region0
public import proofs.«01_k».proof.Proof.Region1
public import proofs.«01_k».proof.Proof.Gen.KernelIdeal.Launch
public import Idealize.ShloMosaic.Lib.Pipeline.FrameSuffix
public import Idealize.ShloMosaic.Lib.Pipeline.RegionsLoop
public import Idealize.ShloMosaic.Lib.Tactic
public import Idealize.ShloMosaic.Lib.StableHlo.RunHlo

/-! # The run of the whole program

The two regions and the two host stretches, from the launch to the return: every buffer ends at the
contents `W4` names and every semaphore at zero. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## The host stretches: none allocates a buffer, and each lists the references its operations write, in order,
    so that a reference absent from the list keeps its contents across the stretch -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4, main_v5, main_v6, main_v7, main_v8, main_v9, main_v10, main_v11]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v13, main_v14, main_v15, main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered. -/
def W1 (c : Dev nD) : Valuation τ sig (Elt F) :=
  Pipeline.withArrays spec0 c (W0 m ρ c) fun w => (Totals.dat0 (V0 m ρ) c).arrAt w cfg0.N
theorem W1_arr (c : Dev nD) (w : Fin cfg0.W) :
    W1 m ρ c (Proc.devRef .tc (Pipeline.arrRef spec0 w)) = (Totals.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `Totals.A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Totals.dat0 (V0 m ρ) c).arrAt_in w (h w rfl) _).trans (Totals.A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`). -/
theorem hF0 (c : Dev nD) (w : Fin cfg0.W) : (Totals.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (Fused.dat1 (V2 m ρ) c).arrAt w cfg1.N
theorem W3_arr (c : Dev nD) (w : Fin cfg1.W) :
    W3 m ρ c (Proc.devRef .tc (Pipeline.arrRef spec1 w)) = (Fused.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `Fused.A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Fused.dat1 (V2 m ρ) c).arrAt_in w (h w rfl) _).trans (Fused.A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (Fused.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => Totals.dat0 (V0 m ρ) c
  | ⟨1, _⟩ => fun c => Fused.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Totals.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Totals.A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Fused.A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Fused.Inv (V2 m ρ) c 0 from rfl]
    refine BIBase.Entails.trans ?_ (Fused.inv_in (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = Fused.Inv (V2 m ρ) c (Fin.last _) from rfl]
    refine (Fused.inv_out (V2 m ρ) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The program runs to the end: every buffer ends at `W4`, every semaphore at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The program leaves its arguments as they were. -/
theorem args : θ_run defs (onTc (τ := τ) (main (F := F))) ⟨m, fun _ => 0, ρ⟩ (fun r =>
      (∀ c : Dev nD, ∀ a ∈ argRefs, r.2.mem ((c : Thread nD τ).loc a) = m ((c : Thread nD τ).loc a)) ∧ r.2.sem = fun _ => 0) :=
  θ_run_mono (run m ρ) fun r h =>
    ⟨fun c a ha => (h.1 c _ (mem_uc a (by revert a; decide))).trans (W4_args m ρ c a ha), h.2⟩

end Cert.KernelIdeal.Run

end
-- ==== Proof.RefOps.lean ====
module

public import proofs.«01_k».proof.Proof.Gen.ReferenceIdeal
public import Idealize.ShloMosaic.Lib.StableHlo.Run
public import Idealize.ShloMosaic.Lib.Pipeline.Frame

/-! # The reference's operations

@main as a list of host operations, a called function's operations in its call's place. -/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v42`, named. It packs its operands into a list of dependent pairs
    whose shapes a later argument's type mentions, so `simp` cannot rewrite an operand where it stands; applied by
    name, the operands are plain arguments, which the window lemmas below rewrite before the name unfolds. -/
def fn_main_v42 : (⟨S4x8192x9, .f32⟩ : BufTy).Contents (Elt F) → (⟨S4x8192x9, .f32⟩ : BufTy).Contents (Elt F) → (⟨S4x8192x18, .f32⟩ : BufTy).Contents (Elt F) :=
  (fun a b => concatenate S4x8192x18 2 [⟨S4x8192x9, a⟩, ⟨S4x8192x9, b⟩] concatenates_S4x8192x9_S4x8192x9_S4x8192x18_d2)

/-- The function of the operation that writes `main_v156`, named. It packs its operands into a list of dependent pairs
    whose shapes a later argument's type mentions, so `simp` cannot rewrite an operand where it stands; applied by
    name, the operands are plain arguments, which the window lemmas below rewrite before the name unfolds. -/
def fn_main_v156 : (⟨S4x8192x1, .i32⟩ : BufTy).Contents (Elt F) → (⟨S4x8192x1, .i32⟩ : BufTy).Contents (Elt F) → (⟨S4x8192x2, .i32⟩ : BufTy).Contents (Elt F) :=
  (fun a b => concatenate S4x8192x2 2 [⟨S4x8192x1, a⟩, ⟨S4x8192x1, b⟩] concatenates_S4x8192x1_S4x8192x1_S4x8192x2_d2)

/-- @main's operations 1 … 30 of 266 (window `main_part0`). -/
abbrev ops_part0_0 : List (HloOp τ sig (Elt F)) :=
  [ unary main_arg3 main_v0 (broadcastInDim S4x8192x1 ![0, 1] bcast_S4x8192_S4x8192x1_0_1 : (⟨S4x8192, .f32⟩ : BufTy).Contents (Elt F) → (⟨S4x8192x1, .f32⟩ : BufTy).Contents (Elt F)),
    unary main_arg2 main_v1 (broadcastInDim S4x1x64 ![0, 2] bcast_S4x64_S4x1x64_0_2 : (⟨S4x64, .f32⟩ : BufTy).Contents (Elt F) → (⟨S4x1x64, .f32⟩ : BufTy).Contents (Elt F)),
    unary main_v0 main_v2 (broadcastInDim S4x8192x64 ![0, 1, 2] bcast_S4x8192x1_S4x8192x64_0_1_2 : (⟨S4x8192x1, .f32⟩ : BufTy).Contents (Elt F) → (⟨S4x8192x64, .f32⟩ : BufTy).Contents (Elt F)),
    binary main_arg1 main_v2 main_v3 (mulf : (⟨S4x8192x64, .f32⟩ : BufTy).Contents (Elt F) → (⟨S4x8192x64, .f32⟩ : BufTy).Contents (Elt F) → (⟨S4x8192x64, .f32⟩ : BufTy).Contents (Elt F)),
    unary main_v1 main_v4 (broadcastInDim S4x8192x64 ![0, 1, 2] bcast_S4x1x64_S4x8192x64_0_1_2 : (⟨S4x1x64, .f32⟩ : BufTy).Contents (Elt F) → (⟨S4x8192x64, .f32⟩ : BufTy).Contents (Elt F)),
    binary main_v3 main_v4 main_v5 (mulf : (⟨S4x8192x64, .f32⟩ : BufTy).Contents (Elt F) → (⟨S4x8192x64, .f32⟩ : BufTy).Contents (Elt F) → (⟨S4x8192x64, .f32⟩ : BufTy).Contents (Elt F)),
    nullary main_cst (constant S_ .f32 0x00000000#32),
    binary main_v5 main_cst main_v6 ((fun x v => Host.reduceAdd x v reducesTo_S4x8192x64_S4x8192_d2 h_S_) : (⟨S4x8192x64, .f32⟩ : BufTy).Contents (Elt F) → (⟨S_, .f32⟩ : BufTy).Contents (Elt F) → (⟨S4x8192, .f32⟩ : BufTy).Contents (Elt F)),
    unary main_v6 main_v7 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x322BCC77#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x8192x1, .f32⟩) main_call0_v1) (broadcastInDim S4x8192x1 ![] bcast_S_S4x8192x1),
    TRef.binary (TRef.of (T := ⟨S4x8192x1, .f32⟩) main_call0_v1) (TRef.of (T := ⟨S4x8192x1, .f32⟩) main_v7) (TRef.of (T := ⟨S4x8192x1, .f32⟩) main_v8) maximumf,
    unary main_v8 main_v9 (broadcastInDim S4x8192x64 ![0, 1, 2] bcast_S4x8192x1_S4x8192x64_0_1_2 : (⟨S4x8192x1, .f32⟩ : BufTy).Contents (Elt F) → (⟨S4x8192x64, .f32⟩ : BufTy).Contents (Elt F)),
    binary main_v5 main_v9 main_v10 (Host.divf : (⟨S4x8192x64, .f32⟩ : BufTy).Contents (Elt F) → (⟨S4x8192x64, .f32⟩ : BufTy).Contents (Elt F) → (⟨S4x8192x64, .f32⟩ : BufTy).Contents (Elt F)),
    unary main_v0 main_v11 (broadcastInDim S4x8192x64 ![0, 1, 2] bcast_S4x8192x1_S4x8192x64_0_1_2 : (⟨S4x8192x1, .f32⟩ : BufTy).Contents (Elt F) → (⟨S4x8192x64, .f32⟩ : BufTy).Contents (Elt F)),
    binary main_v10 main_v11 main_v12 (mulf : (⟨S4x8192x64, .f32⟩ : BufTy).Contents (Elt F) → (⟨S4x8192x64, .f32⟩ : BufTy).Contents (Elt F) → (⟨S4x8192x64, .f32⟩ : BufTy).Contents (Elt F)),
    TRef.nullary (TRef.of (T := ⟨S4x8192x64, .i32⟩) main_call1_v0) (iotaInDim S4x8192x64 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x8192x64, .f32⟩) main_v12) (TRef.of (T := ⟨S4x8192x64, .i32⟩) main_call1_v0) (TRef.of (T := ⟨S_, .f32⟩) main_call1_cst) (TRef.of (T := ⟨S_, .i32⟩) main_call1_c) (TRef.of (T := ⟨S4x8192, .f32⟩) main_call1_v1_0) (fun x y u v j => (Host.argReduce reducer_argmax_f32_i32 x y u v reducesTo_S4x8192x64_S4x8192_d2 h_S_ j).1),
    TRef.quaternary (TRef.of (T := ⟨S4x8192x64, .f32⟩) main_v12) (TRef.of (T := ⟨S4x8192x64, .i32⟩) main_call1_v0) (TRef.of (T := ⟨S_, .f32⟩) main_call1_cst) (TRef.of (T := ⟨S_, .i32⟩) main_call1_c) (TRef.of (T := ⟨S4x8192, .i32⟩) main_v13) (fun x y u v j => (Host.argReduce reducer_argmax_f32_i32 x y u v reducesTo_S4x8192x64_S4x8192_d2 h_S_ j).2),
    TRef.unary (TRef.of (T := ⟨S4x8192, .i32⟩) main_v13) (TRef.of (T := ⟨S4x8192x1, .i32⟩) main_call2_v0) (broadcastInDim S4x8192x1 ![0, 1] bcast_S4x8192_S4x8192x1_0_1),
    TRef.nullary (TRef.of (T := ⟨S1x1x64, .i32⟩) main_call2_v1) (iotaInDim S1x1x64 32 2),
    TRef.unary (TRef.of (T := ⟨S4x8192x1, .i32⟩) main_call2_v0) (TRef.of (T := ⟨S4x8192x64, .i32⟩) main_call2_v2) (broadcastInDim S4x8192x64 ![0, 1, 2] bcast_S4x8192x1_S4x8192x64_0_1_2),
    TRef.unary (TRef.of (T := ⟨S1x1x64, .i32⟩) main_call2_v1) (TRef.of (T := ⟨S4x8192x64, .i32⟩) main_call2_v3) (broadcastInDim S4x8192x64 ![0, 1, 2] bcast_S1x1x64_S4x8192x64_0_1_2),
    TRef.binary (TRef.of (T := ⟨S4x8192x64, .i32⟩) main_call2_v2) (TRef.of (T := ⟨S4x8192x64, .i32⟩) main_call2_v3) (TRef.of (T := ⟨S4x8192x64, .i1⟩) main_call2_v4) (cmpi .eq),
    TRef.unary (TRef.of (T := ⟨S4x8192x64, .i1⟩) main_call2_v4) (TRef.of (T := ⟨S4x8192x64, .f32⟩) main_v14) (uitofp .f32),
    unary main_v0 main_v15 (broadcastInDim S4x8192x64 ![0, 1, 2] bcast_S4x8192x1_S4x8192x64_0_1_2 : (⟨S4x8192x1, .f32⟩ : BufTy).Contents (Elt F) → (⟨S4x8192x64, .f32⟩ : BufTy).Contents (Elt F)),
    binary main_v14 main_v15 main_v16 (mulf : (⟨S4x8192x64, .f32⟩ : BufTy).Contents (Elt F) → (⟨S4x8192x64, .f32⟩ : BufTy).Contents (Elt F) → (⟨S4x8192x64, .f32⟩ : BufTy).Contents (Elt F)),
    binary main_v16 main_v12 main_v17 (subf : (⟨S4x8192x64, .f32⟩ : BufTy).Contents (Elt F) → (⟨S4x8192x64, .f32⟩ : BufTy).Contents (Elt F) → (⟨S4x8192x64, .f32⟩ : BufTy).Contents (Elt F)),
    binary main_v17 main_v12 main_v18 (addf : (⟨S4x8192x64, .f32⟩ : BufTy).Contents (Elt F) → (⟨S4x8192x64, .f32⟩ : BufTy).Contents (Elt F) → (⟨S4x8192x64, .f32⟩ : BufTy).Contents (Elt F)) ]

/-- @main's operations 31 … 60 of 266 (window `main_part0`). -/
abbrev ops_part0_1 : List (HloOp τ sig (Elt F)) :=
  [ unary main_v0 main_v19 (broadcastInDim S4x8192x64 ![0, 1, 2] bcast_S4x8192x1_S4x8192x64_0_1_2 : (⟨S4x8192x1, .f32⟩ : BufTy).Contents (Elt F) → (⟨S4x8192x64, .f32⟩ : BufTy).Contents (Elt F)),
    binary main_v12 main_v19 main_v20 (mulf : (⟨S4x8192x64, .f32⟩ : BufTy).Contents (Elt F) → (⟨S4x8192x64, .f32⟩ : BufTy).Contents (Elt F) → (⟨S4x8192x64, .f32⟩ : BufTy).Contents (Elt F)),
    TRef.nullary (TRef.of (T := ⟨S_, .f32⟩) main_call3_call0_cst) (constant S_ .f32 0x00000000#32),
    TRef.unary (TRef.of (T := ⟨S_, .f32⟩) main_call3_call0_cst) (TRef.of (T := ⟨S_, .f32⟩) main_call3_call0_v0) (broadcastInDim S_ ![] bcast_S_S_),
    TRef.binary (TRef.of (T := ⟨S4x8192x64, .f32⟩) main_v20) (TRef.of (T := ⟨S_, .f32⟩) main_call3_call0_v0) (TRef.of (T := ⟨S4x8192x64, .f32⟩) main_v21) (fun x v => Host.reduceWindowAdd ![1, 8192, 1] ![1, 1, 1] ![0, 8191, 0] ![0, 0, 0] x v reduceWindows_S4x8192x64_S4x8192x64_w1s1p0_0_w8192s1p8191_0_w1s1p0_0 h_S_),
    nullary main_cst_1 (constant S_ .f32 0x00000000#32),
    binary main_v20 main_cst_1 main_v22 ((fun x v => Host.reduceAdd x v reducesTo_S4x8192x64_S4x64_d1 h_S_) : (⟨S4x8192x64, .f32⟩ : BufTy).Contents (Elt F) → (⟨S_, .f32⟩ : BufTy).Contents (Elt F) → (⟨S4x64, .f32⟩ : BufTy).Contents (Elt F)),
    unary main_v22 main_v23 (broadcastInDim S4x1x64 ![0, 2] bcast_S4x64_S4x1x64_0_2 : (⟨S4x64, .f32⟩ : BufTy).Contents (Elt F) → (⟨S4x1x64, .f32⟩ : BufTy).Contents (Elt F)),
    nullary main_cst_2 (constant S_ .f32 0x322BCC77#32),
    TRef.unary (TRef.of (T := ⟨S_, .f32⟩) main_cst_2) (TRef.of (T := ⟨S_, .f32⟩) main_call4_v0) id,
    TRef.unary (TRef.of (T := ⟨S_, .f32⟩) main_call4_v0) (TRef.of (T := ⟨S4x1x64, .f32⟩) main_call4_v1) (broadcastInDim S4x1x64 ![] bcast_S_S4x1x64),
    TRef.binary (TRef.of (T := ⟨S4x1x64, .f32⟩) main_call4_v1) (TRef.of (T := ⟨S4x1x64, .f32⟩) main_v23) (TRef.of (T := ⟨S4x1x64, .f32⟩) main_v24) maximumf,
    unary main_v24 main_v25 (broadcastInDim S4x8192x64 ![0, 1, 2] bcast_S4x1x64_S4x8192x64_0_1_2 : (⟨S4x1x64, .f32⟩ : BufTy).Contents (Elt F) → (⟨S4x8192x64, .f32⟩ : BufTy).Contents (Elt F)),
    binary main_v21 main_v25 main_v26 (Host.divf : (⟨S4x8192x64, .f32⟩ : BufTy).Contents (Elt F) → (⟨S4x8192x64, .f32⟩ : BufTy).Contents (Elt F) → (⟨S4x8192x64, .f32⟩ : BufTy).Contents (Elt F)),
    binary main_v20 main_v26 main_v27 (mulf : (⟨S4x8192x64, .f32⟩ : BufTy).Contents (Elt F) → (⟨S4x8192x64, .f32⟩ : BufTy).Contents (Elt F) → (⟨S4x8192x64, .f32⟩ : BufTy).Contents (Elt F)),
    nullary main_cst_3 (constant S_ .f32 0x00000000#32),
    binary main_v27 main_cst_3 main_v28 ((fun x v => Host.reduceAdd x v reducesTo_S4x8192x64_S4x8192_d2 h_S_) : (⟨S4x8192x64, .f32⟩ : BufTy).Contents (Elt F) → (⟨S_, .f32⟩ : BufTy).Contents (Elt F) → (⟨S4x8192, .f32⟩ : BufTy).Contents (Elt F)),
    binary main_v28 main_arg3 main_v29 (mulf : (⟨S4x8192, .f32⟩ : BufTy).Contents (Elt F) → (⟨S4x8192, .f32⟩ : BufTy).Contents (Elt F) → (⟨S4x8192, .f32⟩ : BufTy).Contents (Elt F)),
    nullary main_v30 (sitofp .f32 (iotaInDim S9 32 0)),
    nullary main_cst_4 (constant S_ .f32 0x40000000#32),
    unary main_cst_4 main_v31 (broadcastInDim S9 ![] bcast_S_S9 : (⟨S_, .f32⟩ : BufTy).Contents (Elt F) → (⟨S9, .f32⟩ : BufTy).Contents (Elt F)),
    binary main_v31 main_v30 main_v32 (Host.powf : (⟨S9, .f32⟩ : BufTy).Contents (Elt F) → (⟨S9, .f32⟩ : BufTy).Contents (Elt F) → (⟨S9, .f32⟩ : BufTy).Contents (Elt F)),
    nullary main_cst_5 (constant S_ .f32 0x40490FDB#32),
    unary main_cst_5 main_v33 (broadcastInDim S9 ![] bcast_S_S9 : (⟨S_, .f32⟩ : BufTy).Contents (Elt F) → (⟨S9, .f32⟩ : BufTy).Contents (Elt F)),
    binary main_v32 main_v33 main_v34 (mulf : (⟨S9, .f32⟩ : BufTy).Contents (Elt F) → (⟨S9, .f32⟩ : BufTy).Contents (Elt F) → (⟨S9, .f32⟩ : BufTy).Contents (Elt F)),
    unary main_v29 main_v35 (broadcastInDim S4x8192x1 ![0, 1] bcast_S4x8192_S4x8192x1_0_1 : (⟨S4x8192, .f32⟩ : BufTy).Contents (Elt F) → (⟨S4x8192x1, .f32⟩ : BufTy).Contents (Elt F)),
    unary main_v34 main_v36 (broadcastInDim S1x1x9 ![2] bcast_S9_S1x1x9_2 : (⟨S9, .f32⟩ : BufTy).Contents (Elt F) → (⟨S1x1x9, .f32⟩ : BufTy).Contents (Elt F)),
    unary main_v35 main_v37 (broadcastInDim S4x8192x9 ![0, 1, 2] bcast_S4x8192x1_S4x8192x9_0_1_2 : (⟨S4x8192x1, .f32⟩ : BufTy).Contents (Elt F) → (⟨S4x8192x9, .f32⟩ : BufTy).Contents (Elt F)),
    unary main_v36 main_v38 (broadcastInDim S4x8192x9 ![0, 1, 2] bcast_S1x1x9_S4x8192x9_0_1_2 : (⟨S1x1x9, .f32⟩ : BufTy).Contents (Elt F) → (⟨S4x8192x9, .f32⟩ : BufTy).Contents (Elt F)),
    binary main_v37 main_v38 main_v39 (mulf : (⟨S4x8192x9, .f32⟩ : BufTy).Contents (Elt F) → (⟨S4x8192x9, .f32⟩ : BufTy).Contents (Elt F) → (⟨S4x8192x9, .f32⟩ : BufTy).Contents (Elt F)) ]

/-- @main's operations 61 … 73 of 266 (window `main_part0`). -/
abbrev ops_part0_2 : List (HloOp τ sig (Elt F)) :=
  [ unary main_v39 main_v40 (Host.sin : (⟨S4x8192x9, .f32⟩ : BufTy).Contents (Elt F) → (⟨S4x8192x9, .f32⟩ : BufTy).Contents (Elt F)),
    unary main_v39 main_v41 (Host.cos : (⟨S4x8192x9, .f32⟩ : BufTy).Contents (Elt F) → (⟨S4x8192x9, .f32⟩ : BufTy).Contents (Elt F)),
    binary main_v40 main_v41 main_v42 (fn_main_v42 (F := F)),
    binary main_v42 main_arg7 main_v43 ((fun l r => Host.dotGeneral dot_S4x8192x18_S18x768_S4x8192x768_2_0_01_1_n_n none l r) : (⟨S4x8192x18, .f32⟩ : BufTy).Contents (Elt F) → (⟨S18x768, .f32⟩ : BufTy).Contents (Elt F) → (⟨S4x8192x768, .f32⟩ : BufTy).Contents (Elt F)),
    unary main_arg8 main_v44 (broadcastInDim S1x1x768 ![2] bcast_S768_S1x1x768_2 : (⟨S768, .f32⟩ : BufTy).Contents (Elt F) → (⟨S1x1x768, .f32⟩ : BufTy).Contents (Elt F)),
    unary main_v44 main_v45 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v43 main_v45 main_v46 (addf : (⟨S4x8192x768, .f32⟩ : BufTy).Contents (Elt F) → (⟨S4x8192x768, .f32⟩ : BufTy).Contents (Elt F) → (⟨S4x8192x768, .f32⟩ : BufTy).Contents (Elt F)),
    unary main_v0 main_v47 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v46 main_v47 main_v48 (mulf : (⟨S4x8192x768, .f32⟩ : BufTy).Contents (Elt F) → (⟨S4x8192x768, .f32⟩ : BufTy).Contents (Elt F) → (⟨S4x8192x768, .f32⟩ : BufTy).Contents (Elt F)),
    binary main_v18 main_arg0 main_v49 ((fun l r => Host.dotGeneral dot_S4x8192x64_S4x64x768_S4x8192x768_2_1_1_2_0_0 none l r) : (⟨S4x8192x64, .f32⟩ : BufTy).Contents (Elt F) → (⟨S4x64x768, .f32⟩ : BufTy).Contents (Elt F) → (⟨S4x8192x768, .f32⟩ : BufTy).Contents (Elt F)),
    nullary main_cst_6 (constant S_ .f32 0x3F800000#32),
    unary main_cst_6 main_v50 (broadcastInDim S4x8192x768 ![] bcast_S_S4x8192x768 : (⟨S_, .f32⟩ : BufTy).Contents (Elt F) → (⟨S4x8192x768, .f32⟩ : BufTy).Contents (Elt F)),
    binary main_v50 main_v48 main_v51 (mulf : (⟨S4x8192x768, .f32⟩ : BufTy).Contents (Elt F) → (⟨S4x8192x768, .f32⟩ : BufTy).Contents (Elt F) → (⟨S4x8192x768, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 74 … 103 of 266 (window `main_part1`). -/
abbrev ops_part1_0 : List (HloOp τ sig (Elt F)) :=
  [ binary main_v49 main_v51 main_v52 (addf : (⟨S4x8192x768, .f32⟩ : BufTy).Contents (Elt F) → (⟨S4x8192x768, .f32⟩ : BufTy).Contents (Elt F) → (⟨S4x8192x768, .f32⟩ : BufTy).Contents (Elt F)),
    unary main_v0 main_v53 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v52 main_v53 main_v54 (mulf : (⟨S4x8192x768, .f32⟩ : BufTy).Contents (Elt F) → (⟨S4x8192x768, .f32⟩ : BufTy).Contents (Elt F) → (⟨S4x8192x768, .f32⟩ : BufTy).Contents (Elt F)),
    nullary main_cst_7 (constant S_ .f32 0x00000000#32),
    binary main_v54 main_cst_7 main_v55 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v55 main_v56 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_8 (constant S_ .f32 0x44400000#32),
    unary main_cst_8 main_v57 (broadcastInDim S4x8192x1 ![] bcast_S_S4x8192x1 : (⟨S_, .f32⟩ : BufTy).Contents (Elt F) → (⟨S4x8192x1, .f32⟩ : BufTy).Contents (Elt F)),
    binary main_v56 main_v57 main_v58 (Host.divf : (⟨S4x8192x1, .f32⟩ : BufTy).Contents (Elt F) → (⟨S4x8192x1, .f32⟩ : BufTy).Contents (Elt F) → (⟨S4x8192x1, .f32⟩ : BufTy).Contents (Elt F)),
    nullary main_c (constantI S_ 32 0#32),
    TRef.nullary (TRef.of (T := ⟨S_, .f32⟩) main_call5_cst) (constant S_ .f32 0x00000000#32),
    TRef.binary (TRef.of (T := ⟨S4x8192x768, .f32⟩) main_v54) (TRef.of (T := ⟨S_, .f32⟩) main_call5_cst) (TRef.of (T := ⟨S4x8192, .f32⟩) main_call5_v0) (fun x v => Host.reduceAdd x v reducesTo_S4x8192x768_S4x8192_d2 h_S_),
    TRef.unary (TRef.of (T := ⟨S4x8192, .f32⟩) main_call5_v0) (TRef.of (T := ⟨S4x8192x1, .f32⟩) main_call5_v1) (broadcastInDim S4x8192x1 ![0, 1] bcast_S4x8192_S4x8192x1_0_1),
    TRef.nullary (TRef.of (T := ⟨S_, .f32⟩) main_call5_cst_0) (constant S_ .f32 0x44400000#32),
    TRef.unary (TRef.of (T := ⟨S_, .f32⟩) main_call5_cst_0) (TRef.of (T := ⟨S4x8192x1, .f32⟩) main_call5_v2) (broadcastInDim S4x8192x1 ![] bcast_S_S4x8192x1),
    TRef.binary (TRef.of (T := ⟨S4x8192x1, .f32⟩) main_call5_v1) (TRef.of (T := ⟨S4x8192x1, .f32⟩) main_call5_v2) (TRef.of (T := ⟨S4x8192x1, .f32⟩) main_call5_v3) Host.divf,
    TRef.unary (TRef.of (T := ⟨S4x8192x1, .f32⟩) main_call5_v3) (TRef.of (T := ⟨S4x8192x768, .f32⟩) main_call5_v4) (broadcastInDim S4x8192x768 ![0, 1, 2] bcast_S4x8192x1_S4x8192x768_0_1_2),
    TRef.binary (TRef.of (T := ⟨S4x8192x768, .f32⟩) main_v54) (TRef.of (T := ⟨S4x8192x768, .f32⟩) main_call5_v4) (TRef.of (T := ⟨S4x8192x768, .f32⟩) main_call5_v5) subf,
    TRef.binary (TRef.of (T := ⟨S4x8192x768, .f32⟩) main_call5_v5) (TRef.of (T := ⟨S4x8192x768, .f32⟩) main_call5_v5) (TRef.of (T := ⟨S4x8192x768, .f32⟩) main_call5_v6) mulf,
    TRef.unary (TRef.of (T := ⟨S_, .i32⟩) main_c) (TRef.of (T := ⟨S_, .f32⟩) main_call5_v7) (sitofp .f32),
    TRef.nullary (TRef.of (T := ⟨S_, .f32⟩) main_call5_cst_1) (constant S_ .f32 0x44400000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S4x8192x768, .f32⟩) main_call5_v6) (TRef.of (T := ⟨S_, .f32⟩) main_call5_cst_2) (TRef.of (T := ⟨S4x8192, .f32⟩) main_call5_v9) (fun x v => Host.reduceAdd x v reducesTo_S4x8192x768_S4x8192_d2 h_S_),
    TRef.unary (TRef.of (T := ⟨S4x8192, .f32⟩) main_call5_v9) (TRef.of (T := ⟨S4x8192x1, .f32⟩) main_call5_v10) (broadcastInDim S4x8192x1 ![0, 1] bcast_S4x8192_S4x8192x1_0_1),
    TRef.unary (TRef.of (T := ⟨S_, .f32⟩) main_call5_v8) (TRef.of (T := ⟨S4x8192x1, .f32⟩) main_call5_v11) (broadcastInDim S4x8192x1 ![] bcast_S_S4x8192x1),
    TRef.binary (TRef.of (T := ⟨S4x8192x1, .f32⟩) main_call5_v10) (TRef.of (T := ⟨S4x8192x1, .f32⟩) main_call5_v11) (TRef.of (T := ⟨S4x8192x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32) ]

/-- @main's operations 104 … 133 of 266 (window `main_part1`). -/
abbrev ops_part1_1 : List (HloOp τ sig (Elt F)) :=
  [ TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S4x8192x1, .f32⟩) main_call5_call0_v1) (broadcastInDim S4x8192x1 ![] bcast_S_S4x8192x1),
    TRef.ternary (TRef.of (T := ⟨S_, .i1⟩) main_call5_v13) (TRef.of (T := ⟨S4x8192x1, .f32⟩) main_call5_v12) (TRef.of (T := ⟨S4x8192x1, .f32⟩) main_call5_call0_v1) (TRef.of (T := ⟨S4x8192x1, .f32⟩) main_v59) (fun p a b => select (broadcastInDim S4x8192x1 ![] bcast_S_S4x8192x1 p) a b),
    unary main_v58 main_v60 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v54 main_v60 main_v61 (subf : (⟨S4x8192x768, .f32⟩ : BufTy).Contents (Elt F) → (⟨S4x8192x768, .f32⟩ : BufTy).Contents (Elt F) → (⟨S4x8192x768, .f32⟩ : BufTy).Contents (Elt F)),
    nullary main_cst_9 (constant S_ .f32 0x3727C5AC#32),
    unary main_cst_9 main_v62 (broadcastInDim S4x8192x1 ![] bcast_S_S4x8192x1 : (⟨S_, .f32⟩ : BufTy).Contents (Elt F) → (⟨S4x8192x1, .f32⟩ : BufTy).Contents (Elt F)),
    binary main_v59 main_v62 main_v63 (addf : (⟨S4x8192x1, .f32⟩ : BufTy).Contents (Elt F) → (⟨S4x8192x1, .f32⟩ : BufTy).Contents (Elt F) → (⟨S4x8192x1, .f32⟩ : BufTy).Contents (Elt F)),
    unary main_v63 main_v64 (Host.sqrt : (⟨S4x8192x1, .f32⟩ : BufTy).Contents (Elt F) → (⟨S4x8192x1, .f32⟩ : BufTy).Contents (Elt F)),
    unary main_v64 main_v65 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v61 main_v65 main_v66 (Host.divf : (⟨S4x8192x768, .f32⟩ : BufTy).Contents (Elt F) → (⟨S4x8192x768, .f32⟩ : BufTy).Contents (Elt F) → (⟨S4x8192x768, .f32⟩ : BufTy).Contents (Elt F)),
    unary main_arg9 main_v67 (broadcastInDim S1x1x768 ![2] bcast_S768_S1x1x768_2 : (⟨S768, .f32⟩ : BufTy).Contents (Elt F) → (⟨S1x1x768, .f32⟩ : BufTy).Contents (Elt F)),
    unary main_v67 main_v68 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v66 main_v68 main_v69 (mulf : (⟨S4x8192x768, .f32⟩ : BufTy).Contents (Elt F) → (⟨S4x8192x768, .f32⟩ : BufTy).Contents (Elt F) → (⟨S4x8192x768, .f32⟩ : BufTy).Contents (Elt F)),
    unary main_arg10 main_v70 (broadcastInDim S1x1x768 ![2] bcast_S768_S1x1x768_2 : (⟨S768, .f32⟩ : BufTy).Contents (Elt F) → (⟨S1x1x768, .f32⟩ : BufTy).Contents (Elt F)),
    unary main_v70 main_v71 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v69 main_v71 main_v72 (addf : (⟨S4x8192x768, .f32⟩ : BufTy).Contents (Elt F) → (⟨S4x8192x768, .f32⟩ : BufTy).Contents (Elt F) → (⟨S4x8192x768, .f32⟩ : BufTy).Contents (Elt F)),
    binary main_v72 main_arg11 main_v73 ((fun l r => Host.dotGeneral dot_S4x8192x768_S768x768_S4x8192x768_2_0_01_1_n_n none l r) : (⟨S4x8192x768, .f32⟩ : BufTy).Contents (Elt F) → (⟨S768x768, .f32⟩ : BufTy).Contents (Elt F) → (⟨S4x8192x768, .f32⟩ : BufTy).Contents (Elt F)),
    unary main_arg12 main_v74 (broadcastInDim S1x1x768 ![2] bcast_S768_S1x1x768_2 : (⟨S768, .f32⟩ : BufTy).Contents (Elt F) → (⟨S1x1x768, .f32⟩ : BufTy).Contents (Elt F)),
    unary main_v74 main_v75 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v73 main_v75 main_v76 (addf : (⟨S4x8192x768, .f32⟩ : BufTy).Contents (Elt F) → (⟨S4x8192x768, .f32⟩ : BufTy).Contents (Elt F) → (⟨S4x8192x768, .f32⟩ : BufTy).Contents (Elt F)),
    unary main_v76 main_v77 (Host.negf : (⟨S4x8192x768, .f32⟩ : BufTy).Contents (Elt F) → (⟨S4x8192x768, .f32⟩ : BufTy).Contents (Elt F)),
    unary main_v77 main_v78 (Host.exp : (⟨S4x8192x768, .f32⟩ : BufTy).Contents (Elt F) → (⟨S4x8192x768, .f32⟩ : BufTy).Contents (Elt F)),
    nullary main_cst_10 (constant S_ .f32 0x3F800000#32),
    unary main_cst_10 main_v79 (broadcastInDim S4x8192x768 ![] bcast_S_S4x8192x768 : (⟨S_, .f32⟩ : BufTy).Contents (Elt F) → (⟨S4x8192x768, .f32⟩ : BufTy).Contents (Elt F)),
    binary main_v79 main_v78 main_v80 (addf : (⟨S4x8192x768, .f32⟩ : BufTy).Contents (Elt F) → (⟨S4x8192x768, .f32⟩ : BufTy).Contents (Elt F) → (⟨S4x8192x768, .f32⟩ : BufTy).Contents (Elt F)),
    nullary main_cst_11 (constant S_ .f32 0x3F800000#32),
    unary main_cst_11 main_v81 (broadcastInDim S4x8192x768 ![] bcast_S_S4x8192x768 : (⟨S_, .f32⟩ : BufTy).Contents (Elt F) → (⟨S4x8192x768, .f32⟩ : BufTy).Contents (Elt F)),
    binary main_v81 main_v80 main_v82 (Host.divf : (⟨S4x8192x768, .f32⟩ : BufTy).Contents (Elt F) → (⟨S4x8192x768, .f32⟩ : BufTy).Contents (Elt F) → (⟨S4x8192x768, .f32⟩ : BufTy).Contents (Elt F)),
    binary main_v76 main_v82 main_v83 (mulf : (⟨S4x8192x768, .f32⟩ : BufTy).Contents (Elt F) → (⟨S4x8192x768, .f32⟩ : BufTy).Contents (Elt F) → (⟨S4x8192x768, .f32⟩ : BufTy).Contents (Elt F)) ]

/-- @main's operations 134 … 163 of 266 (window `main_part1`). -/
abbrev ops_part1_2 : List (HloOp τ sig (Elt F)) :=
  [ binary main_v83 main_arg13 main_v84 ((fun l r => Host.dotGeneral dot_S4x8192x768_S768x768_S4x8192x768_2_0_01_1_n_n none l r) : (⟨S4x8192x768, .f32⟩ : BufTy).Contents (Elt F) → (⟨S768x768, .f32⟩ : BufTy).Contents (Elt F) → (⟨S4x8192x768, .f32⟩ : BufTy).Contents (Elt F)),
    unary main_arg14 main_v85 (broadcastInDim S1x1x768 ![2] bcast_S768_S1x1x768_2 : (⟨S768, .f32⟩ : BufTy).Contents (Elt F) → (⟨S1x1x768, .f32⟩ : BufTy).Contents (Elt F)),
    unary main_v85 main_v86 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v84 main_v86 main_v87 (addf : (⟨S4x8192x768, .f32⟩ : BufTy).Contents (Elt F) → (⟨S4x8192x768, .f32⟩ : BufTy).Contents (Elt F) → (⟨S4x8192x768, .f32⟩ : BufTy).Contents (Elt F)),
    unary main_v0 main_v88 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v87 main_v88 main_v89 (mulf : (⟨S4x8192x768, .f32⟩ : BufTy).Contents (Elt F) → (⟨S4x8192x768, .f32⟩ : BufTy).Contents (Elt F) → (⟨S4x8192x768, .f32⟩ : BufTy).Contents (Elt F)),
    nullary main_cst_12 (constant S_ .f32 0x00000000#32),
    binary main_v89 main_cst_12 main_v90 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v90 main_v91 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_13 (constant S_ .f32 0x44400000#32),
    unary main_cst_13 main_v92 (broadcastInDim S4x8192x1 ![] bcast_S_S4x8192x1 : (⟨S_, .f32⟩ : BufTy).Contents (Elt F) → (⟨S4x8192x1, .f32⟩ : BufTy).Contents (Elt F)),
    binary main_v91 main_v92 main_v93 (Host.divf : (⟨S4x8192x1, .f32⟩ : BufTy).Contents (Elt F) → (⟨S4x8192x1, .f32⟩ : BufTy).Contents (Elt F) → (⟨S4x8192x1, .f32⟩ : BufTy).Contents (Elt F)),
    nullary main_c_14 (constantI S_ 32 0#32),
    TRef.nullary (TRef.of (T := ⟨S_, .f32⟩) main_call6_cst) (constant S_ .f32 0x00000000#32),
    TRef.binary (TRef.of (T := ⟨S4x8192x768, .f32⟩) main_v89) (TRef.of (T := ⟨S_, .f32⟩) main_call6_cst) (TRef.of (T := ⟨S4x8192, .f32⟩) main_call6_v0) (fun x v => Host.reduceAdd x v reducesTo_S4x8192x768_S4x8192_d2 h_S_),
    TRef.unary (TRef.of (T := ⟨S4x8192, .f32⟩) main_call6_v0) (TRef.of (T := ⟨S4x8192x1, .f32⟩) main_call6_v1) (broadcastInDim S4x8192x1 ![0, 1] bcast_S4x8192_S4x8192x1_0_1),
    TRef.nullary (TRef.of (T := ⟨S_, .f32⟩) main_call6_cst_0) (constant S_ .f32 0x44400000#32),
    TRef.unary (TRef.of (T := ⟨S_, .f32⟩) main_call6_cst_0) (TRef.of (T := ⟨S4x8192x1, .f32⟩) main_call6_v2) (broadcastInDim S4x8192x1 ![] bcast_S_S4x8192x1),
    TRef.binary (TRef.of (T := ⟨S4x8192x1, .f32⟩) main_call6_v1) (TRef.of (T := ⟨S4x8192x1, .f32⟩) main_call6_v2) (TRef.of (T := ⟨S4x8192x1, .f32⟩) main_call6_v3) Host.divf,
    TRef.unary (TRef.of (T := ⟨S4x8192x1, .f32⟩) main_call6_v3) (TRef.of (T := ⟨S4x8192x768, .f32⟩) main_call6_v4) (broadcastInDim S4x8192x768 ![0, 1, 2] bcast_S4x8192x1_S4x8192x768_0_1_2),
    TRef.binary (TRef.of (T := ⟨S4x8192x768, .f32⟩) main_v89) (TRef.of (T := ⟨S4x8192x768, .f32⟩) main_call6_v4) (TRef.of (T := ⟨S4x8192x768, .f32⟩) main_call6_v5) subf,
    TRef.binary (TRef.of (T := ⟨S4x8192x768, .f32⟩) main_call6_v5) (TRef.of (T := ⟨S4x8192x768, .f32⟩) main_call6_v5) (TRef.of (T := ⟨S4x8192x768, .f32⟩) main_call6_v6) mulf,
    TRef.unary (TRef.of (T := ⟨S_, .i32⟩) main_c_14) (TRef.of (T := ⟨S_, .f32⟩) main_call6_v7) (sitofp .f32),
    TRef.nullary (TRef.of (T := ⟨S_, .f32⟩) main_call6_cst_1) (constant S_ .f32 0x44400000#32),
    TRef.binary (TRef.of (T := ⟨S_, .f32⟩) main_call6_cst_1) (TRef.of (T := ⟨S_, .f32⟩) main_call6_v7) (TRef.of (T := ⟨S_, .f32⟩) main_call6_v8) subf,
    TRef.nullary (TRef.of (T := ⟨S_, .f32⟩) main_call6_cst_2) (constant S_ .f32 0x00000000#32),
    TRef.binary (TRef.of (T := ⟨S4x8192x768, .f32⟩) main_call6_v6) (TRef.of (T := ⟨S_, .f32⟩) main_call6_cst_2) (TRef.of (T := ⟨S4x8192, .f32⟩) main_call6_v9) (fun x v => Host.reduceAdd x v reducesTo_S4x8192x768_S4x8192_d2 h_S_),
    TRef.unary (TRef.of (T := ⟨S4x8192, .f32⟩) main_call6_v9) (TRef.of (T := ⟨S4x8192x1, .f32⟩) main_call6_v10) (broadcastInDim S4x8192x1 ![0, 1] bcast_S4x8192_S4x8192x1_0_1),
    TRef.unary (TRef.of (T := ⟨S_, .f32⟩) main_call6_v8) (TRef.of (T := ⟨S4x8192x1, .f32⟩) main_call6_v11) (broadcastInDim S4x8192x1 ![] bcast_S_S4x8192x1),
    TRef.binary (TRef.of (T := ⟨S4x8192x1, .f32⟩) main_call6_v10) (TRef.of (T := ⟨S4x8192x1, .f32⟩) main_call6_v11) (TRef.of (T := ⟨S4x8192x1, .f32⟩) main_call6_v12) Host.divf ]

/-- @main's operations 164 … 177 of 266 (window `main_part1`). -/
abbrev ops_part1_3 : List (HloOp τ sig (Elt F)) :=
  [ TRef.nullary (TRef.of (T := ⟨S_, .f32⟩) main_call6_cst_3) (constant S_ .f32 0x00000000#32),
    TRef.binary (TRef.of (T := ⟨S_, .f32⟩) main_call6_v8) (TRef.of (T := ⟨S_, .f32⟩) main_call6_cst_3) (TRef.of (T := ⟨S_, .i1⟩) main_call6_v13) (cmpf .ogt),
    TRef.nullary (TRef.of (T := ⟨S_, .f32⟩) main_call6_cst_4) (constant S_ .f32 0x7FC00000#32),
    TRef.unary (TRef.of (T := ⟨S_, .f32⟩) main_call6_cst_4) (TRef.of (T := ⟨S_, .f32⟩) main_call6_call0_v0) id,
    TRef.unary (TRef.of (T := ⟨S_, .f32⟩) main_call6_call0_v0) (TRef.of (T := ⟨S4x8192x1, .f32⟩) main_call6_call0_v1) (broadcastInDim S4x8192x1 ![] bcast_S_S4x8192x1),
    TRef.ternary (TRef.of (T := ⟨S_, .i1⟩) main_call6_v13) (TRef.of (T := ⟨S4x8192x1, .f32⟩) main_call6_v12) (TRef.of (T := ⟨S4x8192x1, .f32⟩) main_call6_call0_v1) (TRef.of (T := ⟨S4x8192x1, .f32⟩) main_v94) (fun p a b => select (broadcastInDim S4x8192x1 ![] bcast_S_S4x8192x1 p) a b),
    unary main_v93 main_v95 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v89 main_v95 main_v96 (subf : (⟨S4x8192x768, .f32⟩ : BufTy).Contents (Elt F) → (⟨S4x8192x768, .f32⟩ : BufTy).Contents (Elt F) → (⟨S4x8192x768, .f32⟩ : BufTy).Contents (Elt F)),
    nullary main_cst_15 (constant S_ .f32 0x3727C5AC#32),
    unary main_cst_15 main_v97 (broadcastInDim S4x8192x1 ![] bcast_S_S4x8192x1 : (⟨S_, .f32⟩ : BufTy).Contents (Elt F) → (⟨S4x8192x1, .f32⟩ : BufTy).Contents (Elt F)),
    binary main_v94 main_v97 main_v98 (addf : (⟨S4x8192x1, .f32⟩ : BufTy).Contents (Elt F) → (⟨S4x8192x1, .f32⟩ : BufTy).Contents (Elt F) → (⟨S4x8192x1, .f32⟩ : BufTy).Contents (Elt F)),
    unary main_v98 main_v99 (Host.sqrt : (⟨S4x8192x1, .f32⟩ : BufTy).Contents (Elt F) → (⟨S4x8192x1, .f32⟩ : BufTy).Contents (Elt F)),
    unary main_v99 main_v100 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v96 main_v100 main_v101 (Host.divf : (⟨S4x8192x768, .f32⟩ : BufTy).Contents (Elt F) → (⟨S4x8192x768, .f32⟩ : BufTy).Contents (Elt F) → (⟨S4x8192x768, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 178 … 207 of 266 (window `main_part2`). -/
abbrev ops_part2_0 : List (HloOp τ sig (Elt F)) :=
  [ unary main_arg15 main_v102 (broadcastInDim S1x1x768 ![2] bcast_S768_S1x1x768_2 : (⟨S768, .f32⟩ : BufTy).Contents (Elt F) → (⟨S1x1x768, .f32⟩ : BufTy).Contents (Elt F)),
    unary main_v102 main_v103 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v101 main_v103 main_v104 (mulf : (⟨S4x8192x768, .f32⟩ : BufTy).Contents (Elt F) → (⟨S4x8192x768, .f32⟩ : BufTy).Contents (Elt F) → (⟨S4x8192x768, .f32⟩ : BufTy).Contents (Elt F)),
    unary main_arg16 main_v105 (broadcastInDim S1x1x768 ![2] bcast_S768_S1x1x768_2 : (⟨S768, .f32⟩ : BufTy).Contents (Elt F) → (⟨S1x1x768, .f32⟩ : BufTy).Contents (Elt F)),
    unary main_v105 main_v106 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v104 main_v106 main_v107 (addf : (⟨S4x8192x768, .f32⟩ : BufTy).Contents (Elt F) → (⟨S4x8192x768, .f32⟩ : BufTy).Contents (Elt F) → (⟨S4x8192x768, .f32⟩ : BufTy).Contents (Elt F)),
    binary main_v107 main_arg17 main_v108 ((fun l r => Host.dotGeneral dot_S4x8192x768_S768x256_S4x8192x256_2_0_01_1_n_n none l r) : (⟨S4x8192x768, .f32⟩ : BufTy).Contents (Elt F) → (⟨S768x256, .f32⟩ : BufTy).Contents (Elt F) → (⟨S4x8192x256, .f32⟩ : BufTy).Contents (Elt F)),
    unary main_arg18 main_v109 (broadcastInDim S1x1x256 ![2] bcast_S256_S1x1x256_2 : (⟨S256, .f32⟩ : BufTy).Contents (Elt F) → (⟨S1x1x256, .f32⟩ : BufTy).Contents (Elt F)),
    unary main_v109 main_v110 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v108 main_v110 main_v111 (addf : (⟨S4x8192x256, .f32⟩ : BufTy).Contents (Elt F) → (⟨S4x8192x256, .f32⟩ : BufTy).Contents (Elt F) → (⟨S4x8192x256, .f32⟩ : BufTy).Contents (Elt F)),
    unary main_v111 main_v112 (Host.negf : (⟨S4x8192x256, .f32⟩ : BufTy).Contents (Elt F) → (⟨S4x8192x256, .f32⟩ : BufTy).Contents (Elt F)),
    unary main_v112 main_v113 (Host.exp : (⟨S4x8192x256, .f32⟩ : BufTy).Contents (Elt F) → (⟨S4x8192x256, .f32⟩ : BufTy).Contents (Elt F)),
    nullary main_cst_16 (constant S_ .f32 0x3F800000#32),
    unary main_cst_16 main_v114 (broadcastInDim S4x8192x256 ![] bcast_S_S4x8192x256 : (⟨S_, .f32⟩ : BufTy).Contents (Elt F) → (⟨S4x8192x256, .f32⟩ : BufTy).Contents (Elt F)),
    binary main_v114 main_v113 main_v115 (addf : (⟨S4x8192x256, .f32⟩ : BufTy).Contents (Elt F) → (⟨S4x8192x256, .f32⟩ : BufTy).Contents (Elt F) → (⟨S4x8192x256, .f32⟩ : BufTy).Contents (Elt F)),
    nullary main_cst_17 (constant S_ .f32 0x3F800000#32),
    unary main_cst_17 main_v116 (broadcastInDim S4x8192x256 ![] bcast_S_S4x8192x256 : (⟨S_, .f32⟩ : BufTy).Contents (Elt F) → (⟨S4x8192x256, .f32⟩ : BufTy).Contents (Elt F)),
    binary main_v116 main_v115 main_v117 (Host.divf : (⟨S4x8192x256, .f32⟩ : BufTy).Contents (Elt F) → (⟨S4x8192x256, .f32⟩ : BufTy).Contents (Elt F) → (⟨S4x8192x256, .f32⟩ : BufTy).Contents (Elt F)),
    binary main_v111 main_v117 main_v118 (mulf : (⟨S4x8192x256, .f32⟩ : BufTy).Contents (Elt F) → (⟨S4x8192x256, .f32⟩ : BufTy).Contents (Elt F) → (⟨S4x8192x256, .f32⟩ : BufTy).Contents (Elt F)),
    binary main_v118 main_arg19 main_v119 ((fun l r => Host.dotGeneral dot_S4x8192x256_S256x256_S4x8192x256_2_0_01_1_n_n none l r) : (⟨S4x8192x256, .f32⟩ : BufTy).Contents (Elt F) → (⟨S256x256, .f32⟩ : BufTy).Contents (Elt F) → (⟨S4x8192x256, .f32⟩ : BufTy).Contents (Elt F)),
    unary main_arg20 main_v120 (broadcastInDim S1x1x256 ![2] bcast_S256_S1x1x256_2 : (⟨S256, .f32⟩ : BufTy).Contents (Elt F) → (⟨S1x1x256, .f32⟩ : BufTy).Contents (Elt F)),
    unary main_v120 main_v121 (broadcastInDim S4x8192x256 ![0, 1, 2] bcast_S1x1x256_S4x8192x256_0_1_2 : (⟨S1x1x256, .f32⟩ : BufTy).Contents (Elt F) → (⟨S4x8192x256, .f32⟩ : BufTy).Contents (Elt F)),
    binary main_v119 main_v121 main_v122 (addf : (⟨S4x8192x256, .f32⟩ : BufTy).Contents (Elt F) → (⟨S4x8192x256, .f32⟩ : BufTy).Contents (Elt F) → (⟨S4x8192x256, .f32⟩ : BufTy).Contents (Elt F)),
    unary main_v122 main_v123 (Host.negf : (⟨S4x8192x256, .f32⟩ : BufTy).Contents (Elt F) → (⟨S4x8192x256, .f32⟩ : BufTy).Contents (Elt F)),
    unary main_v123 main_v124 (Host.exp : (⟨S4x8192x256, .f32⟩ : BufTy).Contents (Elt F) → (⟨S4x8192x256, .f32⟩ : BufTy).Contents (Elt F)),
    nullary main_cst_18 (constant S_ .f32 0x3F800000#32),
    unary main_cst_18 main_v125 (broadcastInDim S4x8192x256 ![] bcast_S_S4x8192x256 : (⟨S_, .f32⟩ : BufTy).Contents (Elt F) → (⟨S4x8192x256, .f32⟩ : BufTy).Contents (Elt F)),
    binary main_v125 main_v124 main_v126 (addf : (⟨S4x8192x256, .f32⟩ : BufTy).Contents (Elt F) → (⟨S4x8192x256, .f32⟩ : BufTy).Contents (Elt F) → (⟨S4x8192x256, .f32⟩ : BufTy).Contents (Elt F)),
    nullary main_cst_19 (constant S_ .f32 0x3F800000#32),
    unary main_cst_19 main_v127 (broadcastInDim S4x8192x256 ![] bcast_S_S4x8192x256 : (⟨S_, .f32⟩ : BufTy).Contents (Elt F) → (⟨S4x8192x256, .f32⟩ : BufTy).Contents (Elt F)) ]

/-- @main's operations 208 … 237 of 266 (window `main_part2`). -/
abbrev ops_part2_1 : List (HloOp τ sig (Elt F)) :=
  [ binary main_v127 main_v126 main_v128 (Host.divf : (⟨S4x8192x256, .f32⟩ : BufTy).Contents (Elt F) → (⟨S4x8192x256, .f32⟩ : BufTy).Contents (Elt F) → (⟨S4x8192x256, .f32⟩ : BufTy).Contents (Elt F)),
    binary main_v122 main_v128 main_v129 (mulf : (⟨S4x8192x256, .f32⟩ : BufTy).Contents (Elt F) → (⟨S4x8192x256, .f32⟩ : BufTy).Contents (Elt F) → (⟨S4x8192x256, .f32⟩ : BufTy).Contents (Elt F)),
    binary main_v129 main_arg21 main_v130 ((fun l r => Host.dotGeneral dot_S4x8192x256_S256x3_S4x8192x3_2_0_01_1_n_n none l r) : (⟨S4x8192x256, .f32⟩ : BufTy).Contents (Elt F) → (⟨S256x3, .f32⟩ : BufTy).Contents (Elt F) → (⟨S4x8192x3, .f32⟩ : BufTy).Contents (Elt F)),
    unary main_arg22 main_v131 (broadcastInDim S1x1x3 ![2] bcast_S3_S1x1x3_2 : (⟨S3, .f32⟩ : BufTy).Contents (Elt F) → (⟨S1x1x3, .f32⟩ : BufTy).Contents (Elt F)),
    unary main_v131 main_v132 (broadcastInDim S4x8192x3 ![0, 1, 2] bcast_S1x1x3_S4x8192x3_0_1_2 : (⟨S1x1x3, .f32⟩ : BufTy).Contents (Elt F) → (⟨S4x8192x3, .f32⟩ : BufTy).Contents (Elt F)),
    binary main_v130 main_v132 main_v133 (addf : (⟨S4x8192x3, .f32⟩ : BufTy).Contents (Elt F) → (⟨S4x8192x3, .f32⟩ : BufTy).Contents (Elt F) → (⟨S4x8192x3, .f32⟩ : BufTy).Contents (Elt F)),
    unary main_v0 main_v134 (broadcastInDim S4x8192x3 ![0, 1, 2] bcast_S4x8192x1_S4x8192x3_0_1_2 : (⟨S4x8192x1, .f32⟩ : BufTy).Contents (Elt F) → (⟨S4x8192x3, .f32⟩ : BufTy).Contents (Elt F)),
    binary main_v133 main_v134 main_v135 (mulf : (⟨S4x8192x3, .f32⟩ : BufTy).Contents (Elt F) → (⟨S4x8192x3, .f32⟩ : BufTy).Contents (Elt F) → (⟨S4x8192x3, .f32⟩ : BufTy).Contents (Elt F)),
    unary main_v135 main_v136 (Host.tanh : (⟨S4x8192x3, .f32⟩ : BufTy).Contents (Elt F) → (⟨S4x8192x3, .f32⟩ : BufTy).Contents (Elt F)),
    nullary main_cst_20 (constant S_ .f32 0x3FC00000#32),
    unary main_cst_20 main_v137 (broadcastInDim S4x8192x3 ![] bcast_S_S4x8192x3 : (⟨S_, .f32⟩ : BufTy).Contents (Elt F) → (⟨S4x8192x3, .f32⟩ : BufTy).Contents (Elt F)),
    binary main_v136 main_v137 main_v138 (mulf : (⟨S4x8192x3, .f32⟩ : BufTy).Contents (Elt F) → (⟨S4x8192x3, .f32⟩ : BufTy).Contents (Elt F) → (⟨S4x8192x3, .f32⟩ : BufTy).Contents (Elt F)),
    nullary main_cst_21 (constant S_ .f32 0x322BCC77#32),
    TRef.unary (TRef.of (T := ⟨S_, .f32⟩) main_cst_21) (TRef.of (T := ⟨S_, .f32⟩) main_call7_v0) id,
    TRef.unary (TRef.of (T := ⟨S_, .f32⟩) main_call7_v0) (TRef.of (T := ⟨S4x64x3, .f32⟩) main_call7_v1) (broadcastInDim S4x64x3 ![] bcast_S_S4x64x3),
    TRef.binary (TRef.of (T := ⟨S4x64x3, .f32⟩) main_call7_v1) (TRef.of (T := ⟨S4x64x3, .f32⟩) main_arg6) (TRef.of (T := ⟨S4x64x3, .f32⟩) main_v139) maximumf,
    nullary main_c_22 (constantI S_ 32 0#32),
    nullary main_c_23 (constantI S_ 32 63#32),
    TRef.unary (TRef.of (T := ⟨S_, .i32⟩) main_c_22) (TRef.of (T := ⟨S_, .i32⟩) main_call8_v0) id,
    TRef.unary (TRef.of (T := ⟨S_, .i32⟩) main_call8_v0) (TRef.of (T := ⟨S4x8192, .i32⟩) main_call8_v1) (broadcastInDim S4x8192 ![] bcast_S_S4x8192),
    TRef.binary (TRef.of (T := ⟨S4x8192, .i32⟩) main_call8_v1) (TRef.of (T := ⟨S4x8192, .i32⟩) main_v13) (TRef.of (T := ⟨S4x8192, .i32⟩) main_call8_v2) maxsi,
    TRef.unary (TRef.of (T := ⟨S_, .i32⟩) main_c_23) (TRef.of (T := ⟨S_, .i32⟩) main_call8_v3) id,
    TRef.unary (TRef.of (T := ⟨S_, .i32⟩) main_call8_v3) (TRef.of (T := ⟨S4x8192, .i32⟩) main_call8_v4) (broadcastInDim S4x8192 ![] bcast_S_S4x8192),
    TRef.binary (TRef.of (T := ⟨S4x8192, .i32⟩) main_call8_v4) (TRef.of (T := ⟨S4x8192, .i32⟩) main_call8_v2) (TRef.of (T := ⟨S4x8192, .i32⟩) main_v140) minsi,
    nullary main_v141 (iotaInDim S4 32 0),
    unary main_v141 main_v142 (broadcastInDim S4x1 ![0] bcast_S4_S4x1_0 : (⟨S4, .i32⟩ : BufTy).Contents (Elt F) → (⟨S4x1, .i32⟩ : BufTy).Contents (Elt F)),
    nullary main_c_24 (constantI S_ 32 0#32),
    unary main_c_24 main_v143 (broadcastInDim S4x1 ![] bcast_S_S4x1 : (⟨S_, .i32⟩ : BufTy).Contents (Elt F) → (⟨S4x1, .i32⟩ : BufTy).Contents (Elt F)),
    binary main_v142 main_v143 main_v144 (cmpi .slt : (⟨S4x1, .i32⟩ : BufTy).Contents (Elt F) → (⟨S4x1, .i32⟩ : BufTy).Contents (Elt F) → (⟨S4x1, .i1⟩ : BufTy).Contents (Elt F)),
    nullary main_c_25 (constantI S_ 32 4#32) ]

/-- @main's operations 238 … 244 of 266 (window `main_part2`). -/
abbrev ops_part2_2 : List (HloOp τ sig (Elt F)) :=
  [ unary main_c_25 main_v145 (broadcastInDim S4x1 ![] bcast_S_S4x1 : (⟨S_, .i32⟩ : BufTy).Contents (Elt F) → (⟨S4x1, .i32⟩ : BufTy).Contents (Elt F)),
    binary main_v142 main_v145 main_v146 (addi : (⟨S4x1, .i32⟩ : BufTy).Contents (Elt F) → (⟨S4x1, .i32⟩ : BufTy).Contents (Elt F) → (⟨S4x1, .i32⟩ : BufTy).Contents (Elt F)),
    ternary main_v144 main_v146 main_v142 main_v147 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_26 (constantI S_ 32 0#32),
    unary main_c_26 main_v148 (broadcastInDim S4x8192 ![] bcast_S_S4x8192 : (⟨S_, .i32⟩ : BufTy).Contents (Elt F) → (⟨S4x8192, .i32⟩ : BufTy).Contents (Elt F)),
    binary main_v140 main_v148 main_v149 (cmpi .slt : (⟨S4x8192, .i32⟩ : BufTy).Contents (Elt F) → (⟨S4x8192, .i32⟩ : BufTy).Contents (Elt F) → (⟨S4x8192, .i1⟩ : BufTy).Contents (Elt F)),
    nullary main_c_27 (constantI S_ 32 64#32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 245 … 266 of 266 (window `main_part3`). -/
abbrev ops_part3 : List (HloOp τ sig (Elt F)) :=
  [ unary main_c_27 main_v150 (broadcastInDim S4x8192 ![] bcast_S_S4x8192 : (⟨S_, .i32⟩ : BufTy).Contents (Elt F) → (⟨S4x8192, .i32⟩ : BufTy).Contents (Elt F)),
    binary main_v140 main_v150 main_v151 (addi : (⟨S4x8192, .i32⟩ : BufTy).Contents (Elt F) → (⟨S4x8192, .i32⟩ : BufTy).Contents (Elt F) → (⟨S4x8192, .i32⟩ : BufTy).Contents (Elt F)),
    ternary main_v149 main_v151 main_v140 main_v152 (select : (⟨S4x8192, .i1⟩ : BufTy).Contents (Elt F) → (⟨S4x8192, .i32⟩ : BufTy).Contents (Elt F) → (⟨S4x8192, .i32⟩ : BufTy).Contents (Elt F) → (⟨S4x8192, .i32⟩ : BufTy).Contents (Elt F)),
    unary main_v147 main_v153 (broadcastInDim S4x8192 ![0, 1] bcast_S4x1_S4x8192_0_1 : (⟨S4x1, .i32⟩ : BufTy).Contents (Elt F) → (⟨S4x8192, .i32⟩ : BufTy).Contents (Elt F)),
    unary main_v153 main_v154 (broadcastInDim S4x8192x1 ![0, 1] bcast_S4x8192_S4x8192x1_0_1 : (⟨S4x8192, .i32⟩ : BufTy).Contents (Elt F) → (⟨S4x8192x1, .i32⟩ : BufTy).Contents (Elt F)),
    unary main_v152 main_v155 (broadcastInDim S4x8192x1 ![0, 1] bcast_S4x8192_S4x8192x1_0_1 : (⟨S4x8192, .i32⟩ : BufTy).Contents (Elt F) → (⟨S4x8192x1, .i32⟩ : BufTy).Contents (Elt F)),
    binary main_v154 main_v155 main_v156 (fn_main_v156 (F := F)),
    binary main_arg5 main_v156 main_v157 ((fun x i => Host.gather gather_S4x64x3x3_S4x8192x2_S4x8192x3x3_23_01_n_n_01_2_1133 x i) : (⟨S4x64x3x3, .f32⟩ : BufTy).Contents (Elt F) → (⟨S4x8192x2, .i32⟩ : BufTy).Contents (Elt F) → (⟨S4x8192x3x3, .f32⟩ : BufTy).Contents (Elt F)),
    binary main_v18 main_arg4 main_v158 ((fun l r => Host.dotGeneral dot_S4x8192x64_S4x64x3_S4x8192x3_2_1_1_2_0_0 none l r) : (⟨S4x8192x64, .f32⟩ : BufTy).Contents (Elt F) → (⟨S4x64x3, .f32⟩ : BufTy).Contents (Elt F) → (⟨S4x8192x3, .f32⟩ : BufTy).Contents (Elt F)),
    binary main_v18 main_v139 main_v159 ((fun l r => Host.dotGeneral dot_S4x8192x64_S4x64x3_S4x8192x3_2_1_1_2_0_0 none l r) : (⟨S4x8192x64, .f32⟩ : BufTy).Contents (Elt F) → (⟨S4x64x3, .f32⟩ : BufTy).Contents (Elt F) → (⟨S4x8192x3, .f32⟩ : BufTy).Contents (Elt F)),
    nullary main_cst_28 (constant S_ .f32 0x358637BD#32),
    TRef.unary (TRef.of (T := ⟨S_, .f32⟩) main_cst_28) (TRef.of (T := ⟨S_, .f32⟩) main_call9_v0) id,
    TRef.unary (TRef.of (T := ⟨S_, .f32⟩) main_call9_v0) (TRef.of (T := ⟨S4x8192x3, .f32⟩) main_call9_v1) (broadcastInDim S4x8192x3 ![] bcast_S_S4x8192x3),
    TRef.binary (TRef.of (T := ⟨S4x8192x3, .f32⟩) main_call9_v1) (TRef.of (T := ⟨S4x8192x3, .f32⟩) main_v159) (TRef.of (T := ⟨S4x8192x3, .f32⟩) main_v160) maximumf,
    binary main_v138 main_v160 main_v161 (mulf : (⟨S4x8192x3, .f32⟩ : BufTy).Contents (Elt F) → (⟨S4x8192x3, .f32⟩ : BufTy).Contents (Elt F) → (⟨S4x8192x3, .f32⟩ : BufTy).Contents (Elt F)),
    binary main_v157 main_v161 main_v162 ((fun l r => Host.dotGeneral dot_S4x8192x3x3_S4x8192x3_S4x8192x3_3_2_2_n_01_01 none l r) : (⟨S4x8192x3x3, .f32⟩ : BufTy).Contents (Elt F) → (⟨S4x8192x3, .f32⟩ : BufTy).Contents (Elt F) → (⟨S4x8192x3, .f32⟩ : BufTy).Contents (Elt F)),
    binary main_v158 main_v162 main_v163 (addf : (⟨S4x8192x3, .f32⟩ : BufTy).Contents (Elt F) → (⟨S4x8192x3, .f32⟩ : BufTy).Contents (Elt F) → (⟨S4x8192x3, .f32⟩ : BufTy).Contents (Elt F)),
    unary main_v0 main_v164 (broadcastInDim S4x8192x3 ![0, 1, 2] bcast_S4x8192x1_S4x8192x3_0_1_2 : (⟨S4x8192x1, .f32⟩ : BufTy).Contents (Elt F) → (⟨S4x8192x3, .f32⟩ : BufTy).Contents (Elt F)),
    binary main_v163 main_v164 main_v165 (mulf : (⟨S4x8192x3, .f32⟩ : BufTy).Contents (Elt F) → (⟨S4x8192x3, .f32⟩ : BufTy).Contents (Elt F) → (⟨S4x8192x3, .f32⟩ : BufTy).Contents (Elt F)),
    nullary main_cst_29 (constant S_ .f32 0x41200000#32),
    unary main_cst_29 main_v166 (broadcastInDim S4x8192x3 ![] bcast_S_S4x8192x3 : (⟨S_, .f32⟩ : BufTy).Contents (Elt F) → (⟨S4x8192x3, .f32⟩ : BufTy).Contents (Elt F)),
    binary main_v165 main_v166 main_v167 (mulf : (⟨S4x8192x3, .f32⟩ : BufTy).Contents (Elt F) → (⟨S4x8192x3, .f32⟩ : BufTy).Contents (Elt F) → (⟨S4x8192x3, .f32⟩ : BufTy).Contents (Elt F)) ]

/-- @main's 266 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., binary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., binary_bufs_sub .., binary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., nullary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub .., binary_bufs_sub .., nullary_bufs_sub .., binary_bufs_sub .., binary_bufs_sub .., nullary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., binary_bufs_sub .., unary_bufs_sub .., nullary_bufs_sub .., unary_bufs_sub .., binary_bufs_sub .., nullary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub ..⟩
set_option maxRecDepth 8192 in
theorem ops_part2_2_fresh : (ops_part2_2 : List (HloOp τ sig (Elt F))).Forall fun op => op.fresh = ∅ :=
  ⟨rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., unary_bufs_sub .., binary_bufs_sub .., nullary_bufs_sub .., unary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Value

end
-- ==== Proof.RefRun.lean ====
module

public import proofs.«01_k».proof.Proof.RefOps
public import Idealize.ShloMosaic.Lib.StableHlo.Run
public import Idealize.ShloMosaic.Lib.Pipeline.Frame

/-! # The reference's run

Each result as the operations' composed term of the arguments; the arguments unchanged. -/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 9 times). -/
def res_main_v0 (V0 : Valuation τ sig (Elt F)) : (Proc.devRef .tc main_v0 : DevRef τ sig).ty.Contents (Elt F) :=
  broadcastInDim S4x8192x1 ![0, 1] bcast_S4x8192_S4x8192x1_0_1 (V0 (Proc.devRef .tc main_arg3))

set_option maxRecDepth 8192 in
/-- `main_v5`'s composed term of the arguments (named: it is used 2 times). -/
def res_main_v5 (V0 : Valuation τ sig (Elt F)) : (Proc.devRef .tc main_v5 : DevRef τ sig).ty.Contents (Elt F) :=
  mulf (mulf (V0 (Proc.devRef .tc main_arg1)) (broadcastInDim S4x8192x64 ![0, 1, 2] bcast_S4x8192x1_S4x8192x64_0_1_2 (res_main_v0 V0))) (broadcastInDim S4x8192x64 ![0, 1, 2] bcast_S4x1x64_S4x8192x64_0_1_2 (broadcastInDim S4x1x64 ![0, 2] bcast_S4x64_S4x1x64_0_2 (V0 (Proc.devRef .tc main_arg2))))

set_option maxRecDepth 8192 in
/-- `main_v12`'s composed term of the arguments (named: it is used 4 times). -/
def res_main_v12 (V0 : Valuation τ sig (Elt F)) : (Proc.devRef .tc main_v12 : DevRef τ sig).ty.Contents (Elt F) :=
  mulf (Host.divf (res_main_v5 V0) (broadcastInDim S4x8192x64 ![0, 1, 2] bcast_S4x8192x1_S4x8192x64_0_1_2 (maximumf (broadcastInDim S4x8192x1 ![] bcast_S_S4x8192x1 (id (constant S_ .f32 0x322BCC77#32))) (broadcastInDim S4x8192x1 ![0, 1] bcast_S4x8192_S4x8192x1_0_1 (Host.reduceAdd (res_main_v5 V0) (constant S_ .f32 0x00000000#32) reducesTo_S4x8192x64_S4x8192_d2 h_S_))))) (broadcastInDim S4x8192x64 ![0, 1, 2] bcast_S4x8192x1_S4x8192x64_0_1_2 (res_main_v0 V0))

set_option maxRecDepth 8192 in
/-- `main_v13`'s composed term of the arguments (named: it is used 2 times). -/
def res_main_v13 (V0 : Valuation τ sig (Elt F)) : (Proc.devRef .tc main_v13 : DevRef τ sig).ty.Contents (Elt F) :=
  fun j => (Host.argReduce reducer_argmax_f32_i32 (res_main_v12 V0) (iotaInDim S4x8192x64 32 2) (constant S_ .f32 0xFF800000#32) (constantI S_ 32 0#32) reducesTo_S4x8192x64_S4x8192_d2 h_S_ j).2

set_option maxRecDepth 8192 in
/-- `main_v18`'s composed term of the arguments (named: it is used 3 times). -/
def res_main_v18 (V0 : Valuation τ sig (Elt F)) : (Proc.devRef .tc main_v18 : DevRef τ sig).ty.Contents (Elt F) :=
  addf (subf (mulf (uitofp .f32 (cmpi .eq (broadcastInDim S4x8192x64 ![0, 1, 2] bcast_S4x8192x1_S4x8192x64_0_1_2 (broadcastInDim S4x8192x1 ![0, 1] bcast_S4x8192_S4x8192x1_0_1 (res_main_v13 V0))) (broadcastInDim S4x8192x64 ![0, 1, 2] bcast_S1x1x64_S4x8192x64_0_1_2 (iotaInDim S1x1x64 32 2)))) (broadcastInDim S4x8192x64 ![0, 1, 2] bcast_S4x8192x1_S4x8192x64_0_1_2 (res_main_v0 V0))) (res_main_v12 V0)) (res_main_v12 V0)

set_option maxRecDepth 8192 in
/-- `main_v20`'s composed term of the arguments (named: it is used 3 times). -/
def res_main_v20 (V0 : Valuation τ sig (Elt F)) : (Proc.devRef .tc main_v20 : DevRef τ sig).ty.Contents (Elt F) :=
  mulf (res_main_v12 V0) (broadcastInDim S4x8192x64 ![0, 1, 2] bcast_S4x8192x1_S4x8192x64_0_1_2 (res_main_v0 V0))

set_option maxRecDepth 8192 in
/-- `main_v39`'s composed term of the arguments (named: it is used 2 times). -/
def res_main_v39 (V0 : Valuation τ sig (Elt F)) : (Proc.devRef .tc main_v39 : DevRef τ sig).ty.Contents (Elt F) :=
  mulf (broadcastInDim S4x8192x9 ![0, 1, 2] bcast_S4x8192x1_S4x8192x9_0_1_2 (broadcastInDim S4x8192x1 ![0, 1] bcast_S4x8192_S4x8192x1_0_1 (mulf (Host.reduceAdd (mulf (res_main_v20 V0) (Host.divf (Host.reduceWindowAdd ![1, 8192, 1] ![1, 1, 1] ![0, 8191, 0] ![0, 0, 0] (res_main_v20 V0) (broadcastInDim S_ ![] bcast_S_S_ (constant S_ .f32 0x00000000#32)) reduceWindows_S4x8192x64_S4x8192x64_w1s1p0_0_w8192s1p8191_0_w1s1p0_0 h_S_) (broadcastInDim S4x8192x64 ![0, 1, 2] bcast_S4x1x64_S4x8192x64_0_1_2 (maximumf (broadcastInDim S4x1x64 ![] bcast_S_S4x1x64 (id (constant S_ .f32 0x322BCC77#32))) (broadcastInDim S4x1x64 ![0, 2] bcast_S4x64_S4x1x64_0_2 (Host.reduceAdd (res_main_v20 V0) (constant S_ .f32 0x00000000#32) reducesTo_S4x8192x64_S4x64_d1 h_S_)))))) (constant S_ .f32 0x00000000#32) reducesTo_S4x8192x64_S4x8192_d2 h_S_) (V0 (Proc.devRef .tc main_arg3))))) (broadcastInDim S4x8192x9 ![0, 1, 2] bcast_S1x1x9_S4x8192x9_0_1_2 (broadcastInDim S1x1x9 ![2] bcast_S9_S1x1x9_2 (mulf (Host.powf (broadcastInDim S9 ![] bcast_S_S9 (constant S_ .f32 0x40000000#32)) (sitofp .f32 (iotaInDim S9 32 0))) (broadcastInDim S9 ![] bcast_S_S9 (constant S_ .f32 0x40490FDB#32)))))

set_option maxRecDepth 8192 in
/-- `main_v54`'s composed term of the arguments (named: it is used 4 times). -/
def res_main_v54 (V0 : Valuation τ sig (Elt F)) : (Proc.devRef .tc main_v54 : DevRef τ sig).ty.Contents (Elt F) :=
  mulf (addf (Host.dotGeneral dot_S4x8192x64_S4x64x768_S4x8192x768_2_1_1_2_0_0 none (res_main_v18 V0) (V0 (Proc.devRef .tc main_arg0))) (mulf (broadcastInDim S4x8192x768 ![] bcast_S_S4x8192x768 (constant S_ .f32 0x3F800000#32)) (mulf (addf (Host.dotGeneral dot_S4x8192x18_S18x768_S4x8192x768_2_0_01_1_n_n none (concatenate S4x8192x18 2 [⟨S4x8192x9, (Host.sin (res_main_v39 V0))⟩, ⟨S4x8192x9, (Host.cos (res_main_v39 V0))⟩] concatenates_S4x8192x9_S4x8192x9_S4x8192x18_d2) (V0 (Proc.devRef .tc main_arg7))) (broadcastInDim S4x8192x768 ![0, 1, 2] bcast_S1x1x768_S4x8192x768_0_1_2 (broadcastInDim S1x1x768 ![2] bcast_S768_S1x1x768_2 (V0 (Proc.devRef .tc main_arg8))))) (broadcastInDim S4x8192x768 ![0, 1, 2] bcast_S4x8192x1_S4x8192x768_0_1_2 (res_main_v0 V0))))) (broadcastInDim S4x8192x768 ![0, 1, 2] bcast_S4x8192x1_S4x8192x768_0_1_2 (res_main_v0 V0))

set_option maxRecDepth 8192 in
/-- `main_call5_v5`'s composed term of the arguments (named: it is used 2 times). -/
def res_main_call5_v5 (V0 : Valuation τ sig (Elt F)) : (Proc.devRef .tc main_call5_v5 : DevRef τ sig).ty.Contents (Elt F) :=
  subf (res_main_v54 V0) (broadcastInDim S4x8192x768 ![0, 1, 2] bcast_S4x8192x1_S4x8192x768_0_1_2 (Host.divf (broadcastInDim S4x8192x1 ![0, 1] bcast_S4x8192_S4x8192x1_0_1 (Host.reduceAdd (res_main_v54 V0) (constant S_ .f32 0x00000000#32) reducesTo_S4x8192x768_S4x8192_d2 h_S_)) (broadcastInDim S4x8192x1 ![] bcast_S_S4x8192x1 (constant S_ .f32 0x44400000#32))))

set_option maxRecDepth 8192 in
/-- `main_call5_v8`'s composed term of the arguments (named: it is used 2 times). -/
def res_main_call5_v8 (V0 : Valuation τ sig (Elt F)) : (Proc.devRef .tc main_call5_v8 : DevRef τ sig).ty.Contents (Elt F) :=
  subf (constant S_ .f32 0x44400000#32) (sitofp .f32 (constantI S_ 32 0#32))

set_option maxRecDepth 8192 in
/-- `main_v76`'s composed term of the arguments (named: it is used 2 times). -/
def res_main_v76 (V0 : Valuation τ sig (Elt F)) : (Proc.devRef .tc main_v76 : DevRef τ sig).ty.Contents (Elt F) :=
  addf (Host.dotGeneral dot_S4x8192x768_S768x768_S4x8192x768_2_0_01_1_n_n none (addf (mulf (Host.divf (subf (res_main_v54 V0) (broadcastInDim S4x8192x768 ![0, 1, 2] bcast_S4x8192x1_S4x8192x768_0_1_2 (Host.divf (broadcastInDim S4x8192x1 ![0, 1] bcast_S4x8192_S4x8192x1_0_1 (Host.reduceAdd (res_main_v54 V0) (constant S_ .f32 0x00000000#32) reducesTo_S4x8192x768_S4x8192_d2 h_S_)) (broadcastInDim S4x8192x1 ![] bcast_S_S4x8192x1 (constant S_ .f32 0x44400000#32))))) (broadcastInDim S4x8192x768 ![0, 1, 2] bcast_S4x8192x1_S4x8192x768_0_1_2 (Host.sqrt (addf (select (broadcastInDim S4x8192x1 ![] bcast_S_S4x8192x1 (cmpf .ogt (res_main_call5_v8 V0) (constant S_ .f32 0x00000000#32))) (Host.divf (broadcastInDim S4x8192x1 ![0, 1] bcast_S4x8192_S4x8192x1_0_1 (Host.reduceAdd (mulf (res_main_call5_v5 V0) (res_main_call5_v5 V0)) (constant S_ .f32 0x00000000#32) reducesTo_S4x8192x768_S4x8192_d2 h_S_)) (broadcastInDim S4x8192x1 ![] bcast_S_S4x8192x1 (res_main_call5_v8 V0))) (broadcastInDim S4x8192x1 ![] bcast_S_S4x8192x1 (id (constant S_ .f32 0x7FC00000#32)))) (broadcastInDim S4x8192x1 ![] bcast_S_S4x8192x1 (constant S_ .f32 0x3727C5AC#32)))))) (broadcastInDim S4x8192x768 ![0, 1, 2] bcast_S1x1x768_S4x8192x768_0_1_2 (broadcastInDim S1x1x768 ![2] bcast_S768_S1x1x768_2 (V0 (Proc.devRef .tc main_arg9))))) (broadcastInDim S4x8192x768 ![0, 1, 2] bcast_S1x1x768_S4x8192x768_0_1_2 (broadcastInDim S1x1x768 ![2] bcast_S768_S1x1x768_2 (V0 (Proc.devRef .tc main_arg10))))) (V0 (Proc.devRef .tc main_arg11))) (broadcastInDim S4x8192x768 ![0, 1, 2] bcast_S1x1x768_S4x8192x768_0_1_2 (broadcastInDim S1x1x768 ![2] bcast_S768_S1x1x768_2 (V0 (Proc.devRef .tc main_arg12))))

set_option maxRecDepth 8192 in
/-- `main_v89`'s composed term of the arguments (named: it is used 4 times). -/
def res_main_v89 (V0 : Valuation τ sig (Elt F)) : (Proc.devRef .tc main_v89 : DevRef τ sig).ty.Contents (Elt F) :=
  mulf (addf (Host.dotGeneral dot_S4x8192x768_S768x768_S4x8192x768_2_0_01_1_n_n none (mulf (res_main_v76 V0) (Host.divf (broadcastInDim S4x8192x768 ![] bcast_S_S4x8192x768 (constant S_ .f32 0x3F800000#32)) (addf (broadcastInDim S4x8192x768 ![] bcast_S_S4x8192x768 (constant S_ .f32 0x3F800000#32)) (Host.exp (Host.negf (res_main_v76 V0)))))) (V0 (Proc.devRef .tc main_arg13))) (broadcastInDim S4x8192x768 ![0, 1, 2] bcast_S1x1x768_S4x8192x768_0_1_2 (broadcastInDim S1x1x768 ![2] bcast_S768_S1x1x768_2 (V0 (Proc.devRef .tc main_arg14))))) (broadcastInDim S4x8192x768 ![0, 1, 2] bcast_S4x8192x1_S4x8192x768_0_1_2 (res_main_v0 V0))

set_option maxRecDepth 8192 in
/-- `main_call6_v5`'s composed term of the arguments (named: it is used 2 times). -/
def res_main_call6_v5 (V0 : Valuation τ sig (Elt F)) : (Proc.devRef .tc main_call6_v5 : DevRef τ sig).ty.Contents (Elt F) :=
  subf (res_main_v89 V0) (broadcastInDim S4x8192x768 ![0, 1, 2] bcast_S4x8192x1_S4x8192x768_0_1_2 (Host.divf (broadcastInDim S4x8192x1 ![0, 1] bcast_S4x8192_S4x8192x1_0_1 (Host.reduceAdd (res_main_v89 V0) (constant S_ .f32 0x00000000#32) reducesTo_S4x8192x768_S4x8192_d2 h_S_)) (broadcastInDim S4x8192x1 ![] bcast_S_S4x8192x1 (constant S_ .f32 0x44400000#32))))

set_option maxRecDepth 8192 in
/-- `main_call6_v8`'s composed term of the arguments (named: it is used 2 times). -/
def res_main_call6_v8 (V0 : Valuation τ sig (Elt F)) : (Proc.devRef .tc main_call6_v8 : DevRef τ sig).ty.Contents (Elt F) :=
  subf (constant S_ .f32 0x44400000#32) (sitofp .f32 (constantI S_ 32 0#32))

set_option maxRecDepth 8192 in
/-- `main_v111`'s composed term of the arguments (named: it is used 2 times). -/
def res_main_v111 (V0 : Valuation τ sig (Elt F)) : (Proc.devRef .tc main_v111 : DevRef τ sig).ty.Contents (Elt F) :=
  addf (Host.dotGeneral dot_S4x8192x768_S768x256_S4x8192x256_2_0_01_1_n_n none (addf (mulf (Host.divf (subf (res_main_v89 V0) (broadcastInDim S4x8192x768 ![0, 1, 2] bcast_S4x8192x1_S4x8192x768_0_1_2 (Host.divf (broadcastInDim S4x8192x1 ![0, 1] bcast_S4x8192_S4x8192x1_0_1 (Host.reduceAdd (res_main_v89 V0) (constant S_ .f32 0x00000000#32) reducesTo_S4x8192x768_S4x8192_d2 h_S_)) (broadcastInDim S4x8192x1 ![] bcast_S_S4x8192x1 (constant S_ .f32 0x44400000#32))))) (broadcastInDim S4x8192x768 ![0, 1, 2] bcast_S4x8192x1_S4x8192x768_0_1_2 (Host.sqrt (addf (select (broadcastInDim S4x8192x1 ![] bcast_S_S4x8192x1 (cmpf .ogt (res_main_call6_v8 V0) (constant S_ .f32 0x00000000#32))) (Host.divf (broadcastInDim S4x8192x1 ![0, 1] bcast_S4x8192_S4x8192x1_0_1 (Host.reduceAdd (mulf (res_main_call6_v5 V0) (res_main_call6_v5 V0)) (constant S_ .f32 0x00000000#32) reducesTo_S4x8192x768_S4x8192_d2 h_S_)) (broadcastInDim S4x8192x1 ![] bcast_S_S4x8192x1 (res_main_call6_v8 V0))) (broadcastInDim S4x8192x1 ![] bcast_S_S4x8192x1 (id (constant S_ .f32 0x7FC00000#32)))) (broadcastInDim S4x8192x1 ![] bcast_S_S4x8192x1 (constant S_ .f32 0x3727C5AC#32)))))) (broadcastInDim S4x8192x768 ![0, 1, 2] bcast_S1x1x768_S4x8192x768_0_1_2 (broadcastInDim S1x1x768 ![2] bcast_S768_S1x1x768_2 (V0 (Proc.devRef .tc main_arg15))))) (broadcastInDim S4x8192x768 ![0, 1, 2] bcast_S1x1x768_S4x8192x768_0_1_2 (broadcastInDim S1x1x768 ![2] bcast_S768_S1x1x768_2 (V0 (Proc.devRef .tc main_arg16))))) (V0 (Proc.devRef .tc main_arg17))) (broadcastInDim S4x8192x256 ![0, 1, 2] bcast_S1x1x256_S4x8192x256_0_1_2 (broadcastInDim S1x1x256 ![2] bcast_S256_S1x1x256_2 (V0 (Proc.devRef .tc main_arg18))))

set_option maxRecDepth 8192 in
/-- `main_v122`'s composed term of the arguments (named: it is used 2 times). -/
def res_main_v122 (V0 : Valuation τ sig (Elt F)) : (Proc.devRef .tc main_v122 : DevRef τ sig).ty.Contents (Elt F) :=
  addf (Host.dotGeneral dot_S4x8192x256_S256x256_S4x8192x256_2_0_01_1_n_n none (mulf (res_main_v111 V0) (Host.divf (broadcastInDim S4x8192x256 ![] bcast_S_S4x8192x256 (constant S_ .f32 0x3F800000#32)) (addf (broadcastInDim S4x8192x256 ![] bcast_S_S4x8192x256 (constant S_ .f32 0x3F800000#32)) (Host.exp (Host.negf (res_main_v111 V0)))))) (V0 (Proc.devRef .tc main_arg19))) (broadcastInDim S4x8192x256 ![0, 1, 2] bcast_S1x1x256_S4x8192x256_0_1_2 (broadcastInDim S1x1x256 ![2] bcast_S256_S1x1x256_2 (V0 (Proc.devRef .tc main_arg20))))

set_option maxRecDepth 8192 in
/-- `main_v140`'s composed term of the arguments (named: it is used 3 times). -/
def res_main_v140 (V0 : Valuation τ sig (Elt F)) : (Proc.devRef .tc main_v140 : DevRef τ sig).ty.Contents (Elt F) :=
  minsi (broadcastInDim S4x8192 ![] bcast_S_S4x8192 (id (constantI S_ 32 63#32))) (maxsi (broadcastInDim S4x8192 ![] bcast_S_S4x8192 (id (constantI S_ 32 0#32))) (res_main_v13 V0))

set_option maxRecDepth 8192 in
/-- `main_v142`'s composed term of the arguments (named: it is used 3 times). -/
def res_main_v142 (V0 : Valuation τ sig (Elt F)) : (Proc.devRef .tc main_v142 : DevRef τ sig).ty.Contents (Elt F) :=
  broadcastInDim S4x1 ![0] bcast_S4_S4x1_0 (iotaInDim S4 32 0)

set_option maxRecDepth 8192 in
/-- `main_v29`'s composed term of the arguments: the third result. -/
def res_main_v29 (V0 : Valuation τ sig (Elt F)) : (Proc.devRef .tc main_v29 : DevRef τ sig).ty.Contents (Elt F) :=
  mulf (Host.reduceAdd (mulf (res_main_v20 V0) (Host.divf (Host.reduceWindowAdd ![1, 8192, 1] ![1, 1, 1] ![0, 8191, 0] ![0, 0, 0] (res_main_v20 V0) (broadcastInDim S_ ![] bcast_S_S_ (constant S_ .f32 0x00000000#32)) reduceWindows_S4x8192x64_S4x8192x64_w1s1p0_0_w8192s1p8191_0_w1s1p0_0 h_S_) (broadcastInDim S4x8192x64 ![0, 1, 2] bcast_S4x1x64_S4x8192x64_0_1_2 (maximumf (broadcastInDim S4x1x64 ![] bcast_S_S4x1x64 (id (constant S_ .f32 0x322BCC77#32))) (broadcastInDim S4x1x64 ![0, 2] bcast_S4x64_S4x1x64_0_2 (Host.reduceAdd (res_main_v20 V0) (constant S_ .f32 0x00000000#32) reducesTo_S4x8192x64_S4x64_d1 h_S_)))))) (constant S_ .f32 0x00000000#32) reducesTo_S4x8192x64_S4x8192_d2 h_S_) (V0 (Proc.devRef .tc main_arg3))

set_option maxRecDepth 8192 in
/-- `main_v138`'s composed term of the arguments: the second result. -/
def res_main_v138 (V0 : Valuation τ sig (Elt F)) : (Proc.devRef .tc main_v138 : DevRef τ sig).ty.Contents (Elt F) :=
  mulf (Host.tanh (mulf (addf (Host.dotGeneral dot_S4x8192x256_S256x3_S4x8192x3_2_0_01_1_n_n none (mulf (res_main_v122 V0) (Host.divf (broadcastInDim S4x8192x256 ![] bcast_S_S4x8192x256 (constant S_ .f32 0x3F800000#32)) (addf (broadcastInDim S4x8192x256 ![] bcast_S_S4x8192x256 (constant S_ .f32 0x3F800000#32)) (Host.exp (Host.negf (res_main_v122 V0)))))) (V0 (Proc.devRef .tc main_arg21))) (broadcastInDim S4x8192x3 ![0, 1, 2] bcast_S1x1x3_S4x8192x3_0_1_2 (broadcastInDim S1x1x3 ![2] bcast_S3_S1x1x3_2 (V0 (Proc.devRef .tc main_arg22))))) (broadcastInDim S4x8192x3 ![0, 1, 2] bcast_S4x8192x1_S4x8192x3_0_1_2 (res_main_v0 V0)))) (broadcastInDim S4x8192x3 ![] bcast_S_S4x8192x3 (constant S_ .f32 0x3FC00000#32))

set_option maxRecDepth 8192 in
/-- `main_v167`'s composed term of the arguments: the first result. -/
def res_main_v167 (V0 : Valuation τ sig (Elt F)) : (Proc.devRef .tc main_v167 : DevRef τ sig).ty.Contents (Elt F) :=
  mulf (mulf (addf (Host.dotGeneral dot_S4x8192x64_S4x64x3_S4x8192x3_2_1_1_2_0_0 none (res_main_v18 V0) (V0 (Proc.devRef .tc main_arg4))) (Host.dotGeneral dot_S4x8192x3x3_S4x8192x3_S4x8192x3_3_2_2_n_01_01 none (Host.gather gather_S4x64x3x3_S4x8192x2_S4x8192x3x3_23_01_n_n_01_2_1133 (V0 (Proc.devRef .tc main_arg5)) (concatenate S4x8192x2 2 [⟨S4x8192x1, (broadcastInDim S4x8192x1 ![0, 1] bcast_S4x8192_S4x8192x1_0_1 (broadcastInDim S4x8192 ![0, 1] bcast_S4x1_S4x8192_0_1 (select (cmpi .slt (res_main_v142 V0) (broadcastInDim S4x1 ![] bcast_S_S4x1 (constantI S_ 32 0#32))) (addi (res_main_v142 V0) (broadcastInDim S4x1 ![] bcast_S_S4x1 (constantI S_ 32 4#32))) (res_main_v142 V0))))⟩, ⟨S4x8192x1, (broadcastInDim S4x8192x1 ![0, 1] bcast_S4x8192_S4x8192x1_0_1 (select (cmpi .slt (res_main_v140 V0) (broadcastInDim S4x8192 ![] bcast_S_S4x8192 (constantI S_ 32 0#32))) (addi (res_main_v140 V0) (broadcastInDim S4x8192 ![] bcast_S_S4x8192 (constantI S_ 32 64#32))) (res_main_v140 V0)))⟩] concatenates_S4x8192x1_S4x8192x1_S4x8192x2_d2)) (mulf (mulf (Host.tanh (mulf (addf (Host.dotGeneral dot_S4x8192x256_S256x3_S4x8192x3_2_0_01_1_n_n none (mulf (res_main_v122 V0) (Host.divf (broadcastInDim S4x8192x256 ![] bcast_S_S4x8192x256 (constant S_ .f32 0x3F800000#32)) (addf (broadcastInDim S4x8192x256 ![] bcast_S_S4x8192x256 (constant S_ .f32 0x3F800000#32)) (Host.exp (Host.negf (res_main_v122 V0)))))) (V0 (Proc.devRef .tc main_arg21))) (broadcastInDim S4x8192x3 ![0, 1, 2] bcast_S1x1x3_S4x8192x3_0_1_2 (broadcastInDim S1x1x3 ![2] bcast_S3_S1x1x3_2 (V0 (Proc.devRef .tc main_arg22))))) (broadcastInDim S4x8192x3 ![0, 1, 2] bcast_S4x8192x1_S4x8192x3_0_1_2 (res_main_v0 V0)))) (broadcastInDim S4x8192x3 ![] bcast_S_S4x8192x3 (constant S_ .f32 0x3FC00000#32))) (maximumf (broadcastInDim S4x8192x3 ![] bcast_S_S4x8192x3 (id (constant S_ .f32 0x358637BD#32))) (Host.dotGeneral dot_S4x8192x64_S4x64x3_S4x8192x3_2_1_1_2_0_0 none (res_main_v18 V0) (maximumf (broadcastInDim S4x64x3 ![] bcast_S_S4x64x3 (id (constant S_ .f32 0x322BCC77#32))) (V0 (Proc.devRef .tc main_arg6)))))))) (broadcastInDim S4x8192x3 ![0, 1, 2] bcast_S4x8192x1_S4x8192x3_0_1_2 (res_main_v0 V0))) (broadcastInDim S4x8192x3 ![] bcast_S_S4x8192x3 (constant S_ .f32 0x41200000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_cst, main_v6, main_v7, main_cst_0, main_call0_v0, main_call0_v1, main_v8, main_v9, main_v10, main_v11, main_v12, main_call1_v0, main_call1_cst, main_call1_c, main_call1_v1_0, main_v13, main_call2_v0, main_call2_v1, main_call2_v2, main_call2_v3, main_call2_v4, main_v14, main_v15, main_v16, main_v17, main_v18]
set_option maxRecDepth 8192 in
theorem ops_part0_0_writes : (ops_part0_0 : List (HloOp τ sig (Elt F))).Forall fun op => op.writes ⊆ (ops_part0_0_W.map (Proc.devRef (τ := τ) .tc)).toFinset :=
  forall_writes_sub_of_map rfl
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
theorem val0_1_main_arg12 (V0 : Valuation τ sig (Elt F)) : val0_1 V0 (no_index (Proc.devRef .tc main_arg12)) = V0 (Proc.devRef .tc main_arg12) :=
  (val0_1_keep V0 main_arg12 (by decide)).trans (val0_main_arg12 V0)
theorem val0_1_main_arg13 (V0 : Valuation τ sig (Elt F)) : val0_1 V0 (no_index (Proc.devRef .tc main_arg13)) = V0 (Proc.devRef .tc main_arg13) :=
  (val0_1_keep V0 main_arg13 (by decide)).trans (val0_main_arg13 V0)
theorem val0_1_main_arg14 (V0 : Valuation τ sig (Elt F)) : val0_1 V0 (no_index (Proc.devRef .tc main_arg14)) = V0 (Proc.devRef .tc main_arg14) :=
  (val0_1_keep V0 main_arg14 (by decide)).trans (val0_main_arg14 V0)
theorem val0_1_main_arg15 (V0 : Valuation τ sig (Elt F)) : val0_1 V0 (no_index (Proc.devRef .tc main_arg15)) = V0 (Proc.devRef .tc main_arg15) :=
  (val0_1_keep V0 main_arg15 (by decide)).trans (val0_main_arg15 V0)
theorem val0_1_main_arg16 (V0 : Valuation τ sig (Elt F)) : val0_1 V0 (no_index (Proc.devRef .tc main_arg16)) = V0 (Proc.devRef .tc main_arg16) :=
  (val0_1_keep V0 main_arg16 (by decide)).trans (val0_main_arg16 V0)
theorem val0_1_main_arg17 (V0 : Valuation τ sig (Elt F)) : val0_1 V0 (no_index (Proc.devRef .tc main_arg17)) = V0 (Proc.devRef .tc main_arg17) :=
  (val0_1_keep V0 main_arg17 (by decide)).trans (val0_main_arg17 V0)
theorem val0_1_main_arg18 (V0 : Valuation τ sig (Elt F)) : val0_1 V0 (no_index (Proc.devRef .tc main_arg18)) = V0 (Proc.devRef .tc main_arg18) :=
  (val0_1_keep V0 main_arg18 (by decide)).trans (val0_main_arg18 V0)
theorem val0_1_main_arg19 (V0 : Valuation τ sig (Elt F)) : val0_1 V0 (no_index (Proc.devRef .tc main_arg19)) = V0 (Proc.devRef .tc main_arg19) :=
  (val0_1_keep V0 main_arg19 (by decide)).trans (val0_main_arg19 V0)
theorem val0_1_main_arg20 (V0 : Valuation τ sig (Elt F)) : val0_1 V0 (no_index (Proc.devRef .tc main_arg20)) = V0 (Proc.devRef .tc main_arg20) :=
  (val0_1_keep V0 main_arg20 (by decide)).trans (val0_main_arg20 V0)
theorem val0_1_main_arg21 (V0 : Valuation τ sig (Elt F)) : val0_1 V0 (no_index (Proc.devRef .tc main_arg21)) = V0 (Proc.devRef .tc main_arg21) :=
  (val0_1_keep V0 main_arg21 (by decide)).trans (val0_main_arg21 V0)
theorem val0_1_main_arg22 (V0 : Valuation τ sig (Elt F)) : val0_1 V0 (no_index (Proc.devRef .tc main_arg22)) = V0 (Proc.devRef .tc main_arg22) :=
  (val0_1_keep V0 main_arg22 (by decide)).trans (val0_main_arg22 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.nullary, TRef.unary, TRef.quaternary, TRef.toBuf, TRef.ofBuf, cast_eq]
  after_results_simp
  simp only [val0_main_arg3] <;> rfl
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_part0_0, TRef.binary, TRef.nullary, TRef.unary, TRef.quaternary, TRef.toBuf, TRef.ofBuf, cast_eq]
  after_results_simp
  simp only [val0_main_arg3, val0_main_arg2, val0_main_arg1] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0, TRef.binary, TRef.nullary, TRef.unary, TRef.quaternary, TRef.toBuf, TRef.ofBuf, cast_eq]
  after_results_simp
  simp only [val0_main_arg3, val0_main_arg2, val0_main_arg1] <;> rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.binary, TRef.nullary, TRef.unary, TRef.quaternary, TRef.toBuf, TRef.ofBuf, cast_eq]
  after_results_simp
  simp only [val0_main_arg3, val0_main_arg2, val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v19, main_v20, main_call3_call0_cst, main_call3_call0_v0, main_v21, main_cst_1, main_v22, main_v23, main_cst_2, main_call4_v0, main_call4_v1, main_v24, main_v25, main_v26, main_v27, main_cst_3, main_v28, main_v29, main_v30, main_cst_4, main_v31, main_v32, main_cst_5, main_v33, main_v34, main_v35, main_v36, main_v37, main_v38, main_v39]
set_option maxRecDepth 8192 in
theorem ops_part0_1_writes : (ops_part0_1 : List (HloOp τ sig (Elt F))).Forall fun op => op.writes ⊆ (ops_part0_1_W.map (Proc.devRef (τ := τ) .tc)).toFinset :=
  forall_writes_sub_of_map rfl
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_arg12 (V0 : Valuation τ sig (Elt F)) : val0_2 V0 (no_index (Proc.devRef .tc main_arg12)) = V0 (Proc.devRef .tc main_arg12) :=
  (val0_2_keep V0 main_arg12 (by decide)).trans (val0_1_main_arg12 V0)
theorem val0_2_main_arg13 (V0 : Valuation τ sig (Elt F)) : val0_2 V0 (no_index (Proc.devRef .tc main_arg13)) = V0 (Proc.devRef .tc main_arg13) :=
  (val0_2_keep V0 main_arg13 (by decide)).trans (val0_1_main_arg13 V0)
theorem val0_2_main_arg14 (V0 : Valuation τ sig (Elt F)) : val0_2 V0 (no_index (Proc.devRef .tc main_arg14)) = V0 (Proc.devRef .tc main_arg14) :=
  (val0_2_keep V0 main_arg14 (by decide)).trans (val0_1_main_arg14 V0)
theorem val0_2_main_arg15 (V0 : Valuation τ sig (Elt F)) : val0_2 V0 (no_index (Proc.devRef .tc main_arg15)) = V0 (Proc.devRef .tc main_arg15) :=
  (val0_2_keep V0 main_arg15 (by decide)).trans (val0_1_main_arg15 V0)
theorem val0_2_main_arg16 (V0 : Valuation τ sig (Elt F)) : val0_2 V0 (no_index (Proc.devRef .tc main_arg16)) = V0 (Proc.devRef .tc main_arg16) :=
  (val0_2_keep V0 main_arg16 (by decide)).trans (val0_1_main_arg16 V0)
theorem val0_2_main_arg17 (V0 : Valuation τ sig (Elt F)) : val0_2 V0 (no_index (Proc.devRef .tc main_arg17)) = V0 (Proc.devRef .tc main_arg17) :=
  (val0_2_keep V0 main_arg17 (by decide)).trans (val0_1_main_arg17 V0)
theorem val0_2_main_arg18 (V0 : Valuation τ sig (Elt F)) : val0_2 V0 (no_index (Proc.devRef .tc main_arg18)) = V0 (Proc.devRef .tc main_arg18) :=
  (val0_2_keep V0 main_arg18 (by decide)).trans (val0_1_main_arg18 V0)
theorem val0_2_main_arg19 (V0 : Valuation τ sig (Elt F)) : val0_2 V0 (no_index (Proc.devRef .tc main_arg19)) = V0 (Proc.devRef .tc main_arg19) :=
  (val0_2_keep V0 main_arg19 (by decide)).trans (val0_1_main_arg19 V0)
theorem val0_2_main_arg20 (V0 : Valuation τ sig (Elt F)) : val0_2 V0 (no_index (Proc.devRef .tc main_arg20)) = V0 (Proc.devRef .tc main_arg20) :=
  (val0_2_keep V0 main_arg20 (by decide)).trans (val0_1_main_arg20 V0)
theorem val0_2_main_arg21 (V0 : Valuation τ sig (Elt F)) : val0_2 V0 (no_index (Proc.devRef .tc main_arg21)) = V0 (Proc.devRef .tc main_arg21) :=
  (val0_2_keep V0 main_arg21 (by decide)).trans (val0_1_main_arg21 V0)
theorem val0_2_main_arg22 (V0 : Valuation τ sig (Elt F)) : val0_2 V0 (no_index (Proc.devRef .tc main_arg22)) = V0 (Proc.devRef .tc main_arg22) :=
  (val0_2_keep V0 main_arg22 (by decide)).trans (val0_1_main_arg22 V0)
theorem val0_2_main_v0 (V0 : Valuation τ sig (Elt F)) : val0_2 V0 (no_index (Proc.devRef .tc main_v0)) = res_main_v0 V0 :=
  (val0_2_keep V0 main_v0 (by decide)).trans (val0_1_main_v0 V0)
theorem val0_2_main_v13 (V0 : Valuation τ sig (Elt F)) : val0_2 V0 (no_index (Proc.devRef .tc main_v13)) = res_main_v13 V0 :=
  (val0_2_keep V0 main_v13 (by decide)).trans (val0_1_main_v13 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_v29 (V0 : Valuation τ sig (Elt F)) : val0_2 V0 (no_index (Proc.devRef .tc main_v29)) = res_main_v29 V0 := by
  unfold val0_2
  simp only [ops_part0_1, TRef.binary, TRef.nullary, TRef.unary, TRef.toBuf, TRef.ofBuf, cast_eq]
  after_results_simp
  simp only [val0_1_main_arg3, val0_1_main_v0, val0_1_main_v12] <;> rfl
set_option maxRecDepth 8192 in
set_option maxHeartbeats 2000000 in
theorem val0_2_main_v39 (V0 : Valuation τ sig (Elt F)) : val0_2 V0 (no_index (Proc.devRef .tc main_v39)) = res_main_v39 V0 := by
  unfold val0_2
  simp only [ops_part0_1, TRef.binary, TRef.nullary, TRef.unary, TRef.toBuf, TRef.ofBuf, cast_eq]
  after_results_simp
  simp only [val0_1_main_arg3, val0_1_main_v0, val0_1_main_v12] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v40, main_v41, main_v42, main_v43, main_v44, main_v45, main_v46, main_v47, main_v48, main_v49, main_cst_6, main_v50, main_v51]
set_option maxRecDepth 8192 in
theorem ops_part0_2_writes : (ops_part0_2 : List (HloOp τ sig (Elt F))).Forall fun op => op.writes ⊆ (ops_part0_2_W.map (Proc.devRef (τ := τ) .tc)).toFinset :=
  forall_writes_sub_of_map rfl
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_arg12 (V0 : Valuation τ sig (Elt F)) : val1 V0 (no_index (Proc.devRef .tc main_arg12)) = V0 (Proc.devRef .tc main_arg12) :=
  (val1_keep V0 main_arg12 (by decide)).trans (val0_2_main_arg12 V0)
theorem val1_main_arg13 (V0 : Valuation τ sig (Elt F)) : val1 V0 (no_index (Proc.devRef .tc main_arg13)) = V0 (Proc.devRef .tc main_arg13) :=
  (val1_keep V0 main_arg13 (by decide)).trans (val0_2_main_arg13 V0)
theorem val1_main_arg14 (V0 : Valuation τ sig (Elt F)) : val1 V0 (no_index (Proc.devRef .tc main_arg14)) = V0 (Proc.devRef .tc main_arg14) :=
  (val1_keep V0 main_arg14 (by decide)).trans (val0_2_main_arg14 V0)
theorem val1_main_arg15 (V0 : Valuation τ sig (Elt F)) : val1 V0 (no_index (Proc.devRef .tc main_arg15)) = V0 (Proc.devRef .tc main_arg15) :=
  (val1_keep V0 main_arg15 (by decide)).trans (val0_2_main_arg15 V0)
theorem val1_main_arg16 (V0 : Valuation τ sig (Elt F)) : val1 V0 (no_index (Proc.devRef .tc main_arg16)) = V0 (Proc.devRef .tc main_arg16) :=
  (val1_keep V0 main_arg16 (by decide)).trans (val0_2_main_arg16 V0)
theorem val1_main_arg17 (V0 : Valuation τ sig (Elt F)) : val1 V0 (no_index (Proc.devRef .tc main_arg17)) = V0 (Proc.devRef .tc main_arg17) :=
  (val1_keep V0 main_arg17 (by decide)).trans (val0_2_main_arg17 V0)
theorem val1_main_arg18 (V0 : Valuation τ sig (Elt F)) : val1 V0 (no_index (Proc.devRef .tc main_arg18)) = V0 (Proc.devRef .tc main_arg18) :=
  (val1_keep V0 main_arg18 (by decide)).trans (val0_2_main_arg18 V0)
theorem val1_main_arg19 (V0 : Valuation τ sig (Elt F)) : val1 V0 (no_index (Proc.devRef .tc main_arg19)) = V0 (Proc.devRef .tc main_arg19) :=
  (val1_keep V0 main_arg19 (by decide)).trans (val0_2_main_arg19 V0)
theorem val1_main_arg20 (V0 : Valuation τ sig (Elt F)) : val1 V0 (no_index (Proc.devRef .tc main_arg20)) = V0 (Proc.devRef .tc main_arg20) :=
  (val1_keep V0 main_arg20 (by decide)).trans (val0_2_main_arg20 V0)
theorem val1_main_arg21 (V0 : Valuation τ sig (Elt F)) : val1 V0 (no_index (Proc.devRef .tc main_arg21)) = V0 (Proc.devRef .tc main_arg21) :=
  (val1_keep V0 main_arg21 (by decide)).trans (val0_2_main_arg21 V0)
theorem val1_main_arg22 (V0 : Valuation τ sig (Elt F)) : val1 V0 (no_index (Proc.devRef .tc main_arg22)) = V0 (Proc.devRef .tc main_arg22) :=
  (val1_keep V0 main_arg22 (by decide)).trans (val0_2_main_arg22 V0)
theorem val1_main_v0 (V0 : Valuation τ sig (Elt F)) : val1 V0 (no_index (Proc.devRef .tc main_v0)) = res_main_v0 V0 :=
  (val1_keep V0 main_v0 (by decide)).trans (val0_2_main_v0 V0)
theorem val1_main_v13 (V0 : Valuation τ sig (Elt F)) : val1 V0 (no_index (Proc.devRef .tc main_v13)) = res_main_v13 V0 :=
  (val1_keep V0 main_v13 (by decide)).trans (val0_2_main_v13 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v29 (V0 : Valuation τ sig (Elt F)) : val1 V0 (no_index (Proc.devRef .tc main_v29)) = res_main_v29 V0 :=
  (val1_keep V0 main_v29 (by decide)).trans (val0_2_main_v29 V0)
set_option maxRecDepth 8192 in
set_option maxHeartbeats 1300000 in
theorem val1_main_v49 (V0 : Valuation τ sig (Elt F)) : val1 V0 (no_index (Proc.devRef .tc main_v49)) = Host.dotGeneral dot_S4x8192x64_S4x64x768_S4x8192x768_2_1_1_2_0_0 none (res_main_v18 V0) (V0 (Proc.devRef .tc main_arg0)) := by
  unfold val1
  simp only [ops_part0_2]
  after_results_simp
  simp only [val0_2_main_arg0, val0_2_main_v18] <;> rfl
set_option maxRecDepth 8192 in
set_option maxHeartbeats 1300000 in
theorem val1_main_v51 (V0 : Valuation τ sig (Elt F)) : val1 V0 (no_index (Proc.devRef .tc main_v51)) = mulf (broadcastInDim S4x8192x768 ![] bcast_S_S4x8192x768 (constant S_ .f32 0x3F800000#32)) (mulf (addf (Host.dotGeneral dot_S4x8192x18_S18x768_S4x8192x768_2_0_01_1_n_n none (concatenate S4x8192x18 2 [⟨S4x8192x9, (Host.sin (res_main_v39 V0))⟩, ⟨S4x8192x9, (Host.cos (res_main_v39 V0))⟩] concatenates_S4x8192x9_S4x8192x9_S4x8192x18_d2) (V0 (Proc.devRef .tc main_arg7))) (broadcastInDim S4x8192x768 ![0, 1, 2] bcast_S1x1x768_S4x8192x768_0_1_2 (broadcastInDim S1x1x768 ![2] bcast_S768_S1x1x768_2 (V0 (Proc.devRef .tc main_arg8))))) (broadcastInDim S4x8192x768 ![0, 1, 2] bcast_S4x8192x1_S4x8192x768_0_1_2 (res_main_v0 V0))) := by
  unfold val1
  simp only [ops_part0_2]
  after_results_simp
  simp only [val0_2_main_v0, val0_2_main_arg8, val0_2_main_arg7, val0_2_main_v39] <;> rfl

/-- The device's buffer contents after @main's first 103 operations. -/
def val1_1 (V0 : Valuation τ sig (Elt F)) : Valuation τ sig (Elt F) := after ops_part1_0 (val1 V0)
/-- The buffers that window `ops_part1_0`'s operations write. -/
abbrev ops_part1_0_W : List (Ref sig .tc) := [main_v52, main_v53, main_v54, main_cst_7, main_v55, main_v56, main_cst_8, main_v57, main_v58, main_c, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4]
set_option maxRecDepth 8192 in
theorem ops_part1_0_writes : (ops_part1_0 : List (HloOp τ sig (Elt F))).Forall fun op => op.writes ⊆ (ops_part1_0_W.map (Proc.devRef (τ := τ) .tc)).toFinset :=
  forall_writes_sub_of_map rfl
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
theorem val1_1_main_arg12 (V0 : Valuation τ sig (Elt F)) : val1_1 V0 (no_index (Proc.devRef .tc main_arg12)) = V0 (Proc.devRef .tc main_arg12) :=
  (val1_1_keep V0 main_arg12 (by decide)).trans (val1_main_arg12 V0)
theorem val1_1_main_arg13 (V0 : Valuation τ sig (Elt F)) : val1_1 V0 (no_index (Proc.devRef .tc main_arg13)) = V0 (Proc.devRef .tc main_arg13) :=
  (val1_1_keep V0 main_arg13 (by decide)).trans (val1_main_arg13 V0)
theorem val1_1_main_arg14 (V0 : Valuation τ sig (Elt F)) : val1_1 V0 (no_index (Proc.devRef .tc main_arg14)) = V0 (Proc.devRef .tc main_arg14) :=
  (val1_1_keep V0 main_arg14 (by decide)).trans (val1_main_arg14 V0)
theorem val1_1_main_arg15 (V0 : Valuation τ sig (Elt F)) : val1_1 V0 (no_index (Proc.devRef .tc main_arg15)) = V0 (Proc.devRef .tc main_arg15) :=
  (val1_1_keep V0 main_arg15 (by decide)).trans (val1_main_arg15 V0)
theorem val1_1_main_arg16 (V0 : Valuation τ sig (Elt F)) : val1_1 V0 (no_index (Proc.devRef .tc main_arg16)) = V0 (Proc.devRef .tc main_arg16) :=
  (val1_1_keep V0 main_arg16 (by decide)).trans (val1_main_arg16 V0)
theorem val1_1_main_arg17 (V0 : Valuation τ sig (Elt F)) : val1_1 V0 (no_index (Proc.devRef .tc main_arg17)) = V0 (Proc.devRef .tc main_arg17) :=
  (val1_1_keep V0 main_arg17 (by decide)).trans (val1_main_arg17 V0)
theorem val1_1_main_arg18 (V0 : Valuation τ sig (Elt F)) : val1_1 V0 (no_index (Proc.devRef .tc main_arg18)) = V0 (Proc.devRef .tc main_arg18) :=
  (val1_1_keep V0 main_arg18 (by decide)).trans (val1_main_arg18 V0)
theorem val1_1_main_arg19 (V0 : Valuation τ sig (Elt F)) : val1_1 V0 (no_index (Proc.devRef .tc main_arg19)) = V0 (Proc.devRef .tc main_arg19) :=
  (val1_1_keep V0 main_arg19 (by decide)).trans (val1_main_arg19 V0)
theorem val1_1_main_arg20 (V0 : Valuation τ sig (Elt F)) : val1_1 V0 (no_index (Proc.devRef .tc main_arg20)) = V0 (Proc.devRef .tc main_arg20) :=
  (val1_1_keep V0 main_arg20 (by decide)).trans (val1_main_arg20 V0)
theorem val1_1_main_arg21 (V0 : Valuation τ sig (Elt F)) : val1_1 V0 (no_index (Proc.devRef .tc main_arg21)) = V0 (Proc.devRef .tc main_arg21) :=
  (val1_1_keep V0 main_arg21 (by decide)).trans (val1_main_arg21 V0)
theorem val1_1_main_arg22 (V0 : Valuation τ sig (Elt F)) : val1_1 V0 (no_index (Proc.devRef .tc main_arg22)) = V0 (Proc.devRef .tc main_arg22) :=
  (val1_1_keep V0 main_arg22 (by decide)).trans (val1_main_arg22 V0)
theorem val1_1_main_v0 (V0 : Valuation τ sig (Elt F)) : val1_1 V0 (no_index (Proc.devRef .tc main_v0)) = res_main_v0 V0 :=
  (val1_1_keep V0 main_v0 (by decide)).trans (val1_main_v0 V0)
theorem val1_1_main_v13 (V0 : Valuation τ sig (Elt F)) : val1_1 V0 (no_index (Proc.devRef .tc main_v13)) = res_main_v13 V0 :=
  (val1_1_keep V0 main_v13 (by decide)).trans (val1_main_v13 V0)
theorem val1_1_main_v18 (V0 : Valuation τ sig (Elt F)) : val1_1 V0 (no_index (Proc.devRef .tc main_v18)) = res_main_v18 V0 :=
  (val1_1_keep V0 main_v18 (by decide)).trans (val1_main_v18 V0)
theorem val1_1_main_v29 (V0 : Valuation τ sig (Elt F)) : val1_1 V0 (no_index (Proc.devRef .tc main_v29)) = res_main_v29 V0 :=
  (val1_1_keep V0 main_v29 (by decide)).trans (val1_main_v29 V0)
set_option maxRecDepth 8192 in
set_option maxHeartbeats 2000000 in
theorem val1_1_main_v54 (V0 : Valuation τ sig (Elt F)) : val1_1 V0 (no_index (Proc.devRef .tc main_v54)) = res_main_v54 V0 := by
  unfold val1_1
  simp only [ops_part1_0, TRef.binary, TRef.nullary, TRef.unary, TRef.toBuf, TRef.ofBuf, cast_eq]
  after_results_simp
  simp only [val1_main_v0, val1_main_v51, val1_main_v49] <;> rfl
set_option maxRecDepth 8192 in
set_option maxHeartbeats 2000000 in
theorem val1_1_main_v58 (V0 : Valuation τ sig (Elt F)) : val1_1 V0 (no_index (Proc.devRef .tc main_v58)) = Host.divf (broadcastInDim S4x8192x1 ![0, 1] bcast_S4x8192_S4x8192x1_0_1 (Host.reduceAdd (res_main_v54 V0) (constant S_ .f32 0x00000000#32) reducesTo_S4x8192x768_S4x8192_d2 h_S_)) (broadcastInDim S4x8192x1 ![] bcast_S_S4x8192x1 (constant S_ .f32 0x44400000#32)) := by
  unfold val1_1
  simp only [ops_part1_0, TRef.binary, TRef.nullary, TRef.unary, TRef.toBuf, TRef.ofBuf, cast_eq]
  after_results_simp
  simp only [val1_main_v0, val1_main_v51, val1_main_v49] <;> rfl
set_option maxRecDepth 8192 in
set_option maxHeartbeats 2000000 in
theorem val1_1_main_call5_v12 (V0 : Valuation τ sig (Elt F)) : val1_1 V0 (no_index (Proc.devRef .tc main_call5_v12)) = Host.divf (broadcastInDim S4x8192x1 ![0, 1] bcast_S4x8192_S4x8192x1_0_1 (Host.reduceAdd (mulf (res_main_call5_v5 V0) (res_main_call5_v5 V0)) (constant S_ .f32 0x00000000#32) reducesTo_S4x8192x768_S4x8192_d2 h_S_)) (broadcastInDim S4x8192x1 ![] bcast_S_S4x8192x1 (res_main_call5_v8 V0)) := by
  unfold val1_1
  simp only [ops_part1_0, TRef.binary, TRef.nullary, TRef.unary, TRef.toBuf, TRef.ofBuf, cast_eq]
  after_results_simp
  simp only [val1_main_v0, val1_main_v51, val1_main_v49] <;> rfl
set_option maxRecDepth 8192 in
set_option maxHeartbeats 2000000 in
theorem val1_1_main_call5_v13 (V0 : Valuation τ sig (Elt F)) : val1_1 V0 (no_index (Proc.devRef .tc main_call5_v13)) = cmpf .ogt (res_main_call5_v8 V0) (constant S_ .f32 0x00000000#32) := by
  unfold val1_1
  simp only [ops_part1_0, TRef.binary, TRef.nullary, TRef.unary, TRef.toBuf, TRef.ofBuf, cast_eq]
  after_results_simp
  all_goals rfl
set_option maxRecDepth 8192 in
set_option maxHeartbeats 2000000 in
theorem val1_1_main_call5_cst_4 (V0 : Valuation τ sig (Elt F)) : val1_1 V0 (no_index (Proc.devRef .tc main_call5_cst_4)) = constant S_ .f32 0x7FC00000#32 := by
  unfold val1_1
  simp only [ops_part1_0, TRef.binary, TRef.nullary, TRef.unary, TRef.toBuf, TRef.ofBuf, cast_eq]
  after_results_simp
  all_goals rfl

/-- The device's buffer contents after @main's first 133 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call5_call0_v0, main_call5_call0_v1, main_v59, main_v60, main_v61, main_cst_9, main_v62, main_v63, main_v64, main_v65, main_v66, main_v67, main_v68, main_v69, main_v70, main_v71, main_v72, main_v73, main_v74, main_v75, main_v76, main_v77, main_v78, main_cst_10, main_v79, main_v80, main_cst_11, main_v81, main_v82, main_v83]
set_option maxRecDepth 8192 in
theorem ops_part1_1_writes : (ops_part1_1 : List (HloOp τ sig (Elt F))).Forall fun op => op.writes ⊆ (ops_part1_1_W.map (Proc.devRef (τ := τ) .tc)).toFinset :=
  forall_writes_sub_of_map rfl
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg13 (V0 : Valuation τ sig (Elt F)) : val1_2 V0 (no_index (Proc.devRef .tc main_arg13)) = V0 (Proc.devRef .tc main_arg13) :=
  (val1_2_keep V0 main_arg13 (by decide)).trans (val1_1_main_arg13 V0)
theorem val1_2_main_arg14 (V0 : Valuation τ sig (Elt F)) : val1_2 V0 (no_index (Proc.devRef .tc main_arg14)) = V0 (Proc.devRef .tc main_arg14) :=
  (val1_2_keep V0 main_arg14 (by decide)).trans (val1_1_main_arg14 V0)
theorem val1_2_main_arg15 (V0 : Valuation τ sig (Elt F)) : val1_2 V0 (no_index (Proc.devRef .tc main_arg15)) = V0 (Proc.devRef .tc main_arg15) :=
  (val1_2_keep V0 main_arg15 (by decide)).trans (val1_1_main_arg15 V0)
theorem val1_2_main_arg16 (V0 : Valuation τ sig (Elt F)) : val1_2 V0 (no_index (Proc.devRef .tc main_arg16)) = V0 (Proc.devRef .tc main_arg16) :=
  (val1_2_keep V0 main_arg16 (by decide)).trans (val1_1_main_arg16 V0)
theorem val1_2_main_arg17 (V0 : Valuation τ sig (Elt F)) : val1_2 V0 (no_index (Proc.devRef .tc main_arg17)) = V0 (Proc.devRef .tc main_arg17) :=
  (val1_2_keep V0 main_arg17 (by decide)).trans (val1_1_main_arg17 V0)
theorem val1_2_main_arg18 (V0 : Valuation τ sig (Elt F)) : val1_2 V0 (no_index (Proc.devRef .tc main_arg18)) = V0 (Proc.devRef .tc main_arg18) :=
  (val1_2_keep V0 main_arg18 (by decide)).trans (val1_1_main_arg18 V0)
theorem val1_2_main_arg19 (V0 : Valuation τ sig (Elt F)) : val1_2 V0 (no_index (Proc.devRef .tc main_arg19)) = V0 (Proc.devRef .tc main_arg19) :=
  (val1_2_keep V0 main_arg19 (by decide)).trans (val1_1_main_arg19 V0)
theorem val1_2_main_arg20 (V0 : Valuation τ sig (Elt F)) : val1_2 V0 (no_index (Proc.devRef .tc main_arg20)) = V0 (Proc.devRef .tc main_arg20) :=
  (val1_2_keep V0 main_arg20 (by decide)).trans (val1_1_main_arg20 V0)
theorem val1_2_main_arg21 (V0 : Valuation τ sig (Elt F)) : val1_2 V0 (no_index (Proc.devRef .tc main_arg21)) = V0 (Proc.devRef .tc main_arg21) :=
  (val1_2_keep V0 main_arg21 (by decide)).trans (val1_1_main_arg21 V0)
theorem val1_2_main_arg22 (V0 : Valuation τ sig (Elt F)) : val1_2 V0 (no_index (Proc.devRef .tc main_arg22)) = V0 (Proc.devRef .tc main_arg22) :=
  (val1_2_keep V0 main_arg22 (by decide)).trans (val1_1_main_arg22 V0)
theorem val1_2_main_v0 (V0 : Valuation τ sig (Elt F)) : val1_2 V0 (no_index (Proc.devRef .tc main_v0)) = res_main_v0 V0 :=
  (val1_2_keep V0 main_v0 (by decide)).trans (val1_1_main_v0 V0)
theorem val1_2_main_v13 (V0 : Valuation τ sig (Elt F)) : val1_2 V0 (no_index (Proc.devRef .tc main_v13)) = res_main_v13 V0 :=
  (val1_2_keep V0 main_v13 (by decide)).trans (val1_1_main_v13 V0)
theorem val1_2_main_v18 (V0 : Valuation τ sig (Elt F)) : val1_2 V0 (no_index (Proc.devRef .tc main_v18)) = res_main_v18 V0 :=
  (val1_2_keep V0 main_v18 (by decide)).trans (val1_1_main_v18 V0)
theorem val1_2_main_v29 (V0 : Valuation τ sig (Elt F)) : val1_2 V0 (no_index (Proc.devRef .tc main_v29)) = res_main_v29 V0 :=
  (val1_2_keep V0 main_v29 (by decide)).trans (val1_1_main_v29 V0)
set_option maxRecDepth 8192 in
set_option maxHeartbeats 2000000 in
theorem val1_2_main_v83 (V0 : Valuation τ sig (Elt F)) : val1_2 V0 (no_index (Proc.devRef .tc main_v83)) = mulf (res_main_v76 V0) (Host.divf (broadcastInDim S4x8192x768 ![] bcast_S_S4x8192x768 (constant S_ .f32 0x3F800000#32)) (addf (broadcastInDim S4x8192x768 ![] bcast_S_S4x8192x768 (constant S_ .f32 0x3F800000#32)) (Host.exp (Host.negf (res_main_v76 V0))))) := by
  unfold val1_2
  simp only [ops_part1_1, TRef.ternary, TRef.unary, TRef.toBuf, TRef.ofBuf, cast_eq]
  after_results_simp
  simp only [val1_1_main_arg12, val1_1_main_arg11, val1_1_main_arg10, val1_1_main_arg9, val1_1_main_call5_cst_4, val1_1_main_call5_v12, val1_1_main_call5_v13, val1_1_main_v58, val1_1_main_v54] <;> rfl

/-- The device's buffer contents after @main's first 163 operations. -/
def val1_3 (V0 : Valuation τ sig (Elt F)) : Valuation τ sig (Elt F) := after ops_part1_2 (val1_2 V0)
/-- The buffers that window `ops_part1_2`'s operations write. -/
abbrev ops_part1_2_W : List (Ref sig .tc) := [main_v84, main_v85, main_v86, main_v87, main_v88, main_v89, main_cst_12, main_v90, main_v91, main_cst_13, main_v92, main_v93, main_c_14, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12]
set_option maxRecDepth 8192 in
theorem ops_part1_2_writes : (ops_part1_2 : List (HloOp τ sig (Elt F))).Forall fun op => op.writes ⊆ (ops_part1_2_W.map (Proc.devRef (τ := τ) .tc)).toFinset :=
  forall_writes_sub_of_map rfl
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_arg5 (V0 : Valuation τ sig (Elt F)) : val1_3 V0 (no_index (Proc.devRef .tc main_arg5)) = V0 (Proc.devRef .tc main_arg5) :=
  (val1_3_keep V0 main_arg5 (by decide)).trans (val1_2_main_arg5 V0)
theorem val1_3_main_arg6 (V0 : Valuation τ sig (Elt F)) : val1_3 V0 (no_index (Proc.devRef .tc main_arg6)) = V0 (Proc.devRef .tc main_arg6) :=
  (val1_3_keep V0 main_arg6 (by decide)).trans (val1_2_main_arg6 V0)
theorem val1_3_main_arg15 (V0 : Valuation τ sig (Elt F)) : val1_3 V0 (no_index (Proc.devRef .tc main_arg15)) = V0 (Proc.devRef .tc main_arg15) :=
  (val1_3_keep V0 main_arg15 (by decide)).trans (val1_2_main_arg15 V0)
theorem val1_3_main_arg16 (V0 : Valuation τ sig (Elt F)) : val1_3 V0 (no_index (Proc.devRef .tc main_arg16)) = V0 (Proc.devRef .tc main_arg16) :=
  (val1_3_keep V0 main_arg16 (by decide)).trans (val1_2_main_arg16 V0)
theorem val1_3_main_arg17 (V0 : Valuation τ sig (Elt F)) : val1_3 V0 (no_index (Proc.devRef .tc main_arg17)) = V0 (Proc.devRef .tc main_arg17) :=
  (val1_3_keep V0 main_arg17 (by decide)).trans (val1_2_main_arg17 V0)
theorem val1_3_main_arg18 (V0 : Valuation τ sig (Elt F)) : val1_3 V0 (no_index (Proc.devRef .tc main_arg18)) = V0 (Proc.devRef .tc main_arg18) :=
  (val1_3_keep V0 main_arg18 (by decide)).trans (val1_2_main_arg18 V0)
theorem val1_3_main_arg19 (V0 : Valuation τ sig (Elt F)) : val1_3 V0 (no_index (Proc.devRef .tc main_arg19)) = V0 (Proc.devRef .tc main_arg19) :=
  (val1_3_keep V0 main_arg19 (by decide)).trans (val1_2_main_arg19 V0)
theorem val1_3_main_arg20 (V0 : Valuation τ sig (Elt F)) : val1_3 V0 (no_index (Proc.devRef .tc main_arg20)) = V0 (Proc.devRef .tc main_arg20) :=
  (val1_3_keep V0 main_arg20 (by decide)).trans (val1_2_main_arg20 V0)
theorem val1_3_main_arg21 (V0 : Valuation τ sig (Elt F)) : val1_3 V0 (no_index (Proc.devRef .tc main_arg21)) = V0 (Proc.devRef .tc main_arg21) :=
  (val1_3_keep V0 main_arg21 (by decide)).trans (val1_2_main_arg21 V0)
theorem val1_3_main_arg22 (V0 : Valuation τ sig (Elt F)) : val1_3 V0 (no_index (Proc.devRef .tc main_arg22)) = V0 (Proc.devRef .tc main_arg22) :=
  (val1_3_keep V0 main_arg22 (by decide)).trans (val1_2_main_arg22 V0)
theorem val1_3_main_v0 (V0 : Valuation τ sig (Elt F)) : val1_3 V0 (no_index (Proc.devRef .tc main_v0)) = res_main_v0 V0 :=
  (val1_3_keep V0 main_v0 (by decide)).trans (val1_2_main_v0 V0)
theorem val1_3_main_v13 (V0 : Valuation τ sig (Elt F)) : val1_3 V0 (no_index (Proc.devRef .tc main_v13)) = res_main_v13 V0 :=
  (val1_3_keep V0 main_v13 (by decide)).trans (val1_2_main_v13 V0)
theorem val1_3_main_v18 (V0 : Valuation τ sig (Elt F)) : val1_3 V0 (no_index (Proc.devRef .tc main_v18)) = res_main_v18 V0 :=
  (val1_3_keep V0 main_v18 (by decide)).trans (val1_2_main_v18 V0)
theorem val1_3_main_v29 (V0 : Valuation τ sig (Elt F)) : val1_3 V0 (no_index (Proc.devRef .tc main_v29)) = res_main_v29 V0 :=
  (val1_3_keep V0 main_v29 (by decide)).trans (val1_2_main_v29 V0)
set_option maxRecDepth 8192 in
set_option maxHeartbeats 2000000 in
theorem val1_3_main_v89 (V0 : Valuation τ sig (Elt F)) : val1_3 V0 (no_index (Proc.devRef .tc main_v89)) = res_main_v89 V0 := by
  unfold val1_3
  simp only [ops_part1_2, TRef.binary, TRef.nullary, TRef.unary, TRef.toBuf, TRef.ofBuf, cast_eq]
  after_results_simp
  simp only [val1_2_main_v0, val1_2_main_arg14, val1_2_main_arg13, val1_2_main_v83] <;> rfl
set_option maxRecDepth 8192 in
set_option maxHeartbeats 2000000 in
theorem val1_3_main_v93 (V0 : Valuation τ sig (Elt F)) : val1_3 V0 (no_index (Proc.devRef .tc main_v93)) = Host.divf (broadcastInDim S4x8192x1 ![0, 1] bcast_S4x8192_S4x8192x1_0_1 (Host.reduceAdd (res_main_v89 V0) (constant S_ .f32 0x00000000#32) reducesTo_S4x8192x768_S4x8192_d2 h_S_)) (broadcastInDim S4x8192x1 ![] bcast_S_S4x8192x1 (constant S_ .f32 0x44400000#32)) := by
  unfold val1_3
  simp only [ops_part1_2, TRef.binary, TRef.nullary, TRef.unary, TRef.toBuf, TRef.ofBuf, cast_eq]
  after_results_simp
  simp only [val1_2_main_v0, val1_2_main_arg14, val1_2_main_arg13, val1_2_main_v83] <;> rfl
set_option maxRecDepth 8192 in
set_option maxHeartbeats 2000000 in
theorem val1_3_main_call6_v8 (V0 : Valuation τ sig (Elt F)) : val1_3 V0 (no_index (Proc.devRef .tc main_call6_v8)) = res_main_call6_v8 V0 := by
  unfold val1_3
  simp only [ops_part1_2, TRef.binary, TRef.nullary, TRef.unary, TRef.toBuf, TRef.ofBuf, cast_eq]
  after_results_simp
  all_goals rfl
set_option maxRecDepth 8192 in
set_option maxHeartbeats 2000000 in
theorem val1_3_main_call6_v12 (V0 : Valuation τ sig (Elt F)) : val1_3 V0 (no_index (Proc.devRef .tc main_call6_v12)) = Host.divf (broadcastInDim S4x8192x1 ![0, 1] bcast_S4x8192_S4x8192x1_0_1 (Host.reduceAdd (mulf (res_main_call6_v5 V0) (res_main_call6_v5 V0)) (constant S_ .f32 0x00000000#32) reducesTo_S4x8192x768_S4x8192_d2 h_S_)) (broadcastInDim S4x8192x1 ![] bcast_S_S4x8192x1 (res_main_call6_v8 V0)) := by
  unfold val1_3
  simp only [ops_part1_2, TRef.binary, TRef.nullary, TRef.unary, TRef.toBuf, TRef.ofBuf, cast_eq]
  after_results_simp
  simp only [val1_2_main_v0, val1_2_main_arg14, val1_2_main_arg13, val1_2_main_v83] <;> rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_call6_cst_3, main_call6_v13, main_call6_cst_4, main_call6_call0_v0, main_call6_call0_v1, main_v94, main_v95, main_v96, main_cst_15, main_v97, main_v98, main_v99, main_v100, main_v101]
set_option maxRecDepth 8192 in
theorem ops_part1_3_writes : (ops_part1_3 : List (HloOp τ sig (Elt F))).Forall fun op => op.writes ⊆ (ops_part1_3_W.map (Proc.devRef (τ := τ) .tc)).toFinset :=
  forall_writes_sub_of_map rfl
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_arg5 (V0 : Valuation τ sig (Elt F)) : val2 V0 (no_index (Proc.devRef .tc main_arg5)) = V0 (Proc.devRef .tc main_arg5) :=
  (val2_keep V0 main_arg5 (by decide)).trans (val1_3_main_arg5 V0)
theorem val2_main_arg6 (V0 : Valuation τ sig (Elt F)) : val2 V0 (no_index (Proc.devRef .tc main_arg6)) = V0 (Proc.devRef .tc main_arg6) :=
  (val2_keep V0 main_arg6 (by decide)).trans (val1_3_main_arg6 V0)
theorem val2_main_arg15 (V0 : Valuation τ sig (Elt F)) : val2 V0 (no_index (Proc.devRef .tc main_arg15)) = V0 (Proc.devRef .tc main_arg15) :=
  (val2_keep V0 main_arg15 (by decide)).trans (val1_3_main_arg15 V0)
theorem val2_main_arg16 (V0 : Valuation τ sig (Elt F)) : val2 V0 (no_index (Proc.devRef .tc main_arg16)) = V0 (Proc.devRef .tc main_arg16) :=
  (val2_keep V0 main_arg16 (by decide)).trans (val1_3_main_arg16 V0)
theorem val2_main_arg17 (V0 : Valuation τ sig (Elt F)) : val2 V0 (no_index (Proc.devRef .tc main_arg17)) = V0 (Proc.devRef .tc main_arg17) :=
  (val2_keep V0 main_arg17 (by decide)).trans (val1_3_main_arg17 V0)
theorem val2_main_arg18 (V0 : Valuation τ sig (Elt F)) : val2 V0 (no_index (Proc.devRef .tc main_arg18)) = V0 (Proc.devRef .tc main_arg18) :=
  (val2_keep V0 main_arg18 (by decide)).trans (val1_3_main_arg18 V0)
theorem val2_main_arg19 (V0 : Valuation τ sig (Elt F)) : val2 V0 (no_index (Proc.devRef .tc main_arg19)) = V0 (Proc.devRef .tc main_arg19) :=
  (val2_keep V0 main_arg19 (by decide)).trans (val1_3_main_arg19 V0)
theorem val2_main_arg20 (V0 : Valuation τ sig (Elt F)) : val2 V0 (no_index (Proc.devRef .tc main_arg20)) = V0 (Proc.devRef .tc main_arg20) :=
  (val2_keep V0 main_arg20 (by decide)).trans (val1_3_main_arg20 V0)
theorem val2_main_arg21 (V0 : Valuation τ sig (Elt F)) : val2 V0 (no_index (Proc.devRef .tc main_arg21)) = V0 (Proc.devRef .tc main_arg21) :=
  (val2_keep V0 main_arg21 (by decide)).trans (val1_3_main_arg21 V0)
theorem val2_main_arg22 (V0 : Valuation τ sig (Elt F)) : val2 V0 (no_index (Proc.devRef .tc main_arg22)) = V0 (Proc.devRef .tc main_arg22) :=
  (val2_keep V0 main_arg22 (by decide)).trans (val1_3_main_arg22 V0)
theorem val2_main_v0 (V0 : Valuation τ sig (Elt F)) : val2 V0 (no_index (Proc.devRef .tc main_v0)) = res_main_v0 V0 :=
  (val2_keep V0 main_v0 (by decide)).trans (val1_3_main_v0 V0)
theorem val2_main_v13 (V0 : Valuation τ sig (Elt F)) : val2 V0 (no_index (Proc.devRef .tc main_v13)) = res_main_v13 V0 :=
  (val2_keep V0 main_v13 (by decide)).trans (val1_3_main_v13 V0)
theorem val2_main_v18 (V0 : Valuation τ sig (Elt F)) : val2 V0 (no_index (Proc.devRef .tc main_v18)) = res_main_v18 V0 :=
  (val2_keep V0 main_v18 (by decide)).trans (val1_3_main_v18 V0)
theorem val2_main_v29 (V0 : Valuation τ sig (Elt F)) : val2 V0 (no_index (Proc.devRef .tc main_v29)) = res_main_v29 V0 :=
  (val2_keep V0 main_v29 (by decide)).trans (val1_3_main_v29 V0)
set_option maxRecDepth 8192 in
set_option maxHeartbeats 1400000 in
theorem val2_main_v101 (V0 : Valuation τ sig (Elt F)) : val2 V0 (no_index (Proc.devRef .tc main_v101)) = Host.divf (subf (res_main_v89 V0) (broadcastInDim S4x8192x768 ![0, 1, 2] bcast_S4x8192x1_S4x8192x768_0_1_2 (Host.divf (broadcastInDim S4x8192x1 ![0, 1] bcast_S4x8192_S4x8192x1_0_1 (Host.reduceAdd (res_main_v89 V0) (constant S_ .f32 0x00000000#32) reducesTo_S4x8192x768_S4x8192_d2 h_S_)) (broadcastInDim S4x8192x1 ![] bcast_S_S4x8192x1 (constant S_ .f32 0x44400000#32))))) (broadcastInDim S4x8192x768 ![0, 1, 2] bcast_S4x8192x1_S4x8192x768_0_1_2 (Host.sqrt (addf (select (broadcastInDim S4x8192x1 ![] bcast_S_S4x8192x1 (cmpf .ogt (res_main_call6_v8 V0) (constant S_ .f32 0x00000000#32))) (Host.divf (broadcastInDim S4x8192x1 ![0, 1] bcast_S4x8192_S4x8192x1_0_1 (Host.reduceAdd (mulf (res_main_call6_v5 V0) (res_main_call6_v5 V0)) (constant S_ .f32 0x00000000#32) reducesTo_S4x8192x768_S4x8192_d2 h_S_)) (broadcastInDim S4x8192x1 ![] bcast_S_S4x8192x1 (res_main_call6_v8 V0))) (broadcastInDim S4x8192x1 ![] bcast_S_S4x8192x1 (id (constant S_ .f32 0x7FC00000#32)))) (broadcastInDim S4x8192x1 ![] bcast_S_S4x8192x1 (constant S_ .f32 0x3727C5AC#32))))) := by
  unfold val2
  simp only [ops_part1_3, TRef.binary, TRef.nullary, TRef.ternary, TRef.unary, TRef.toBuf, TRef.ofBuf, cast_eq]
  after_results_simp
  simp only [val1_3_main_call6_v12, val1_3_main_call6_v8, val1_3_main_v93, val1_3_main_v89] <;> rfl

/-- The device's buffer contents after @main's first 207 operations. -/
def val2_1 (V0 : Valuation τ sig (Elt F)) : Valuation τ sig (Elt F) := after ops_part2_0 (val2 V0)
/-- The buffers that window `ops_part2_0`'s operations write. -/
abbrev ops_part2_0_W : List (Ref sig .tc) := [main_v102, main_v103, main_v104, main_v105, main_v106, main_v107, main_v108, main_v109, main_v110, main_v111, main_v112, main_v113, main_cst_16, main_v114, main_v115, main_cst_17, main_v116, main_v117, main_v118, main_v119, main_v120, main_v121, main_v122, main_v123, main_v124, main_cst_18, main_v125, main_v126, main_cst_19, main_v127]
set_option maxRecDepth 8192 in
theorem ops_part2_0_writes : (ops_part2_0 : List (HloOp τ sig (Elt F))).Forall fun op => op.writes ⊆ (ops_part2_0_W.map (Proc.devRef (τ := τ) .tc)).toFinset :=
  forall_writes_sub_of_map rfl
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg21 (V0 : Valuation τ sig (Elt F)) : val2_1 V0 (no_index (Proc.devRef .tc main_arg21)) = V0 (Proc.devRef .tc main_arg21) :=
  (val2_1_keep V0 main_arg21 (by decide)).trans (val2_main_arg21 V0)
theorem val2_1_main_arg22 (V0 : Valuation τ sig (Elt F)) : val2_1 V0 (no_index (Proc.devRef .tc main_arg22)) = V0 (Proc.devRef .tc main_arg22) :=
  (val2_1_keep V0 main_arg22 (by decide)).trans (val2_main_arg22 V0)
theorem val2_1_main_v0 (V0 : Valuation τ sig (Elt F)) : val2_1 V0 (no_index (Proc.devRef .tc main_v0)) = res_main_v0 V0 :=
  (val2_1_keep V0 main_v0 (by decide)).trans (val2_main_v0 V0)
theorem val2_1_main_v13 (V0 : Valuation τ sig (Elt F)) : val2_1 V0 (no_index (Proc.devRef .tc main_v13)) = res_main_v13 V0 :=
  (val2_1_keep V0 main_v13 (by decide)).trans (val2_main_v13 V0)
theorem val2_1_main_v18 (V0 : Valuation τ sig (Elt F)) : val2_1 V0 (no_index (Proc.devRef .tc main_v18)) = res_main_v18 V0 :=
  (val2_1_keep V0 main_v18 (by decide)).trans (val2_main_v18 V0)
theorem val2_1_main_v29 (V0 : Valuation τ sig (Elt F)) : val2_1 V0 (no_index (Proc.devRef .tc main_v29)) = res_main_v29 V0 :=
  (val2_1_keep V0 main_v29 (by decide)).trans (val2_main_v29 V0)
set_option maxRecDepth 8192 in
set_option maxHeartbeats 2000000 in
theorem val2_1_main_v122 (V0 : Valuation τ sig (Elt F)) : val2_1 V0 (no_index (Proc.devRef .tc main_v122)) = res_main_v122 V0 := by
  unfold val2_1
  simp only [ops_part2_0]
  after_results_simp
  simp only [val2_main_arg20, val2_main_arg19, val2_main_arg18, val2_main_arg17, val2_main_arg16, val2_main_arg15, val2_main_v101] <;> rfl
set_option maxRecDepth 8192 in
set_option maxHeartbeats 2000000 in
theorem val2_1_main_v126 (V0 : Valuation τ sig (Elt F)) : val2_1 V0 (no_index (Proc.devRef .tc main_v126)) = addf (broadcastInDim S4x8192x256 ![] bcast_S_S4x8192x256 (constant S_ .f32 0x3F800000#32)) (Host.exp (Host.negf (res_main_v122 V0))) := by
  unfold val2_1
  simp only [ops_part2_0]
  after_results_simp
  simp only [val2_main_arg20, val2_main_arg19, val2_main_arg18, val2_main_arg17, val2_main_arg16, val2_main_arg15, val2_main_v101] <;> rfl
set_option maxRecDepth 8192 in
set_option maxHeartbeats 2000000 in
theorem val2_1_main_v127 (V0 : Valuation τ sig (Elt F)) : val2_1 V0 (no_index (Proc.devRef .tc main_v127)) = broadcastInDim S4x8192x256 ![] bcast_S_S4x8192x256 (constant S_ .f32 0x3F800000#32) := by
  unfold val2_1
  simp only [ops_part2_0]
  after_results_simp
  all_goals rfl

/-- The device's buffer contents after @main's first 237 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v128, main_v129, main_v130, main_v131, main_v132, main_v133, main_v134, main_v135, main_v136, main_cst_20, main_v137, main_v138, main_cst_21, main_call7_v0, main_call7_v1, main_v139, main_c_22, main_c_23, main_call8_v0, main_call8_v1, main_call8_v2, main_call8_v3, main_call8_v4, main_v140, main_v141, main_v142, main_c_24, main_v143, main_v144, main_c_25]
set_option maxRecDepth 8192 in
theorem ops_part2_1_writes : (ops_part2_1 : List (HloOp τ sig (Elt F))).Forall fun op => op.writes ⊆ (ops_part2_1_W.map (Proc.devRef (τ := τ) .tc)).toFinset :=
  forall_writes_sub_of_map rfl
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_v0 (V0 : Valuation τ sig (Elt F)) : val2_2 V0 (no_index (Proc.devRef .tc main_v0)) = res_main_v0 V0 :=
  (val2_2_keep V0 main_v0 (by decide)).trans (val2_1_main_v0 V0)
theorem val2_2_main_v13 (V0 : Valuation τ sig (Elt F)) : val2_2 V0 (no_index (Proc.devRef .tc main_v13)) = res_main_v13 V0 :=
  (val2_2_keep V0 main_v13 (by decide)).trans (val2_1_main_v13 V0)
theorem val2_2_main_v18 (V0 : Valuation τ sig (Elt F)) : val2_2 V0 (no_index (Proc.devRef .tc main_v18)) = res_main_v18 V0 :=
  (val2_2_keep V0 main_v18 (by decide)).trans (val2_1_main_v18 V0)
theorem val2_2_main_v29 (V0 : Valuation τ sig (Elt F)) : val2_2 V0 (no_index (Proc.devRef .tc main_v29)) = res_main_v29 V0 :=
  (val2_2_keep V0 main_v29 (by decide)).trans (val2_1_main_v29 V0)
set_option maxRecDepth 8192 in
set_option maxHeartbeats 2000000 in
theorem val2_2_main_v138 (V0 : Valuation τ sig (Elt F)) : val2_2 V0 (no_index (Proc.devRef .tc main_v138)) = res_main_v138 V0 := by
  unfold val2_2
  simp only [ops_part2_1, TRef.binary, TRef.unary, TRef.toBuf, TRef.ofBuf, cast_eq]
  after_results_simp
  simp only [val2_1_main_v0, val2_1_main_arg22, val2_1_main_arg21, val2_1_main_v126, val2_1_main_v127, val2_1_main_v122] <;> rfl
set_option maxRecDepth 8192 in
set_option maxHeartbeats 2000000 in
theorem val2_2_main_v139 (V0 : Valuation τ sig (Elt F)) : val2_2 V0 (no_index (Proc.devRef .tc main_v139)) = maximumf (broadcastInDim S4x64x3 ![] bcast_S_S4x64x3 (id (constant S_ .f32 0x322BCC77#32))) (V0 (Proc.devRef .tc main_arg6)) := by
  unfold val2_2
  simp only [ops_part2_1, TRef.binary, TRef.unary, TRef.toBuf, TRef.ofBuf, cast_eq]
  after_results_simp
  simp only [val2_1_main_arg6] <;> rfl
set_option maxRecDepth 8192 in
set_option maxHeartbeats 2000000 in
theorem val2_2_main_v140 (V0 : Valuation τ sig (Elt F)) : val2_2 V0 (no_index (Proc.devRef .tc main_v140)) = res_main_v140 V0 := by
  unfold val2_2
  simp only [ops_part2_1, TRef.binary, TRef.unary, TRef.toBuf, TRef.ofBuf, cast_eq]
  after_results_simp
  simp only [val2_1_main_v13] <;> rfl
set_option maxRecDepth 8192 in
set_option maxHeartbeats 2000000 in
theorem val2_2_main_v142 (V0 : Valuation τ sig (Elt F)) : val2_2 V0 (no_index (Proc.devRef .tc main_v142)) = res_main_v142 V0 := by
  unfold val2_2
  simp only [ops_part2_1, TRef.binary, TRef.unary, TRef.toBuf, TRef.ofBuf, cast_eq]
  after_results_simp
  all_goals rfl
set_option maxRecDepth 8192 in
set_option maxHeartbeats 2000000 in
theorem val2_2_main_v144 (V0 : Valuation τ sig (Elt F)) : val2_2 V0 (no_index (Proc.devRef .tc main_v144)) = cmpi .slt (res_main_v142 V0) (broadcastInDim S4x1 ![] bcast_S_S4x1 (constantI S_ 32 0#32)) := by
  unfold val2_2
  simp only [ops_part2_1, TRef.binary, TRef.unary, TRef.toBuf, TRef.ofBuf, cast_eq]
  after_results_simp
  all_goals rfl
set_option maxRecDepth 8192 in
set_option maxHeartbeats 2000000 in
theorem val2_2_main_c_25 (V0 : Valuation τ sig (Elt F)) : val2_2 V0 (no_index (Proc.devRef .tc main_c_25)) = constantI S_ 32 4#32 := by
  unfold val2_2
  simp only [ops_part2_1, TRef.binary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v145, main_v146, main_v147, main_c_26, main_v148, main_v149, main_c_27]
set_option maxRecDepth 8192 in
theorem ops_part2_2_writes : (ops_part2_2 : List (HloOp τ sig (Elt F))).Forall fun op => op.writes ⊆ (ops_part2_2_W.map (Proc.devRef (τ := τ) .tc)).toFinset :=
  forall_writes_sub_of_map rfl
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_v0 (V0 : Valuation τ sig (Elt F)) : val3 V0 (no_index (Proc.devRef .tc main_v0)) = res_main_v0 V0 :=
  (val3_keep V0 main_v0 (by decide)).trans (val2_2_main_v0 V0)
theorem val3_main_v13 (V0 : Valuation τ sig (Elt F)) : val3 V0 (no_index (Proc.devRef .tc main_v13)) = res_main_v13 V0 :=
  (val3_keep V0 main_v13 (by decide)).trans (val2_2_main_v13 V0)
theorem val3_main_v18 (V0 : Valuation τ sig (Elt F)) : val3 V0 (no_index (Proc.devRef .tc main_v18)) = res_main_v18 V0 :=
  (val3_keep V0 main_v18 (by decide)).trans (val2_2_main_v18 V0)
theorem val3_main_v29 (V0 : Valuation τ sig (Elt F)) : val3 V0 (no_index (Proc.devRef .tc main_v29)) = res_main_v29 V0 :=
  (val3_keep V0 main_v29 (by decide)).trans (val2_2_main_v29 V0)
theorem val3_main_v138 (V0 : Valuation τ sig (Elt F)) : val3 V0 (no_index (Proc.devRef .tc main_v138)) = res_main_v138 V0 :=
  (val3_keep V0 main_v138 (by decide)).trans (val2_2_main_v138 V0)
theorem val3_main_v139 (V0 : Valuation τ sig (Elt F)) : val3 V0 (no_index (Proc.devRef .tc main_v139)) = maximumf (broadcastInDim S4x64x3 ![] bcast_S_S4x64x3 (id (constant S_ .f32 0x322BCC77#32))) (V0 (Proc.devRef .tc main_arg6)) :=
  (val3_keep V0 main_v139 (by decide)).trans (val2_2_main_v139 V0)
theorem val3_main_v140 (V0 : Valuation τ sig (Elt F)) : val3 V0 (no_index (Proc.devRef .tc main_v140)) = res_main_v140 V0 :=
  (val3_keep V0 main_v140 (by decide)).trans (val2_2_main_v140 V0)
set_option maxRecDepth 8192 in
theorem val3_main_v147 (V0 : Valuation τ sig (Elt F)) : val3 V0 (no_index (Proc.devRef .tc main_v147)) = select (cmpi .slt (res_main_v142 V0) (broadcastInDim S4x1 ![] bcast_S_S4x1 (constantI S_ 32 0#32))) (addi (res_main_v142 V0) (broadcastInDim S4x1 ![] bcast_S_S4x1 (constantI S_ 32 4#32))) (res_main_v142 V0) := by
  unfold val3
  simp only [ops_part2_2]
  after_results_simp
  simp only [val2_2_main_v142, val2_2_main_c_25, val2_2_main_v144] <;> rfl
set_option maxRecDepth 8192 in
theorem val3_main_v149 (V0 : Valuation τ sig (Elt F)) : val3 V0 (no_index (Proc.devRef .tc main_v149)) = cmpi .slt (res_main_v140 V0) (broadcastInDim S4x8192 ![] bcast_S_S4x8192 (constantI S_ 32 0#32)) := by
  unfold val3
  simp only [ops_part2_2]
  after_results_simp
  simp only [val2_2_main_v140] <;> rfl
set_option maxRecDepth 8192 in
theorem val3_main_c_27 (V0 : Valuation τ sig (Elt F)) : val3 V0 (no_index (Proc.devRef .tc main_c_27)) = constantI S_ 32 64#32 := by
  unfold val3
  simp only [ops_part2_2]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v150, main_v151, main_v152, main_v153, main_v154, main_v155, main_v156, main_v157, main_v158, main_v159, main_cst_28, main_call9_v0, main_call9_v1, main_v160, main_v161, main_v162, main_v163, main_v164, main_v165, main_cst_29, main_v166, main_v167]
set_option maxRecDepth 8192 in
theorem ops_part3_writes : (ops_part3 : List (HloOp τ sig (Elt F))).Forall fun op => op.writes ⊆ (ops_part3_W.map (Proc.devRef (τ := τ) .tc)).toFinset :=
  forall_writes_sub_of_map rfl
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_v13 (V0 : Valuation τ sig (Elt F)) : val4 V0 (no_index (Proc.devRef .tc main_v13)) = res_main_v13 V0 :=
  (val4_keep V0 main_v13 (by decide)).trans (val3_main_v13 V0)
theorem val4_main_v18 (V0 : Valuation τ sig (Elt F)) : val4 V0 (no_index (Proc.devRef .tc main_v18)) = res_main_v18 V0 :=
  (val4_keep V0 main_v18 (by decide)).trans (val3_main_v18 V0)
theorem val4_main_v29 (V0 : Valuation τ sig (Elt F)) : val4 V0 (no_index (Proc.devRef .tc main_v29)) = res_main_v29 V0 :=
  (val4_keep V0 main_v29 (by decide)).trans (val3_main_v29 V0)
theorem val4_main_v138 (V0 : Valuation τ sig (Elt F)) : val4 V0 (no_index (Proc.devRef .tc main_v138)) = res_main_v138 V0 :=
  (val4_keep V0 main_v138 (by decide)).trans (val3_main_v138 V0)
set_option maxRecDepth 8192 in
set_option maxHeartbeats 2000000 in
theorem val4_main_v167 (V0 : Valuation τ sig (Elt F)) : val4 V0 (no_index (Proc.devRef .tc main_v167)) = res_main_v167 V0 := by
  unfold val4
  simp only [ops_part3, TRef.binary, TRef.unary, TRef.toBuf, TRef.ofBuf, cast_eq]
  after_results_simp
  simp only [val3_main_v0, val3_main_v139, val3_main_v18, val3_main_v138, val3_main_v140, val3_main_c_27, val3_main_v149, val3_main_v147, val3_main_arg5, val3_main_arg4] <;> rfl

theorem after_ops (V0 : Valuation τ sig (Elt F)) : after ops V0 = val4 V0 := by
  simp only [ops, ops_part0, ops_part1, ops_part2, after_append]
  rfl

/-- The buffers the operations write. -/
abbrev written : List (Ref sig .tc) := ops_part0_0_W ++ ops_part0_1_W ++ ops_part0_2_W ++ ops_part1_0_W ++ ops_part1_1_W ++ ops_part1_2_W ++ ops_part1_3_W ++ ops_part2_0_W ++ ops_part2_1_W ++ ops_part2_2_W ++ ops_part3_W

/-- A buffer none of the operations writes keeps its contents. -/
theorem keep (V0 : Valuation τ sig (Elt F)) (r : Ref sig .tc) (h : r ∉ written) :
    after ops V0 (Proc.devRef .tc r) = V0 (Proc.devRef .tc r) := by
  simp only [written, List.mem_append, not_or] at h
  obtain ⟨⟨⟨⟨⟨⟨⟨⟨⟨⟨h0, h1⟩, h2⟩, h3⟩, h4⟩, h5⟩, h6⟩, h7⟩, h8⟩, h9⟩, h10⟩ := h
  rw [after_ops]
  rw [val4_keep V0 r h10, val3_keep V0 r h9, val2_2_keep V0 r h8, val2_1_keep V0 r h7, val2_keep V0 r h6, val1_3_keep V0 r h5, val1_2_keep V0 r h4, val1_1_keep V0 r h3, val1_keep V0 r h2, val0_2_keep V0 r h1, val0_1_keep V0 r h0]
  rfl

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No operation writes an argument array. -/
theorem args_kept : ∀ a ∈ argRefs, a ∉ written := by decide +kernel

/-- The reference runs to the end: its results at the operations' composed terms, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167) = res_main_v167 (launchContents m c)
      ∧ r.2.mem ((c.tc : Thread nD τ).loc main_v138) = res_main_v138 (launchContents m c)
      ∧ r.2.mem ((c.tc : Thread nD τ).loc main_v29) = res_main_v29 (launchContents m c)
      ∧ r.2.mem ((c.tc : Thread nD τ).loc main_v18) = res_main_v18 (launchContents m c)
      ∧ r.2.mem ((c.tc : Thread nD τ).loc main_v13) = res_main_v13 (launchContents m c)
      ∧ ∀ a ∈ argRefs, r.2.mem ((c.tc : Thread nD τ).loc a) = m ((c.tc : Thread nD τ).loc a) :=
  (θ_run defs _ _).mono (fun _ h c => ⟨(h c main_v167).trans ((congrFun (after_ops (launchContents m c)) (Proc.devRef .tc main_v167)).trans (val4_main_v167 (launchContents m c))),
      (h c main_v138).trans ((congrFun (after_ops (launchContents m c)) (Proc.devRef .tc main_v138)).trans (val4_main_v138 (launchContents m c))),
      (h c main_v29).trans ((congrFun (after_ops (launchContents m c)) (Proc.devRef .tc main_v29)).trans (val4_main_v29 (launchContents m c))),
      (h c main_v18).trans ((congrFun (after_ops (launchContents m c)) (Proc.devRef .tc main_v18)).trans (val4_main_v18 (launchContents m c))),
      (h c main_v13).trans ((congrFun (after_ops (launchContents m c)) (Proc.devRef .tc main_v13)).trans (val4_main_v13 (launchContents m c))),
      fun a ha => (h c a).trans (keep (launchContents m c) a (args_kept a ha))⟩)
    (run_seq scopedRefs_eq scopedSems_eq defs main (fun _ => ops) main_eq (fun _ => ops_sub) m ρ fun _ => ops_fresh)

end Cert.ReferenceIdeal.Value

end
-- ==== Proof.Frames.lean ====
module

public import proofs.«01_k».proof.Proof.Same
public import proofs.«01_k».proof.Proof.Run
public import proofs.«01_k».proof.Proof.RefRun

/-! # The frames

Each program runs to its end, leaves its arguments as they were, and ends with every semaphore at zero. -/

@[expose] public section

noncomputable section

namespace Cert.Proof

open Idealize.ShloMosaic Idealize.SL.Sem

attribute [local instance] Cert.Kernel.Gen.facts Cert.KernelIdeal.Gen.facts Cert.ReferenceIdeal.Gen.facts

/-- The idealized kernel's frame, at either instance. -/
theorem keeps {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)) ∧ r.2.sem = fun _ => 0) :=
  θ_run_mono (Cert.KernelIdeal.Run.args m g) fun r h => ⟨fun c =>
    ⟨h.1 c Cert.KernelIdeal.main_arg0 (by decide), h.1 c Cert.KernelIdeal.main_arg1 (by decide), h.1 c Cert.KernelIdeal.main_arg2 (by decide), h.1 c Cert.KernelIdeal.main_arg3 (by decide), h.1 c Cert.KernelIdeal.main_arg4 (by decide), h.1 c Cert.KernelIdeal.main_arg5 (by decide), h.1 c Cert.KernelIdeal.main_arg6 (by decide), h.1 c Cert.KernelIdeal.main_arg7 (by decide), h.1 c Cert.KernelIdeal.main_arg8 (by decide), h.1 c Cert.KernelIdeal.main_arg9 (by decide), h.1 c Cert.KernelIdeal.main_arg10 (by decide), h.1 c Cert.KernelIdeal.main_arg11 (by decide), h.1 c Cert.KernelIdeal.main_arg12 (by decide), h.1 c Cert.KernelIdeal.main_arg13 (by decide), h.1 c Cert.KernelIdeal.main_arg14 (by decide), h.1 c Cert.KernelIdeal.main_arg15 (by decide), h.1 c Cert.KernelIdeal.main_arg16 (by decide), h.1 c Cert.KernelIdeal.main_arg17 (by decide), h.1 c Cert.KernelIdeal.main_arg18 (by decide), h.1 c Cert.KernelIdeal.main_arg19 (by decide), h.1 c Cert.KernelIdeal.main_arg20 (by decide), h.1 c Cert.KernelIdeal.main_arg21 (by decide), h.1 c Cert.KernelIdeal.main_arg22 (by decide)⟩, h.2⟩

/-- The kernel's frame: its idealization's, the program being the same. -/
theorem frame_p : Cert.quiescent_Kernel := fun m g _ => (same _ _).mpr (fun m g => keeps m g) m g

/-- The idealized kernel's frame. -/
theorem frame_pi : Cert.quiescent_KernelIdeal := fun m g _ => keeps m g

/-- The reference's frame. -/
theorem keepsRef (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)) ∧ r.2.sem = fun _ => 0) :=
  θ_run_mono (Cert.ReferenceIdeal.Value.run m g) fun r h => ⟨fun c => have a := (h c).2.2.2.2.2
    ⟨a Cert.ReferenceIdeal.main_arg0 (by decide), a Cert.ReferenceIdeal.main_arg1 (by decide), a Cert.ReferenceIdeal.main_arg2 (by decide), a Cert.ReferenceIdeal.main_arg3 (by decide), a Cert.ReferenceIdeal.main_arg4 (by decide), a Cert.ReferenceIdeal.main_arg5 (by decide), a Cert.ReferenceIdeal.main_arg6 (by decide), a Cert.ReferenceIdeal.main_arg7 (by decide), a Cert.ReferenceIdeal.main_arg8 (by decide), a Cert.ReferenceIdeal.main_arg9 (by decide), a Cert.ReferenceIdeal.main_arg10 (by decide), a Cert.ReferenceIdeal.main_arg11 (by decide), a Cert.ReferenceIdeal.main_arg12 (by decide), a Cert.ReferenceIdeal.main_arg13 (by decide), a Cert.ReferenceIdeal.main_arg14 (by decide), a Cert.ReferenceIdeal.main_arg15 (by decide), a Cert.ReferenceIdeal.main_arg16 (by decide), a Cert.ReferenceIdeal.main_arg17 (by decide), a Cert.ReferenceIdeal.main_arg18 (by decide), a Cert.ReferenceIdeal.main_arg19 (by decide), a Cert.ReferenceIdeal.main_arg20 (by decide), a Cert.ReferenceIdeal.main_arg21 (by decide), a Cert.ReferenceIdeal.main_arg22 (by decide)⟩, sem_eq_zero_of_no_sems (by decide) r.2⟩

theorem frame_ri : Cert.quiescent_ReferenceIdeal := fun m g _ => keepsRef m g

end Cert.Proof

end
-- ==== Proof.Spec.lean ====
module

public import Idealize.ShloMosaic.Lib.Pointwise

/-! # One row of the problem, in exact arithmetic

The mathematics of one row (one batch, one point): the row's router weights, its parent, its
position, and the state and coordinates decoded from them, as functions of plain families of
extended reals. Both programs are read against these definitions. -/

@[expose] public section

noncomputable section

namespace Cert.Spec

open Idealize.ShloMosaic

/-- The smallest divisor of the normalisations. -/
def eps : EReal := Ideal.ofBits .f32 0x322BCC77#32

/-- A row of non-negative weights scaled to sum to one. -/
def norm (a : Fin 64 → EReal) : Fin 64 → EReal := fun k => Ideal.div (a k) (max eps (∑ i, a i))

/-- `i` is the first of the largest entries of `w`. -/
def IsTop {n : ℕ} (w : Fin n → EReal) (i : Fin n) : Prop := (∀ j, w j ≤ w i) ∧ ∀ j, j < i → w j < w i

theorem exists_top {n : ℕ} (w : Fin (n + 1) → EReal) : ∃ i, IsTop w i := by
  classical
  obtain ⟨m, -, hm⟩ := Finset.exists_max_image Finset.univ w ⟨0, Finset.mem_univ _⟩
  have hne : (Finset.univ.filter fun i => w i = w m).Nonempty := ⟨m, by simp⟩
  have hk := Finset.min'_mem _ hne
  rw [Finset.mem_filter] at hk
  refine ⟨Finset.min' _ hne, fun j => by rw [hk.2]; exact hm j (Finset.mem_univ _), fun j hj => ?_⟩
  rw [hk.2]
  refine lt_of_le_of_ne (hm j (Finset.mem_univ _)) fun e => ?_
  exact absurd (Finset.min'_le (Finset.univ.filter fun i => w i = w m) j (by simp [e])) (not_le.2 hj)

theorem IsTop.unique {n : ℕ} {w : Fin n → EReal} {i j : Fin n} (hi : IsTop w i) (hj : IsTop w j) : i = j := by
  rcases lt_trichotomy i j with h | h | h
  · exact absurd (hi.1 j) (not_le.2 (hj.2 i h))
  · exact h
  · exact absurd (hj.1 i) (not_le.2 (hi.2 j h))

/-- The parent of a row: the first of its largest weights. -/
def top (w : Fin 64 → EReal) : Fin 64 := (exists_top w).choose

theorem top_spec (w : Fin 64 → EReal) : IsTop w (top w) := (exists_top w).choose_spec

/-- The one-hot row of the parent. -/
def hot (w : Fin 64 → EReal) : Fin 64 → EReal := fun k => if k = top w then 1 else 0

/-- The straight-through weights. -/
def use (w : Fin 64 → EReal) : Fin 64 → EReal := fun k => hot w k - w k + w k

/-- The position of a row: its cumulative weights over the totals, averaged by its weights. -/
def place (w cum tot : Fin 64 → EReal) : EReal := ∑ k, w k * Ideal.div (cum k) (max eps (tot k))

/-- The angle of frequency `i` at position `p`. -/
def ang (p : EReal) (i : ℕ) : EReal :=
  p * (Ideal.pow (Ideal.ofBits .f32 0x40000000#32) (((i : ℝ) : EReal)) * Ideal.ofBits .f32 0x40490FDB#32)

/-- The eighteen positional features: nine sines, then nine cosines. -/
def feat (p : EReal) : Fin 18 → EReal := fun i =>
  if (i : ℕ) < 9 then Ideal.sin (ang p i) else Ideal.cos (ang p (i - 9))

/-- An affine layer. -/
def dense {n m : ℕ} (x : Fin n → EReal) (W : Fin n → Fin m → EReal) (b : Fin m → EReal) : Fin m → EReal :=
  fun j => (∑ k, x k * W k j) + b j

/-- The activation `x · sigmoid x`. -/
def silu {n : ℕ} (x : Fin n → EReal) : Fin n → EReal := fun k => x k * Ideal.logistic (x k)

/-- The mean of 768 entries. -/
def mean (x : Fin 768 → EReal) : EReal := Ideal.div (∑ k, x k) (Ideal.ofBits .f32 0x44400000#32)

/-- Layer normalisation. -/
def ln (x g b : Fin 768 → EReal) : Fin 768 → EReal := fun k =>
  Ideal.div (x k - mean x) (Ideal.sqrt (mean (fun i => (x i - mean x) * (x i - mean x)) + Ideal.ofBits .f32 0x3727C5AC#32)) * g k + b k

/-- The parent's state plus the embedding of the features `f`. -/
def state (u : Fin 64 → EReal) (f : Fin 18 → EReal) (sp : Fin 64 → Fin 768 → EReal) (W : Fin 18 → Fin 768 → EReal)
    (b : Fin 768 → EReal) : Fin 768 → EReal :=
  fun j => (∑ k, u k * sp k j) + dense f W b j

/-- The query of a state. -/
def query (s g b : Fin 768 → EReal) (W1 : Fin 768 → Fin 768 → EReal) (b1 : Fin 768 → EReal)
    (W2 : Fin 768 → Fin 768 → EReal) (b2 : Fin 768 → EReal) : Fin 768 → EReal :=
  dense (silu (dense (ln s g b) W1 b1)) W2 b2

/-- The hidden layers of the coordinate network. -/
def head (q g b : Fin 768 → EReal) (W1 : Fin 768 → Fin 256 → EReal) (b1 : Fin 256 → EReal)
    (W2 : Fin 256 → Fin 256 → EReal) (b2 : Fin 256 → EReal) : Fin 256 → EReal :=
  silu (dense (silu (dense (ln q g b) W1 b1)) W2 b2)

/-- The coordinates in the parent's frame. -/
def coords (h : Fin 256 → EReal) (W : Fin 256 → Fin 3 → EReal) (b : Fin 3 → EReal) : Fin 3 → EReal :=
  fun d => Ideal.tanh (dense h W b d) * Ideal.ofBits .f32 0x3FC00000#32

/-- The parent's scales, bounded below. -/
def scale (u : Fin 64 → EReal) (sk : Fin 64 → Fin 3 → EReal) : Fin 3 → EReal :=
  fun d => max (Ideal.ofBits .f32 0x358637BD#32) (∑ k, u k * max eps (sk k d))

/-- The coordinates in the world frame: the parent's mean plus the rotated, scaled coordinates. -/
def decode (u : Fin 64 → EReal) (p : Fin 64) (x : Fin 3 → EReal) (mu : Fin 64 → Fin 3 → EReal)
    (R : Fin 64 → Fin 3 → Fin 3 → EReal) (sk : Fin 64 → Fin 3 → EReal) : Fin 3 → EReal :=
  fun i => ((∑ k, u k * mu k i) + ∑ d, R p i d * (x d * scale u sk d)) * Ideal.ofBits .f32 0x41200000#32

end Cert.Spec

end
-- ==== Proof.Row.lean ====
module

public import proofs.«01_k».proof.Proof.Spec

/-! # A whole row, and where its values are real numbers -/

@[expose] public section

noncomputable section

namespace Cert.Spec

open Idealize.ShloMosaic

/-- What a row of one batch is decoded with: the batch's parents and the networks' weights. -/
structure Params where
  sp : Fin 64 → Fin 768 → EReal
  mu : Fin 64 → Fin 3 → EReal
  R : Fin 64 → Fin 3 → Fin 3 → EReal
  sk : Fin 64 → Fin 3 → EReal
  Wpos : Fin 18 → Fin 768 → EReal
  bpos : Fin 768 → EReal
  g1 : Fin 768 → EReal
  be1 : Fin 768 → EReal
  Wq1 : Fin 768 → Fin 768 → EReal
  bq1 : Fin 768 → EReal
  Wq2 : Fin 768 → Fin 768 → EReal
  bq2 : Fin 768 → EReal
  g2 : Fin 768 → EReal
  be2 : Fin 768 → EReal
  Wm1 : Fin 768 → Fin 256 → EReal
  bm1 : Fin 256 → EReal
  Wm2 : Fin 256 → Fin 256 → EReal
  bm2 : Fin 256 → EReal
  Wm3 : Fin 256 → Fin 3 → EReal
  bm3 : Fin 3 → EReal

/-- The coordinates in the parent's frame of the row with weights `w` at position `p`. -/
def Params.xi (Θ : Params) (w : Fin 64 → EReal) (p : EReal) : Fin 3 → EReal :=
  coords (head (query (state (use w) (feat p) Θ.sp Θ.Wpos Θ.bpos) Θ.g1 Θ.be1 Θ.Wq1 Θ.bq1 Θ.Wq2 Θ.bq2) Θ.g2 Θ.be2 Θ.Wm1 Θ.bm1 Θ.Wm2 Θ.bm2) Θ.Wm3 Θ.bm3

/-- The coordinates in the world frame of the row with weights `w` at position `p`. -/
def Params.xhat (Θ : Params) (w : Fin 64 → EReal) (p : EReal) : Fin 3 → EReal :=
  decode (use w) (top w) (Θ.xi w p) Θ.mu Θ.R Θ.sk

/-- `x` is a real number. -/
def IsR (x : EReal) : Prop := ∃ q : ℝ, x = (q : EReal)

theorem IsR.add {x y : EReal} (hx : IsR x) (hy : IsR y) : IsR (x + y) := by
  obtain ⟨p, rfl⟩ := hx; obtain ⟨q, rfl⟩ := hy; exact ⟨p + q, (EReal.coe_add p q).symm⟩

theorem IsR.mul {x y : EReal} (hx : IsR x) (hy : IsR y) : IsR (x * y) := by
  obtain ⟨p, rfl⟩ := hx; obtain ⟨q, rfl⟩ := hy; exact ⟨p * q, (EReal.coe_mul p q).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- The smallest divisor is a positive real number. -/
theorem eps_real : ∃ e : ℝ, 0 < e ∧ eps = (e : EReal) := by
  unfold eps
  simp [Ideal.ofBits, Ideal.ieee]
  rw [← EReal.coe_mul]
  exact ⟨_, by norm_num, rfl⟩

/-- A real over a real bounded below by the smallest divisor is real. -/
theorem IsR.over {x y : EReal} (hx : IsR x) (hy : IsR y) : IsR (Ideal.div x (max eps y)) := by
  obtain ⟨e, he, hE⟩ := eps_real
  obtain ⟨p, rfl⟩ := hx; obtain ⟨q, rfl⟩ := hy
  rw [hE, show max (e : EReal) (q : EReal) = ((max e q : ℝ) : EReal) from (EReal.coe_strictMono.monotone.map_max).symm]
  have h0 : (((max e q : ℝ) : EReal)) ≠ 0 := by
    have : (0 : ℝ) < max e q := lt_max_of_lt_left he
    exact_mod_cast this.ne'
  unfold Ideal.div
  rw [if_neg h0, ← EReal.coe_inv]
  exact ⟨_, (EReal.coe_mul _ _).symm⟩

theorem sum_ne_bot {ι : Type} (s : Finset ι) (f : ι → EReal) (h : ∀ i, f i ≠ ⊥) : (∑ i ∈ s, f i) ≠ ⊥ := by
  classical
  induction s using Finset.induction_on with
  | empty => simp
  | insert a s ha ih => rw [Finset.sum_insert ha]; exact EReal.add_ne_bot_iff.2 ⟨h a, ih⟩

/-- The scaled weights are real wherever no weight is the least value. -/
theorem norm_real {a : Fin 64 → EReal} (h : ∀ k, a k ≠ ⊥) (k : Fin 64) : IsR (norm a k) := by
  unfold norm
  by_cases ht : (∑ i, a i) = ⊤
  · rw [ht, max_eq_right le_top]
    unfold Ideal.div
    rw [if_neg (by simp), EReal.inv_top, mul_zero]
    exact ⟨0, rfl⟩
  · have hs : IsR (∑ i, a i) := ⟨_, (EReal.coe_toReal ht (sum_ne_bot _ a h)).symm⟩
    refine IsR.over ⟨_, (EReal.coe_toReal (fun e => ht ?_) (h k)).symm⟩ hs
    rw [← Finset.add_sum_erase _ _ (Finset.mem_univ k), e]
    exact EReal.top_add_of_ne_bot (sum_ne_bot _ a h)

/-- The position is real wherever the weights, the cumulative weights and the totals are. -/
theorem place_real {w cum tot : Fin 64 → EReal} (hw : ∀ k, IsR (w k)) (hc : ∀ k, IsR (cum k)) (ht : ∀ k, IsR (tot k)) : IsR (place w cum tot) :=
  IsR.sum _ _ fun k => (hw k).mul ((hc k).over (ht k))

end Cert.Spec

end
-- ==== Proof.Sums.lean ====
module

public import proofs.«01_k».proof.Proof.Region0
public import proofs.«01_k».proof.Proof.Row
public import Idealize.ShloMosaic.Lib.Pipeline.ValueKit
public import Idealize.ShloMosaic.Lib.ValueIdx

/-! # The first call's array: the column sums of each batch's weights -/

@[expose] public section

set_option maxRecDepth 16384

noncomputable section

namespace Cert.KernelIdeal.Totals

open Idealize.ShloMosaic Idealize.ShloMosaic.TcCoe Idealize.SL.Sem Cert.KernelIdeal Cert.KernelIdeal.Gen

/-- Where the two windows' blocks lie at a point. -/
theorem idx : ∀ t : Fin cfg0.N, win0_0.index t = ![t.val / 2, t.val % 2, 0] ∧ win0_1.index t = ![t.val / 2, 0, 0] ∧ t.val / 2 < 4 :=
  (by decide +kernel : ∀ t : Fin grid0.N, _)

variable (V : (c : Dev nD) → (b : Ref sig .tc) → Buf (Elt Ideal) ((c : Thread nD τ).loc b)) (c : Dev nD) (t : Fin cfg0.N)

/-- The batch of a point. -/
def bat (t : Fin cfg0.N) : Fin 4 := ⟨t.val / 2, (idx t).2.2⟩

/-- The row of the array that a point's row `i` is. -/
def at_ (t : Fin cfg0.N) (i : Fin 4096) : Fin 8192 := ⟨t.val % 2 * 4096 + i, by omega⟩

/-- The weights of a row. -/
def wArr (b : Fin 4) (n : Fin 8192) : Fin 64 → EReal := Spec.norm fun k => (V c main_arg1 : FVec Ideal S4x8192x64 .f32) (ix3 b n k)

theorem blk_at (i : Fin 4096) (k : Fin 64) : (blk V c 0 t : FVec Ideal S1x4096x64 .f32) (ix3 0 i k) = (V c main_arg1 : FVec Ideal S4x8192x64 .f32) (ix3 (bat t) (at_ t i) k) := by
  blk_ext [blk, idx t, bat, at_]

/-- A point adds its block's column sums. -/
theorem step_at (x : FVec Ideal S1x4096x64 .f32) (y : FVec Ideal S1x8x64 .f32) (s : Fin 8) (k : Fin 64) :
    k0_pay2 (F := Ideal) x y (ix3 0 s k) = y (ix3 0 s k) + ∑ i : Fin 4096, Spec.norm (fun k => x (ix3 0 i k)) k := by
  pointwise [k0_pay2]
  rfl

theorem zero_at (s : Fin 8) (k : Fin 64) : k0_pay1 (F := Ideal) (ix3 0 s k) = (0 : EReal) := by
  pointwise [k0_pay1]

/-- The totals. -/
def totArr : FVec Ideal S4x8x64 .f32 := fun i => ∑ n : Fin 8192, wArr V c (i 0) n (i 2)

/-- The totals end at the column sums. -/
theorem final : (dat0 (F := Ideal) V c).arrAt 1 cfg0.N = totArr V c := by
  refine (dat0 V c).arrAt_eq_of_covers 1 _ (by decide +kernel) fun t hf y => ?_
  blk_simp
  rw [after_out]
  have hy : ∀ y : (⟨3, ![1, 8, 64]⟩ : Shape).Idx, ∃ (i : Fin 8) (d : Fin 64), y = ix3 0 i d := fun y => ⟨y 1, y 2, by idx_ext⟩
  obtain ⟨s, k, rfl⟩ := hy y
  have e : (win0_1.blk t).view.emb (ix3 0 s k) = (ix3 (bat t) s k : (⟨3, ![4, 8, 64]⟩ : Shape).Idx) := by blk_ext [idx t, bat]
  refine Eq.trans ?_ (congrArg (totArr V c) e).symm
  have h1 : t.val % 2 = 1 := by have := (flush0_1 t).mp hf; omega
  have h0 : (prev t).val % 2 = 0 := by show (t.val - 1) % 2 = 0; omega
  have hb : bat (prev t) = bat t := Fin.ext (by show (t.val - 1) / 2 = t.val / 2; omega)
  unfold acc
  rw [if_neg (by omega)]
  refine (step_at _ _ s k).trans ?_
  rw [step_at _ _ s k, zero_at, zero_add]
  refine Eq.trans (congrArg₂ (· + ·) (Finset.sum_congr rfl fun i _ => ?_) (Finset.sum_congr rfl fun i _ => ?_))
    (Fin.sum_univ_add (a := 4096) (b := 4096) fun n : Fin 8192 => wArr V c (bat t) n k).symm
  · refine congrFun (congrArg Spec.norm (funext fun k => ?_)) k
    rw [blk_at, hb]
    exact congrArg (fun n => (V c main_arg1 : FVec Ideal S4x8192x64 .f32) (ix3 (bat t) n k)) (Fin.ext (by show (prev t).val % 2 * 4096 + (i : ℕ) = i; omega))
  · refine congrFun (congrArg Spec.norm (funext fun k => ?_)) k
    rw [blk_at]
    exact congrArg (fun n => (V c main_arg1 : FVec Ideal S4x8192x64 .f32) (ix3 (bat t) n k)) (Fin.ext (by show t.val % 2 * 4096 + (i : ℕ) = 4096 + i; omega))

end Cert.KernelIdeal.Totals

end
-- ==== Proof.Words.lean ====
module

public import proofs.«01_k».proof.Proof.Spec

/-! # The integer words of the two programs

First positions of a maximum as a fold of signed minima over 32-bit words, and the numbers that
comparison bits and constants stand for. -/

@[expose] public section

noncomputable section

namespace Cert.Spec

open Idealize.ShloMosaic

theorem toInt_small (n : ℕ) (h : n < 2 ^ 31) : (BitVec.ofNat 32 n).toInt = n := by
  rw [BitVec.toInt_eq_toNat_of_lt (by simp; omega)]
  simp; omega

theorem ofNat_inj_small {m n : ℕ} (hm : m < 2 ^ 31) (hn : n < 2 ^ 31) : BitVec.ofNat 32 m = BitVec.ofNat 32 n ↔ m = n :=
  ⟨fun h => by have := congrArg BitVec.toInt h; rw [toInt_small m hm, toInt_small n hn] at this; omega, fun h => h ▸ rfl⟩

theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- A fold of signed minima is below everything folded. -/
theorem fold_minsi_le {ι : Type} (b : BitVec 32) (f : ι → BitVec 32) (s : Finset ι) :
    (Finset.fold IntOp.minsi b f s).toInt ≤ b.toInt ∧ ∀ x ∈ s, (Finset.fold IntOp.minsi b f s).toInt ≤ (f x).toInt := by
  classical
  induction s using Finset.induction_on with
  | empty => simp
  | insert a s ha ih =>
    rw [Finset.fold_insert ha, toInt_minsi]
    refine ⟨(min_le_right _ _).trans ih.1, fun x hx => ?_⟩
    rcases Finset.mem_insert.1 hx with rfl | hx
    · exact min_le_left _ _
    · exact (min_le_right _ _).trans (ih.2 x hx)

/-- A fold of signed minima is one of the things folded. -/
theorem fold_minsi_mem {ι : Type} (b : BitVec 32) (f : ι → BitVec 32) (s : Finset ι) :
    Finset.fold IntOp.minsi b f s = b ∨ ∃ x ∈ s, Finset.fold IntOp.minsi b f s = f x := by
  classical
  induction s using Finset.induction_on with
  | empty => simp
  | insert a s ha ih =>
    rw [Finset.fold_insert ha]
    by_cases h : (f a).slt (Finset.fold IntOp.minsi b f s)
    · exact .inr ⟨a, by simp, by simp [IntOp.minsi, h]⟩
    · have e : IntOp.minsi (f a) (Finset.fold IntOp.minsi b f s) = Finset.fold IntOp.minsi b f s := by simp [IntOp.minsi, h]
      rw [e]
      exact ih.imp id fun ⟨x, hx, hf⟩ => ⟨x, by simp [hx], hf⟩

theorem neg_inf : Ideal.ofBits .f32 0xFF800000#32 = ⊥ := by simp [Ideal.ofBits, Ideal.ieee]

/-- A fold of maxima from the least value is the value at the first maximum. -/
theorem fold_max_top {n : ℕ} {w : Fin n → EReal} {i : Fin n} (h : IsTop w i) :
    Finset.fold max (Ideal.ofBits .f32 0xFF800000#32) w Finset.univ = w i := by
  rw [neg_inf]
  apply le_antisymm
  · exact (Finset.fold_max_le _).2 ⟨bot_le, fun x _ => h.1 x⟩
  · exact (Finset.le_fold_max _).2 (.inr ⟨i, Finset.mem_univ _, le_rfl⟩)

/-- The least position of a maximum, as a fold of signed minima of words. -/
theorem fold_first (w : Fin 64 → EReal) :
    Finset.fold IntOp.minsi 2147483647#32 (fun x : Fin 64 => if w x = Finset.fold max (Ideal.ofBits .f32 0xFF800000#32) w Finset.univ
      then BitVec.ofNat 32 (x : ℕ) else 64#32) Finset.univ = BitVec.ofNat 32 (top w : ℕ) := by
  rw [fold_max_top (top_spec w)]
  have ht := top_spec w
  have hlt := (top w).2
  obtain ⟨-, hle⟩ := fold_minsi_le 2147483647#32 (fun x : Fin 64 => if w x = w (top w) then BitVec.ofNat 32 (x : ℕ) else 64#32) Finset.univ
  have h0 := hle (top w) (Finset.mem_univ _)
  simp only [if_true] at h0
  rw [toInt_small _ (by omega)] at h0
  rcases fold_minsi_mem 2147483647#32 (fun x : Fin 64 => if w x = w (top w) then BitVec.ofNat 32 (x : ℕ) else 64#32) Finset.univ with e | ⟨x, -, e⟩
  · rw [e] at h0
    have : (2147483647#32).toInt = 2147483647 := by decide
    omega
  · rw [e] at h0 ⊢
    by_cases hx : w x = w (top w)
    · rw [if_pos hx] at h0 ⊢
      rw [toInt_small _ (by have := x.2; omega)] at h0
      rcases lt_or_eq_of_le (show x ≤ top w from by rw [Fin.le_def]; omega) with h | h
      · exact absurd hx (ne_of_lt (ht.2 x h))
      · rw [h]
    · rw [if_neg hx] at h0
      have : (64#32).toInt = 64 := by decide
      omega

/-- A widened comparison bit as a number. -/
theorem bit_signed (p : CmpIPredicate) (x y : BitVec 32) :
    FloatOps.sitofp (F := Ideal) .f32 (BitVec.setWidth 32 (IntOp.cmpi p x y)) = if IntOp.cmpi p x y = 1#1 then (1 : EReal) else 0 := by
  have h : ∀ b : BitVec 1, FloatOps.sitofp (F := Ideal) .f32 (BitVec.setWidth 32 b) = if b = 1#1 then (1 : EReal) else 0 := by
    intro b
    obtain rfl | rfl : b = 0#1 ∨ b = 1#1 := by revert b; decide
    · show (((BitVec.setWidth 32 0#1).toInt : ℝ) : EReal) = _
      simp
    · show (((BitVec.setWidth 32 1#1).toInt : ℝ) : EReal) = _
      have : (BitVec.setWidth 32 1#1).toInt = 1 := by decide
      rw [this]; simp
  exact h _

theorem bit_unsigned (b : BitVec 1) : FloatOps.uitofp (F := Ideal) .f32 b = if b = 1#1 then (1 : EReal) else 0 := by
  obtain rfl | rfl : b = 0#1 ∨ b = 1#1 := by revert b; decide
  · show (((0#1).toNat : ℝ) : EReal) = _
    simp
  · show (((1#1).toNat : ℝ) : EReal) = _
    simp

theorem ofBool_one : ∀ b : Bool, BitVec.ofBool b = 1#1 ↔ b = true := by decide

theorem cmpi_eq_small {m n : ℕ} (hm : m < 2 ^ 31) (hn : n < 2 ^ 31) :
    IntOp.cmpi .eq (BitVec.ofNat 32 m) (BitVec.ofNat 32 n) = 1#1 ↔ m = n := by
  rw [← ofNat_inj_small hm hn]
  exact (ofBool_one _).trans beq_iff_eq

theorem cmpi_sge_small {m n : ℕ} (hm : m < 2 ^ 31) (hn : n < 2 ^ 31) :
    IntOp.cmpi .sge (BitVec.ofNat 32 m) (BitVec.ofNat 32 n) = 1#1 ↔ n ≤ m := by
  have : (BitVec.ofNat 32 n).sle (BitVec.ofNat 32 m) = true ↔ n ≤ m := by
    rw [BitVec.sle_iff_toInt_le, toInt_small m hm, toInt_small n hn]; omega
  exact (ofBool_one _).trans this

end Cert.Spec

end
-- ==== Proof.KRow.lean ====
module

public import proofs.«01_k».proof.Proof.Vals
public import proofs.«01_k».proof.Proof.Words

/-! # The fused body's dense layers, row by row -/

@[expose] public section

set_option maxRecDepth 16384

noncomputable section

namespace Cert.KernelIdeal.Fused

open Idealize.ShloMosaic Idealize.ShloMosaic.TcCoe Idealize.SL.Sem Cert.KernelIdeal Cert.KernelIdeal.Gen

theorem pay74_at (x : FVec Ideal S4096x768 .f32) (g b : FVec Ideal S1x768 .f32) (W1 : FVec Ideal S768x768 .f32) (b1 : FVec Ideal S1x768 .f32)
    (W2 : FVec Ideal S768x768 .f32) (b2 : FVec Ideal S1x768 .f32) (r : Fin 4096) (j : Fin 768) :
    k1_pay74 (F := Ideal) x g b W1 b1 W2 b2 (ix2 r j)
      = Spec.query (fun k => x (ix2 r k)) (fun k => g (ix2 0 k)) (fun k => b (ix2 0 k)) (fun k l => W1 (ix2 k l)) (fun k => b1 (ix2 0 k))
          (fun k l => W2 (ix2 k l)) (fun k => b2 (ix2 0 k)) j := by
  pointwise [k1_pay74]
  rfl

theorem pay75_at (x : FVec Ideal S4096x768 .f32) (g b : FVec Ideal S1x768 .f32) (W1 : FVec Ideal S768x256 .f32) (b1 : FVec Ideal S1x256 .f32)
    (W2 : FVec Ideal S256x256 .f32) (b2 : FVec Ideal S1x256 .f32) (r : Fin 4096) (j : Fin 256) :
    k1_pay75 (F := Ideal) x g b W1 b1 W2 b2 (ix2 r j)
      = Spec.head (fun k => x (ix2 r k)) (fun k => g (ix2 0 k)) (fun k => b (ix2 0 k)) (fun k l => W1 (ix2 k l)) (fun k => b1 (ix2 0 k))
          (fun k l => W2 (ix2 k l)) (fun k => b2 (ix2 0 k)) j := by
  pointwise [k1_pay75]
  rfl

theorem pay76_at (h : FVec Ideal S4096x256 .f32) (W : FVec Ideal S256x3 .f32) (b : FVec Ideal S1x3 .f32) (r : Fin 4096) (d : Fin 3) :
    k1_pay76 (F := Ideal) h W b (ix2 r d) = Spec.coords (fun k => h (ix2 r k)) (fun k l => W (ix2 k l)) (fun k => b (ix2 0 k)) d := by
  pointwise [k1_pay76]
  rfl

theorem pay6_at (a : FVec Ideal S1x4096x64 .f32) (r : Fin 4096) (k : Fin 64) :
    k1_pay6 (F := Ideal) a (ix2 r k) = Spec.norm (fun k => a (ix3 0 r k)) k := by
  pointwise [k1_pay6]
  rfl

theorem pay7_at (a : FVec Ideal S1x4096x64 .f32) (r : Fin 4096) :
    k1_pay7 (F := Ideal) a (ix2 r 0) = BitVec.ofNat 32 (Spec.top (Spec.norm fun k => a (ix3 0 r k))) := by
  pointwise [k1_pay7]
  simp only [pay6_at]
  exact Spec.fold_first _

theorem pay8_at (a : FVec Ideal S1x4096x64 .f32) (r : Fin 4096) (k : Fin 64) :
    k1_pay8 (F := Ideal) a (ix2 r k) = Spec.hot (Spec.norm fun k => a (ix3 0 r k)) k := by
  pointwise [k1_pay8]
  rw [Spec.bit_signed, pay7_at]
  simp only [Spec.cmpi_eq_small (show (k : ℕ) < 2 ^ 31 by omega) (show ((Spec.top (Spec.norm fun k => a (ix3 0 r k)) : Fin 64) : ℕ) < 2 ^ 31 by omega)]
  simp only [Spec.hot, Fin.ext_iff]

theorem pay9_at (a : FVec Ideal S1x4096x64 .f32) (r : Fin 4096) (k : Fin 64) :
    k1_pay9 (F := Ideal) a (ix2 r k) = Spec.use (Spec.norm fun k => a (ix3 0 r k)) k := by
  pointwise [k1_pay9, pay6_at, pay8_at]
  rfl

theorem tri_at (i j : Fin 256) : k1_pay10 (F := Ideal) (ix2 i j) = if j ≤ i then 1 else 0 := by
  pointwise [k1_pay10]
  rw [Spec.bit_signed]
  simp only [Spec.cmpi_sge_small (show (i : ℕ) < 2 ^ 31 by omega) (show (j : ℕ) < 2 ^ 31 by omega), Fin.le_def]

end Cert.KernelIdeal.Fused

end
-- ==== Proof.KCum.lean ====
module

public import proofs.«01_k».proof.Proof.KRow

/-! # The running column sums of the fused body

The body forms the inclusive prefix sums of 4096 rows in sixteen chunks of 256: within a chunk by a
product with the lower triangle of ones, between chunks by a carried row. Each value is the carried
row of the previous point plus a plain sum of the rows so far. -/

@[expose] public section

set_option maxRecDepth 16384

noncomputable section

namespace Cert.KernelIdeal.Fused

open Idealize.ShloMosaic Idealize.ShloMosaic.TcCoe Idealize.SL.Sem Cert.KernelIdeal Cert.KernelIdeal.Gen

/-- Column `k` of the rows, by row number. -/
def col (w : FVec Ideal S4096x64 .f32) (k : Fin 64) (n : ℕ) : EReal := if h : n < 4096 then w (ix2 ⟨n, h⟩ k) else 0

/-- The sum of the first `n` rows of column `k`. -/
def pre (w : FVec Ideal S4096x64 .f32) (k : Fin 64) (n : ℕ) : EReal := ∑ m ∈ Finset.range n, col w k m

/-- `C` holds the prefix sums of the 256 rows from row `o`. -/
def IsChunk (w : FVec Ideal S4096x64 .f32) (C : FVec Ideal S256x64 .f32) (o : ℕ) : Prop :=
  ∀ (i : Fin 256) (k : Fin 64), C (ix2 i k) = ∑ m ∈ Finset.range (i + 1), col w k (o + m)

/-- `f` is the carried row `r` plus the sum of the rows before row `o`. -/
def IsOff (w : FVec Ideal S4096x64 .f32) (r f : FVec Ideal S1x64 .f32) (o : ℕ) : Prop :=
  ∀ k : Fin 64, f (ix2 0 k) = r (ix2 0 k) + pre w k o

/-- `p` is the carried row plus the prefix sums of all rows, at the 256 rows from row `o`. -/
def IsPiece (w : FVec Ideal S4096x64 .f32) (r : FVec Ideal S1x64 .f32) (p : FVec Ideal S256x64 .f32) (o : ℕ) : Prop :=
  ∀ (i : Fin 256) (k : Fin 64), p (ix2 i k) = r (ix2 0 k) + pre w k (o + i + 1)

theorem sum_upto {n : ℕ} (f : ℕ → EReal) (i : Fin n) :
    (∑ x : Fin n, if x ≤ i then f x else 0) = ∑ m ∈ Finset.range (i + 1), f m := by
  have h := Fin.sum_univ_eq_sum_range (fun m => if m ≤ (i : ℕ) then f m else 0) n
  refine Eq.trans ?_ (h.trans ?_)
  · exact Finset.sum_congr rfl fun x _ => by simp only [Fin.le_def]
  · rw [← Finset.sum_filter]
    refine Finset.sum_congr ?_ fun _ _ => rfl
    ext m
    simp only [Finset.mem_filter, Finset.mem_range]
    omega

variable {w : FVec Ideal S4096x64 .f32} {r : FVec Ideal S1x64 .f32}

/-- The product of the lower triangle with 256 rows is their prefix sums, split into a rounded part and the rest or not. -/
theorem isChunk (hw : ∀ y, ∃ x : ℝ, w y = (x : EReal)) (o : ℕ) (ho : o + 256 ≤ 4096) (A : FVec Ideal S256x64 .f32)
    (hA : ∀ (i : Fin 256) (k : Fin 64), A (ix2 i k) = w (ix2 ⟨o + i, by omega⟩ k)) :
    IsChunk w (addf (matmul dot_S256x256_S256x64_S256x64_1_0_0_1_n_n none (k1_pay10 (F := Ideal)) A (constant S256x64 .f32 0x00000000#32))
      (matmul dot_S256x256_S256x64_S256x64_1_0_0_1_n_n none (k1_pay10 (F := Ideal)) (subf A A) (constant S256x64 .f32 0x00000000#32))) o := by
  intro i k
  pointwise
  have h1 : ∀ j : Fin 256, A (ix2 j k) = col w k (o + j) := fun j => by
    rw [hA, col, dif_pos (by omega)]
  have h0 : ∀ j : Fin 256, col w k (o + j) - col w k (o + j) = 0 := fun j => by
    rw [← h1 j, hA]; obtain ⟨x, hx⟩ := hw (ix2 ⟨o + j, by omega⟩ k)
    rw [hx]; exact EReal.sub_self (EReal.coe_ne_top x) (EReal.coe_ne_bot x)
  simp only [h1, h0, mul_zero, Finset.sum_const_zero, add_zero, tri_at]
  simp only [ite_mul, one_mul, zero_mul]
  exact sum_upto (fun m => col w k (o + m)) i

theorem isOff_zero : IsOff w r r 0 := fun k => by simp [pre]

theorem IsChunk.piece {C : FVec Ideal S256x64 .f32} {f : FVec Ideal S1x64 .f32} {o : ℕ} (hC : IsChunk w C o) (hf : IsOff w r f o) :
    IsPiece w r (addf C (broadcastTo S256x64 f broadcasts_S1x64_S256x64)) o := by
  intro i k
  pointwise
  rw [hC i k, hf k, add_comm, add_assoc, pre, pre, add_assoc o, Finset.sum_range_add _ o]

theorem IsChunk.next {C : FVec Ideal S256x64 .f32} {f : FVec Ideal S1x64 .f32} {o : ℕ} (hC : IsChunk w C o) (hf : IsOff w r f o) :
    IsOff w r (addf f (extractStridedSlice S1x64 ![255, 0] C slices_S256x64_o255_0_S1x64)) (o + 256) := by
  intro k
  pointwise
  rw [hf k, add_assoc, pre, pre, Finset.sum_range_add]
  exact congrArg (fun z => r (ix2 0 k) + (∑ m ∈ Finset.range o, col w k m + z)) (hC 255 k)

/-- The sixteen pieces of the body, and the row it carries on. -/
theorem pieces (a : FVec Ideal S1x4096x64 .f32) (r : FVec Ideal S1x64 .f32) (hw : ∀ y, ∃ x : ℝ, w10 (F := Ideal) a y = (x : EReal)) :
    (IsPiece (w10 a) r (c40 a r) 0 ∧ IsPiece (w10 a) r (c51 a r) 256 ∧ IsPiece (w10 a) r (c62 a r) 512 ∧ IsPiece (w10 a) r (c73 a r) 768
      ∧ IsPiece (w10 a) r (c84 a r) 1024 ∧ IsPiece (w10 a) r (c95 a r) 1280 ∧ IsPiece (w10 a) r (c106 a r) 1536 ∧ IsPiece (w10 a) r (c117 a r) 1792)
    ∧ (IsPiece (w10 a) r (c128 a r) 2048 ∧ IsPiece (w10 a) r (c139 a r) 2304 ∧ IsPiece (w10 a) r (c150 a r) 2560 ∧ IsPiece (w10 a) r (c161 a r) 2816
      ∧ IsPiece (w10 a) r (c172 a r) 3072 ∧ IsPiece (w10 a) r (c183 a r) 3328 ∧ IsPiece (w10 a) r (c194 a r) 3584)
    ∧ IsChunk (w10 a) (k1_pay62 (w10 a) tri) 3840 ∧ IsOff (w10 a) r (k1_pay61 (c185 a r) (c192 a)) 3840 := by
  have ch : ∀ (o : ℕ) (ho : o + 256 ≤ 4096) (h : S4096x64.Slices ![o, 0] S256x64), IsChunk (w10 a)
      (addf (matmul dot_S256x256_S256x64_S256x64_1_0_0_1_n_n none (k1_pay10 (F := Ideal)) (extractStridedSlice S256x64 ![o, 0] (w10 (F := Ideal) a) h) (constant S256x64 .f32 0x00000000#32))
      (matmul dot_S256x256_S256x64_S256x64_1_0_0_1_n_n none (k1_pay10 (F := Ideal)) (subf (extractStridedSlice S256x64 ![o, 0] (w10 (F := Ideal) a) h) (extractStridedSlice S256x64 ![o, 0] (w10 (F := Ideal) a) h)) (constant S256x64 .f32 0x00000000#32))) o := fun o ho h =>
    isChunk hw o ho _ fun i k => by
      show w10 (F := Ideal) a _ = _
      exact congrArg _ (by idx_ext)
  have o0 : IsOff (w10 a) r r 0 := isOff_zero
  have k0 := ch 0 (by omega) slices_S4096x64_o0_0_S256x64
  have k1 := ch 256 (by omega) slices_S4096x64_o256_0_S256x64
  have k2 := ch 512 (by omega) slices_S4096x64_o512_0_S256x64
  have k3 := ch 768 (by omega) slices_S4096x64_o768_0_S256x64
  have k4 := ch 1024 (by omega) slices_S4096x64_o1024_0_S256x64
  have k5 := ch 1280 (by omega) slices_S4096x64_o1280_0_S256x64
  have k6 := ch 1536 (by omega) slices_S4096x64_o1536_0_S256x64
  have k7 := ch 1792 (by omega) slices_S4096x64_o1792_0_S256x64
  have k8 := ch 2048 (by omega) slices_S4096x64_o2048_0_S256x64
  have k9 := ch 2304 (by omega) slices_S4096x64_o2304_0_S256x64
  have k10 := ch 2560 (by omega) slices_S4096x64_o2560_0_S256x64
  have k11 := ch 2816 (by omega) slices_S4096x64_o2816_0_S256x64
  have k12 := ch 3072 (by omega) slices_S4096x64_o3072_0_S256x64
  have k13 := ch 3328 (by omega) slices_S4096x64_o3328_0_S256x64
  have k14 := ch 3584 (by omega) slices_S4096x64_o3584_0_S256x64
  have k15 := ch 3840 (by omega) slices_S4096x64_o3840_0_S256x64
  have o1 := k0.next o0
  have o2 := k1.next o1
  have o3 := k2.next o2
  have o4 := k3.next o3
  have o5 := k4.next o4
  have o6 := k5.next o5
  have o7 := k6.next o6
  have o8 := k7.next o7
  have o9 := k8.next o8
  have o10 := k9.next o9
  have o11 := k10.next o10
  have o12 := k11.next o11
  have o13 := k12.next o12
  have o14 := k13.next o13
  have o15 := k14.next o14
  exact ⟨⟨k0.piece o0, k1.piece o1, k2.piece o2, k3.piece o3, k4.piece o4, k5.piece o5, k6.piece o6, k7.piece o7⟩,
    ⟨k8.piece o8, k9.piece o9, k10.piece o10, k11.piece o11, k12.piece o12, k13.piece o13, k14.piece o14⟩, k15, o15⟩

/-- The row the body carries on: the carried row plus the sum of all 4096 rows. -/
theorem run_at (a : FVec Ideal S1x4096x64 .f32) (r : FVec Ideal S1x64 .f32) (hw : ∀ y, ∃ x : ℝ, w10 (F := Ideal) a y = (x : EReal)) (k : Fin 64) :
    run (F := Ideal) a r (ix2 0 k) = r (ix2 0 k) + pre (w10 a) k 4096 := by
  obtain ⟨-, -, hc, ho⟩ := pieces a r hw
  have h := hc.next ho k
  pointwise [run, k1_pay63]
  exact (by pointwise at h; exact h)

/-- The last step of the positions, over any array of running sums. -/
def placed (w cum : FVec Ideal S4096x64 .f32) (t : FVec Ideal S1x1x64 .f32) : FVec Ideal S4096x1 .f32 :=
  shapeCast S4096x1 (multiReduction .add [1] S4096 (mulf w (divf cum (broadcastTo S4096x64 (maximumf (broadcast S1x64 (Scalar.ofBits .f32 0x322BCC77#32))
    (shapeCast S1x64 t shapeCasts_S1x1x64_S1x64)) broadcasts_S1x64_S4096x64))) 0x00000000#32 reduces_S4096x64_S4096 (.inl rfl) rfl) shapeCasts_S4096_S4096x1

theorem placed_at (w cum : FVec Ideal S4096x64 .f32) (t : FVec Ideal S1x1x64 .f32) (i : Fin 4096) :
    placed w cum t (ix2 i 0) = Spec.place (fun k => w (ix2 i k)) (fun k => cum (ix2 i k)) (fun k => t (ix3 0 0 k)) := by
  pointwise [placed]
  rfl

/-- Sixteen pieces laid one after another. -/
def stacked (p0 p1 p2 p3 p4 p5 p6 p7 p8 p9 p10 p11 p12 p13 p14 p15 : FVec Ideal S256x64 .f32) : FVec Ideal S4096x64 .f32 :=
  concatenate S4096x64 0 [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩, ⟨S256x64, p12⟩, ⟨S256x64, p13⟩, ⟨S256x64, p14⟩, ⟨S256x64, p15⟩]
    concatenates_S256x64_S256x64_S256x64_S256x64_S256x64_S256x64_S256x64_S256x64_S256x64_S256x64_S256x64_S256x64_S256x64_S256x64_S256x64_S256x64_S4096x64_d0

theorem IsPiece.leaf {p : FVec Ideal S256x64 .f32} {o : ℕ} (h : IsPiece w r p o) {j : Fin 256} {k : Fin 64} {n : ℕ} (hn : o + (j : ℕ) = n) :
    p (ix2 j k) = r (ix2 0 k) + pre w k (n + 1) := hn ▸ h j k

theorem stacked_at (p0 p1 p2 p3 p4 p5 p6 p7 p8 p9 p10 p11 p12 p13 p14 p15 : FVec Ideal S256x64 .f32)
    (h0 : IsPiece w r p0 0) (h1 : IsPiece w r p1 256) (h2 : IsPiece w r p2 512) (h3 : IsPiece w r p3 768) (h4 : IsPiece w r p4 1024)
    (h5 : IsPiece w r p5 1280) (h6 : IsPiece w r p6 1536) (h7 : IsPiece w r p7 1792) (h8 : IsPiece w r p8 2048) (h9 : IsPiece w r p9 2304)
    (h10 : IsPiece w r p10 2560) (h11 : IsPiece w r p11 2816) (h12 : IsPiece w r p12 3072) (h13 : IsPiece w r p13 3328) (h14 : IsPiece w r p14 3584)
    (h15 : IsPiece w r p15 3840) (i : Fin 4096) (k : Fin 64) :
    stacked p0 p1 p2 p3 p4 p5 p6 p7 p8 p9 p10 p11 p12 p13 p14 p15 (ix2 i k) = r (ix2 0 k) + pre w k (i + 1) := by
  have hp : ∀ n : Fin 16, IsPiece w r (![p0, p1, p2, p3, p4, p5, p6, p7, p8, p9, p10, p11, p12, p13, p14, p15] n) (256 * n) := by
    intro n
    fin_cases n
    exacts [h0, h1, h2, h3, h4, h5, h6, h7, h8, h9, h10, h11, h12, h13, h14, h15]
  refine (concatenate_ofFn_apply (s₁ := S256x64) (t := S4096x64) 0 ![p0, p1, p2, p3, p4, p5, p6, p7, p8, p9, p10, p11, p12, p13, p14, p15]
    concatenates_S256x64_S256x64_S256x64_S256x64_S256x64_S256x64_S256x64_S256x64_S256x64_S256x64_S256x64_S256x64_S256x64_S256x64_S256x64_S256x64_S4096x64_d0
    rfl 256 rfl (ix2 i k) ⟨i / 256, by omega⟩ rfl (ix2 ⟨i % 256, Nat.mod_lt _ (by decide)⟩ k) rfl ?_).trans ((hp _).leaf (Nat.div_add_mod _ _))
  intro b hb
  fin_cases b
  · exact absurd rfl hb
  · rfl

/-- The position of each row of the block: the running sums against the first row of the totals. -/
theorem pos_at (a : FVec Ideal S1x4096x64 .f32) (r : FVec Ideal S1x64 .f32) (t : FVec Ideal S1x1x64 .f32)
    (hw : ∀ y, ∃ x : ℝ, w10 (F := Ideal) a y = (x : EReal)) (i : Fin 4096) :
    pos (F := Ideal) a r t (ix2 i 0) = Spec.place (fun k => w10 (F := Ideal) a (ix2 i k)) (fun k => r (ix2 0 k) + pre (w10 a) k (i + 1))
      (fun k => t (ix3 0 0 k)) := by
  obtain ⟨⟨h0, h1, h2, h3, h4, h5, h6, h7⟩, ⟨h8, h9, h10, h11, h12, h13, h14⟩, hc, ho⟩ := pieces a r hw
  have h := stacked_at _ _ _ _ _ _ _ _ _ _ _ _ _ _ _ _ h0 h1 h2 h3 h4 h5 h6 h7 h8 h9 h10 h11 h12 h13 h14 (hc.piece ho) i
  refine Eq.trans (show _ = placed (w10 a) (stacked (c40 a r) (c51 a r) (c62 a r) (c73 a r) (c84 a r) (c95 a r) (c106 a r) (c117 a r) (c128 a r) (c139 a r)
    (c150 a r) (c161 a r) (c172 a r) (c183 a r) (c194 a r) (addf (k1_pay62 (w10 a) tri) (broadcastTo S256x64 (k1_pay61 (c185 a r) (c192 a)) broadcasts_S1x64_S256x64))) t (ix2 i 0) from rfl)
    ((placed_at _ _ _ _).trans ?_)
  exact congrArg (fun c => Spec.place _ c _) (funext h)

end Cert.KernelIdeal.Fused

end
-- ==== Proof.KFeat.lean ====
module

public import proofs.«01_k».proof.Proof.KCum

/-! # The positional features of the fused body

The body takes one sine and one cosine of each position's angle and doubles the angle eight times.
Over real positions these are the sines and cosines of the nine frequencies. -/

@[expose] public section

set_option maxRecDepth 16384

noncomputable section

namespace Cert.Spec

open Idealize.ShloMosaic

theorem two : Ideal.ofBits .f32 0x40000000#32 = ((2 : ℝ) : EReal) := by
  simp [Ideal.ofBits, Ideal.ieee]
  rw [← EReal.coe_mul]
  norm_num

/-- The angle unit is a real number. -/
theorem unit_real : ∃ q : ℝ, Ideal.ofBits .f32 0x40490FDB#32 = (q : EReal) := by
  simp [Ideal.ofBits, Ideal.ieee]
  exact ⟨_, rfl⟩

/-- The angle of each frequency, at a real position: the base angle doubled that often. -/
theorem ang_real {q : ℝ} (hq : Ideal.ofBits .f32 0x40490FDB#32 = (q : EReal)) (p : ℝ) (i : ℕ) :
    ang (p : EReal) i = ((2 ^ i * (p * q) : ℝ) : EReal) := by
  unfold ang
  rw [hq, two, show Ideal.pow ((2 : ℝ) : EReal) ((i : ℝ) : EReal) = (((2 : ℝ) ^ (i : ℝ) : ℝ) : EReal) from rfl, ← EReal.coe_mul, ← EReal.coe_mul,
    Real.rpow_natCast]
  exact congrArg _ (by ring)

end Cert.Spec

namespace Cert.KernelIdeal.Fused

open Idealize.ShloMosaic Idealize.ShloMosaic.TcCoe Idealize.SL.Sem Cert.KernelIdeal Cert.KernelIdeal.Gen

/-- The sine of the doubled angles. -/
def dblS (s c : FVec Ideal S1x4096 .f32) : FVec Ideal S1x4096 .f32 :=
  mulf (mulf (broadcast S1x4096 (Scalar.ofBits (F := Ideal) .f32 0x40000000#32)) s) c

/-- The cosine of the doubled angles. -/
def dblC (s c : FVec Ideal S1x4096 .f32) : FVec Ideal S1x4096 .f32 := subf (mulf c c) (mulf s s)

/-- `s` and `c` are the sines and cosines of the angles `th`. -/
def IsAngle (s c : FVec Ideal S1x4096 .f32) (th : Fin 4096 → ℝ) : Prop :=
  ∀ n : Fin 4096, s (ix2 0 n) = ((Real.sin (th n) : ℝ) : EReal) ∧ c (ix2 0 n) = ((Real.cos (th n) : ℝ) : EReal)

theorem IsAngle.next {s c : FVec Ideal S1x4096 .f32} {th : Fin 4096 → ℝ} (h : IsAngle s c th) : IsAngle (dblS s c) (dblC s c) fun n => 2 * th n := by
  intro n
  obtain ⟨hs, hc⟩ := h n
  refine ⟨?_, ?_⟩
  · pointwise [dblS]
    rw [hs, hc, Spec.two, ← EReal.coe_mul, ← EReal.coe_mul, Real.sin_two_mul]
  · pointwise [dblC]
    rw [hs, hc, ← EReal.coe_mul, ← EReal.coe_mul, ← EReal.coe_sub, Real.cos_two_mul']
    exact congrArg _ (by ring)

/-- Parent features plus the embedding of the position's features, over any array of features. -/
def embed (u : FVec Ideal S4096x64 .f32) (f : FVec Ideal S18x4096 .f32) (W : FVec Ideal S18x768 .f32) (b : FVec Ideal S1x768 .f32)
    (sp : FVec Ideal S1x64x768 .f32) : FVec Ideal S4096x768 .f32 :=
  addf (matmul dot_S4096x64_S64x768_S4096x768_1_0_0_1_n_n none u (shapeCast S64x768 sp shapeCasts_S1x64x768_S64x768) (constant S4096x768 .f32 0x00000000#32))
    (addf (matmul dot_S4096x18_S18x768_S4096x768_1_0_0_1_n_n none (transpose S4096x18 [1, 0] f transposes_S18x4096_p1_0_S4096x18) W (constant S4096x768 .f32 0x00000000#32))
      (broadcastTo S4096x768 (shapeCast S1x768 b shapeCasts_S1x768_S1x768) broadcasts_S1x768_S4096x768))

theorem embed_at (u : FVec Ideal S4096x64 .f32) (f : FVec Ideal S18x4096 .f32) (W : FVec Ideal S18x768 .f32) (b : FVec Ideal S1x768 .f32)
    (sp : FVec Ideal S1x64x768 .f32) (r : Fin 4096) (j : Fin 768) :
    embed u f W b sp (ix2 r j) = Spec.state (fun k => u (ix2 r k)) (fun i => f (ix2 i r)) (fun k j => sp (ix3 0 k j)) (fun i j => W (ix2 i j))
      (fun j => b (ix2 0 j)) j := by
  pointwise [embed]
  rfl

/-- The body's features: the rows are the nine sines, then the nine cosines, each from the one before. -/
theorem pay73_eq (u : FVec Ideal S4096x64 .f32) (s0 c0 s1 c1 s2 c2 s3 : FVec Ideal S1x4096 .f32) (W : FVec Ideal S18x768 .f32) (b : FVec Ideal S1x768 .f32)
    (sp : FVec Ideal S1x64x768 .f32) (c3 s4 c4 s5 c5 s6 c6 s7 c7 s8 c8 : FVec Ideal S1x4096 .f32)
    (h3 : c3 = dblC s2 c2) (h4 : s4 = dblS s3 c3) (k4 : c4 = dblC s3 c3) (h5 : s5 = dblS s4 c4) (k5 : c5 = dblC s4 c4) (h6 : s6 = dblS s5 c5)
    (k6 : c6 = dblC s5 c5) (h7 : s7 = dblS s6 c6) (k7 : c7 = dblC s6 c6) (h8 : s8 = dblS s7 c7) (k8 : c8 = dblC s7 c7) :
    k1_pay73 (F := Ideal) u s0 c0 s1 c1 s2 c2 s3 W b sp
      = embed u (concatenate S18x4096 0 (List.ofFn fun i : Fin 18 => (⟨S1x4096, ![s0, s1, s2, s3, s4, s5, s6, s7, s8, c0, c1, c2, c3, c4, c5, c6, c7, c8] i⟩ : (s : Shape) × (s.Idx → EReal)))
          concatenates_S1x4096_S1x4096_S1x4096_S1x4096_S1x4096_S1x4096_S1x4096_S1x4096_S1x4096_S1x4096_S1x4096_S1x4096_S1x4096_S1x4096_S1x4096_S1x4096_S1x4096_S1x4096_S18x4096_d0)
          W b sp := by
  subst h3 h4 k4 h5 k5 h6 k6 h7 k7 h8 k8
  rfl

theorem rows_at (f : Fin 18 → FVec Ideal S1x4096 .f32) (h) (i : Fin 18) (n : Fin 4096) :
    concatenate S18x4096 0 (List.ofFn fun i : Fin 18 => (⟨S1x4096, f i⟩ : (s : Shape) × (s.Idx → EReal))) h (ix2 i n) = f i (ix2 0 n) := by
  refine concatenate_ofFn_apply (s₁ := S1x4096) (t := S18x4096) 0 f h rfl 1 rfl (ix2 i n) i (Nat.div_one _) (ix2 0 n) (Nat.mod_one _).symm ?_
  intro b hb
  fin_cases b
  · exact absurd rfl hb
  · rfl

/-- The body's state row, where the positions are real. -/
theorem pay73_at (u : FVec Ideal S4096x64 .f32) (s0 c0 s1 c1 s2 c2 s3 : FVec Ideal S1x4096 .f32) (W : FVec Ideal S18x768 .f32) (b : FVec Ideal S1x768 .f32)
    (sp : FVec Ideal S1x64x768 .f32) {q : ℝ} (hq : Ideal.ofBits .f32 0x40490FDB#32 = (q : EReal)) (p : Fin 4096 → ℝ)
    (h0 : IsAngle s0 c0 fun n => p n * q) (h1 : s1 = dblS s0 c0) (k1 : c1 = dblC s0 c0) (h2 : s2 = dblS s1 c1) (k2 : c2 = dblC s1 c1)
    (h3 : s3 = dblS s2 c2) (r : Fin 4096) (j : Fin 768) :
    k1_pay73 (F := Ideal) u s0 c0 s1 c1 s2 c2 s3 W b sp (ix2 r j)
      = Spec.state (fun k => u (ix2 r k)) (Spec.feat (p r : EReal)) (fun k j => sp (ix3 0 k j)) (fun i j => W (ix2 i j)) (fun j => b (ix2 0 j)) j := by
  subst h1 k1 h2 k2 h3
  have a0 := h0
  have a1 := a0.next
  have a2 := a1.next
  have a3 := a2.next
  have a4 := a3.next
  have a5 := a4.next
  have a6 := a5.next
  have a7 := a6.next
  have a8 := a7.next
  rw [pay73_eq u _ _ _ _ _ _ _ W b sp _ _ _ _ _ _ _ _ _ _ _ rfl rfl rfl rfl rfl rfl rfl rfl rfl rfl rfl, embed_at]
  refine congrArg (fun f => Spec.state _ f _ _ _ j) (funext fun i => (rows_at _ _ i r).trans ?_)
  unfold Spec.feat
  simp only [Spec.ang_real hq]
  have e : ∀ k : ℕ, (2 ^ (k + 1) * (p r * q) : ℝ) = 2 * (2 ^ k * (p r * q)) := fun k => by ring
  have z : (2 ^ 0 * (p r * q) : ℝ) = p r * q := by ring
  have E : ∀ (k : ℕ) (x y : EReal) (th : ℝ), x = ((Real.sin th : ℝ) : EReal) ∧ y = ((Real.cos th : ℝ) : EReal) → th = 2 ^ k * (p r * q) →
      x = Ideal.sin ((2 ^ k * (p r * q) : ℝ) : EReal) ∧ y = Ideal.cos ((2 ^ k * (p r * q) : ℝ) : EReal) := by
    rintro k x y th ⟨rfl, rfl⟩ rfl; exact ⟨rfl, rfl⟩
  have b0 := E 0 _ _ _ (a0 r) (by ring)
  have b1 := E 1 _ _ _ (a1 r) (by ring)
  have b2 := E 2 _ _ _ (a2 r) (by ring)
  have b3 := E 3 _ _ _ (a3 r) (by ring)
  have b4 := E 4 _ _ _ (a4 r) (by ring)
  have b5 := E 5 _ _ _ (a5 r) (by ring)
  have b6 := E 6 _ _ _ (a6 r) (by ring)
  have b7 := E 7 _ _ _ (a7 r) (by ring)
  have b8 := E 8 _ _ _ (a8 r) (by ring)
  fin_cases i
  exacts [b0.1, b1.1, b2.1, b3.1, b4.1, b5.1, b6.1, b7.1, b8.1, b0.2, b1.2, b2.2, b3.2, b4.2, b5.2, b6.2, b7.2, b8.2]

end Cert.KernelIdeal.Fused

end
-- ==== Proof.KDec.lean ====
module

public import proofs.«01_k».proof.Proof.KRow

/-! # The fused body's last step: the coordinates in the world frame

The body rotates by two fixed 0/1 matrices: one repeats the three coordinates three times, the other
sums each group of three products. -/

@[expose] public section

set_option maxRecDepth 16384

noncomputable section

namespace Cert.KernelIdeal.Fused

open Idealize.ShloMosaic Idealize.ShloMosaic.TcCoe Idealize.SL.Sem Cert.KernelIdeal Cert.KernelIdeal.Gen

/-- The words of the repeating matrix's test: the column's remainder by three. -/
def qw : IVec S3x9 32 :=
  select (andi (xori (k1_pay82) (broadcastTo S3x9 k1_pay83 broadcasts_S3x9_S3x9)) k1_pay81) (addi k1_pay80 (broadcast S3x9 (Scalar.select (Scalar.cmpi .eq 3#32 0#32) 1#32 3#32))) k1_pay80

/-- The words of the summing matrix's test: the row over three. -/
def pw : IVec S9x3 32 :=
  select (andi (cmpi .ne (subi (extui 32 (cmpi .sgt (iota .tc S9x3 32 [0] iota_S9x3_d0_w32) (broadcast S9x3 0#32)) natLt_1_32)
      (extui 32 (cmpi .slt (iota .tc S9x3 32 [0] iota_S9x3_d0_w32) (broadcast S9x3 0#32)) natLt_1_32))
      (broadcast S9x3 (Scalar.subi (Scalar.extui (Scalar.cmpi .sgt 3#32 0#32)) (Scalar.extui (Scalar.cmpi .slt 3#32 0#32)))))
      (cmpi .ne (remsi (iota .tc S9x3 32 [0] iota_S9x3_d0_w32) (broadcast S9x3 3#32)) (broadcast S9x3 0#32)))
    (subi (divsi (iota .tc S9x3 32 [0] iota_S9x3_d0_w32) (broadcast S9x3 3#32)) (broadcast S9x3 1#32))
    (divsi (iota .tc S9x3 32 [0] iota_S9x3_d0_w32) (broadcast S9x3 3#32))

/-- The repeating matrix. -/
def Qm : FVec Ideal S3x9 .f32 := sitofp .f32 (extui 32 (cmpi .eq qw (iota .tc S3x9 32 [0] iota_S3x9_d0_w32)) natLt_1_32)

/-- The summing matrix. -/
def Pm : FVec Ideal S9x3 .f32 := sitofp .f32 (extui 32 (cmpi .eq pw (iota .tc S9x3 32 [1] iota_S9x3_d1_w32)) natLt_1_32)

theorem qw_at (d : Fin 3) (m : Fin 9) : qw (ix2 d m) = BitVec.ofNat 32 ((m : ℕ) % 3) := by
  revert d m; decide +kernel

theorem pw_at (m : Fin 9) (i : Fin 3) : pw (ix2 m i) = BitVec.ofNat 32 ((m : ℕ) / 3) := by
  revert m i; decide +kernel

theorem Qm_at (d : Fin 3) (m : Fin 9) : Qm (ix2 d m) = if (m : ℕ) % 3 = d then 1 else 0 := by
  pointwise [Qm]
  rw [Spec.bit_signed, qw_at]
  simp only [Spec.cmpi_eq_small (show (m : ℕ) % 3 < 2 ^ 31 by omega) (show (d : ℕ) < 2 ^ 31 by omega)]

theorem Pm_at (m : Fin 9) (i : Fin 3) : Pm (ix2 m i) = if (m : ℕ) / 3 = i then 1 else 0 := by
  pointwise [Pm]
  rw [Spec.bit_signed, pw_at]
  simp only [Spec.cmpi_eq_small (show (m : ℕ) / 3 < 2 ^ 31 by omega) (show (i : ℕ) < 2 ^ 31 by omega)]

/-- The last step over any two matrices. -/
def rotate (mu l : FVec Ideal S4096x3 .f32) (R : FVec Ideal S4096x9 .f32) (Q : FVec Ideal S3x9 .f32) (P : FVec Ideal S9x3 .f32) : FVec Ideal S1x4096x3 .f32 :=
  shapeCast S1x4096x3 (mulf (addf mu (matmul dot_S4096x9_S9x3_S4096x3_1_0_0_1_n_n none (mulf R (matmul dot_S4096x3_S3x9_S4096x9_1_0_0_1_n_n none l Q
    (constant S4096x9 .f32 0x00000000#32))) P (constant S4096x3 .f32 0x00000000#32))) (broadcast S4096x3 (Scalar.ofBits .f32 0x41200000#32))) shapeCasts_S4096x3_S1x4096x3

theorem rotate_at (mu l : FVec Ideal S4096x3 .f32) (R : FVec Ideal S4096x9 .f32) (Q : FVec Ideal S3x9 .f32) (P : FVec Ideal S9x3 .f32) (r : Fin 4096) (i : Fin 3) :
    rotate mu l R Q P (ix3 0 r i) = (mu (ix2 r i) + ∑ m : Fin 9, R (ix2 r m) * (∑ d : Fin 3, l (ix2 r d) * Q (ix2 d m)) * P (ix2 m i))
      * Ideal.ofBits .f32 0x41200000#32 := by
  pointwise [rotate]

theorem pay84_eq (mu l : FVec Ideal S4096x3 .f32) (R : FVec Ideal S4096x9 .f32) :
    k1_pay84 mu l R (iota .tc S3x9 32 [0] iota_S3x9_d0_w32) (Scalar.select (Scalar.cmpi .eq 3#32 0#32) 1#32 3#32) k1_pay80 k1_pay81 k1_pay82 k1_pay83
      = rotate mu l R Qm Pm := rfl

/-- A sum against a 0/1 column keeps one term. -/
theorem pick {n : ℕ} (f : Fin n → EReal) (i : Fin n) : (∑ k, f k * if k = i then (1 : EReal) else 0) = f i := by
  rw [Finset.sum_eq_single i]
  · rw [if_pos rfl, mul_one]
  · intro k _ hk; rw [if_neg hk, mul_zero]
  · intro h; exact absurd (Finset.mem_univ _) h

/-- The two matrices together: three products summed. -/
theorem turned (R : Fin 9 → EReal) (l : Fin 3 → EReal) (i : Fin 3) :
    (∑ m : Fin 9, R m * (∑ d : Fin 3, l d * if (m : ℕ) % 3 = d then 1 else 0) * if (m : ℕ) / 3 = i then 1 else 0)
      = ∑ d : Fin 3, R ⟨3 * i + d, by omega⟩ * l d := by
  have h : ∀ m : Fin 9, (∑ d : Fin 3, l d * if (m : ℕ) % 3 = d then (1 : EReal) else 0) = l ⟨m % 3, Nat.mod_lt _ (by decide)⟩ := fun m => by
    rw [← pick l ⟨m % 3, Nat.mod_lt _ (by decide)⟩]
    exact Finset.sum_congr rfl fun d _ => congrArg (l d * ·) (if_congr (by rw [Fin.ext_iff]; exact eq_comm) rfl rfl)
  simp only [h]
  fin_cases i <;> simp [Fin.sum_univ_succ]

theorem pay84_at (mu l : FVec Ideal S4096x3 .f32) (R : FVec Ideal S4096x9 .f32) (r : Fin 4096) (i : Fin 3) :
    k1_pay84 mu l R (iota .tc S3x9 32 [0] iota_S3x9_d0_w32) (Scalar.select (Scalar.cmpi .eq 3#32 0#32) 1#32 3#32) k1_pay80 k1_pay81 k1_pay82 k1_pay83 (ix3 0 r i)
      = (mu (ix2 r i) + ∑ d : Fin 3, R (ix2 r ⟨3 * i + d, by omega⟩) * l (ix2 r d)) * Ideal.ofBits .f32 0x41200000#32 := by
  rw [pay84_eq, rotate_at]
  simp only [Qm_at, Pm_at]
  rw [turned (fun m => R (ix2 r m)) (fun d => l (ix2 r d)) i]

theorem pay77_at (u : FVec Ideal S4096x64 .f32) (mu : Vec Ideal S1x64x3 .f32) (r : Fin 4096) (i : Fin 3) :
    k1_pay77 (F := Ideal) u mu (ix2 r i) = ∑ k : Fin 64, u (ix2 r k) * mu (ix3 0 k i) := by
  pointwise [k1_pay77]

theorem pay78_at (u : FVec Ideal S4096x64 .f32) (h : FVec Ideal S4096x256 .f32) (W : Vec Ideal S256x3 .f32) (b : Vec Ideal S1x3 .f32) (sk : Vec Ideal S1x64x3 .f32)
    (r : Fin 4096) (d : Fin 3) :
    k1_pay78 (F := Ideal) u h W b sk (ix2 r d) = k1_pay76 (F := Ideal) h W b (ix2 r d) * Spec.scale (fun k => u (ix2 r k)) (fun k d => sk (ix3 0 k d)) d := by
  pointwise [k1_pay78]
  rfl

theorem pay79_at (w : Fin 4096 → Fin 64 → EReal) (h : FVec Ideal S4096x64 .f32) (hh : ∀ r k, h (ix2 r k) = Spec.hot (w r) k) (R : Vec Ideal S1x64x9 .f32)
    (r : Fin 4096) (m : Fin 9) : k1_pay79 (F := Ideal) h R (ix2 r m) = R (ix3 0 (Spec.top (w r)) m) := by
  have e : k1_pay79 (F := Ideal) h R (ix2 r m) = ∑ k : Fin 64, h (ix2 r k) * R (ix3 0 k m) := by pointwise [k1_pay79]
  rw [e, ← pick (fun k => R (ix3 0 k m)) (Spec.top (w r))]
  exact Finset.sum_congr rfl fun k _ => by rw [hh]; exact mul_comm _ _

end Cert.KernelIdeal.Fused

end
-- ==== Proof.KBlk.lean ====
module

public import proofs.«01_k».proof.Proof.KFeat
public import proofs.«01_k».proof.Proof.KDec
public import proofs.«01_k».proof.Proof.Row

/-! # The five blocks of one point of the fused call, row by row -/

@[expose] public section

set_option maxRecDepth 16384

noncomputable section

namespace Cert.KernelIdeal.Fused

open Idealize.ShloMosaic Idealize.ShloMosaic.TcCoe Idealize.SL.Sem Cert.KernelIdeal Cert.KernelIdeal.Gen
open Cert.Spec (IsR)

/-- What the blocks' rows are decoded with. -/
def Ins.params (X : Ins Ideal) : Spec.Params where
  sp k j := X.sp (ix3 0 k j)
  mu k d := X.mu (ix3 0 k d)
  R k i d := X.R9 (ix3 0 k ⟨3 * i + d, by omega⟩)
  sk k d := X.sk (ix3 0 k d)
  Wpos i j := X.Wpos (ix2 i j)
  bpos j := X.bpos (ix2 0 j)
  g1 j := X.g1 (ix2 0 j)
  be1 j := X.be1 (ix2 0 j)
  Wq1 i j := X.Wq1 (ix2 i j)
  bq1 j := X.bq1 (ix2 0 j)
  Wq2 i j := X.Wq2 (ix2 i j)
  bq2 j := X.bq2 (ix2 0 j)
  g2 j := X.g2 (ix2 0 j)
  be2 j := X.be2 (ix2 0 j)
  Wm1 i j := X.Wm1 (ix2 i j)
  bm1 j := X.bm1 (ix2 0 j)
  Wm2 i j := X.Wm2 (ix2 i j)
  bm2 j := X.bm2 (ix2 0 j)
  Wm3 i j := X.Wm3 (ix2 i j)
  bm3 j := X.bm3 (ix2 0 j)

/-- The weights of the block's row `i`. -/
def wrow (a : FVec Ideal S1x4096x64 .f32) (i : Fin 4096) : Fin 64 → EReal := Spec.norm fun k => a (ix3 0 i k)

/-- The position of the block's row `i`. -/
def prow (r : FVec Ideal S1x64 .f32) (X : Ins Ideal) (i : Fin 4096) : EReal :=
  Spec.place (wrow X.a i) (fun k => r (ix2 0 k) + pre (w10 X.a) k (i + 1)) (fun k => X.tot (ix3 0 0 k))

theorem w10_at (a : FVec Ideal S1x4096x64 .f32) (i : Fin 4096) (k : Fin 64) : w10 (F := Ideal) a (ix2 i k) = wrow a i k := pay6_at a i k

/-- Every weight of the block is above the least value. -/
def Above (a : FVec Ideal S1x4096x64 .f32) : Prop := ∀ i k, a (ix3 0 i k) ≠ ⊥

theorem Above.real {a : FVec Ideal S1x4096x64 .f32} (h : Above a) (y) : IsR (w10 (F := Ideal) a y) := by
  obtain ⟨i, k, rfl⟩ : ∃ i k, y = ix2 i k := ⟨y 0, y 1, by idx_ext⟩
  rw [w10_at]
  exact Spec.norm_real (h i) k

theorem pre_real {a : FVec Ideal S1x4096x64 .f32} (h : Above a) (k : Fin 64) (n : ℕ) : IsR (pre (w10 a) k n) := by
  refine IsR.sum _ _ fun m => ?_
  unfold col
  split
  · exact h.real _
  · exact ⟨0, rfl⟩

theorem run_row {a : FVec Ideal S1x4096x64 .f32} (h : Above a) (r : FVec Ideal S1x64 .f32) (k : Fin 64) :
    run (F := Ideal) a r (ix2 0 k) = r (ix2 0 k) + pre (w10 a) k 4096 := run_at a r h.real k

theorem useBlk_at (X : Ins Ideal) (i : Fin 4096) (k : Fin 64) : useBlk (F := Ideal) X (ix3 0 i k) = Spec.use (wrow X.a i) k := by
  pointwise [useBlk, k1_pay3]
  exact pay9_at X.a i k

theorem idxBlk_at (X : Ins Ideal) (i : Fin 4096) (c : Fin 8) : idxBlk (F := Ideal) X (ix3 0 i c) = BitVec.ofNat 32 (Spec.top (wrow X.a i)) := by
  pointwise [idxBlk, k1_pay4]
  exact pay7_at X.a i

theorem tot0_at (X : Ins Ideal) (k : Fin 64) : X.tot0 (ix3 0 0 k) = X.tot (ix3 0 0 k) := by
  unfold Ins.tot0
  exact congrArg X.tot (by idx_ext)

theorem pos_row {X : Ins Ideal} (h : Above X.a) (r : FVec Ideal S1x64 .f32) (i : Fin 4096) :
    pos (F := Ideal) X.a r X.tot0 (ix2 i 0) = prow r X i := by
  rw [pos_at X.a r X.tot0 h.real i]
  simp only [tot0_at, w10_at]
  rfl

theorem posBlk_at {X : Ins Ideal} (h : Above X.a) (r : FVec Ideal S1x64 .f32) (i : Fin 4096) (c : Fin 8) :
    posBlk (F := Ideal) r X (ix3 0 i c) = prow r X i := by
  pointwise [posBlk, k1_pay2]
  exact pos_row h r i

/-- The positions are real where the carried row and the totals are. -/
theorem prow_real {X : Ins Ideal} (h : Above X.a) (r : FVec Ideal S1x64 .f32) (hr : ∀ k : Fin 64, IsR (r (ix2 0 k)))
    (ht : ∀ k : Fin 64, IsR (X.tot (ix3 0 0 k))) (i : Fin 4096) : IsR (prow r X i) :=
  Spec.place_real (fun k => Spec.norm_real (h i) k) (fun k => (hr k).add (pre_real h k _)) ht

variable {X : Ins Ideal} (h : Above X.a) (r : FVec Ideal S1x64 .f32) (hp : ∀ i, IsR (prow r X i))

include h hp

/-- The state of each row. -/
theorem feat_at (i : Fin 4096) (j : Fin 768) :
    feat (F := Ideal) r X (ix2 i j) = Spec.state (Spec.use (wrow X.a i)) (Spec.feat (prow r X i)) X.params.sp X.params.Wpos X.params.bpos j := by
  obtain ⟨q, hq⟩ := Spec.unit_real
  choose p hP using hp
  have h0 : IsAngle (q224 (F := Ideal) X.a r X.tot0) (q225 X.a r X.tot0) fun n => p n * q := by
    intro n
    have e : k1_pay65 (F := Ideal) (w10 X.a) tri (c40 X.a r) (c51 X.a r) (c62 X.a r) (c73 X.a r) (c84 X.a r) (c95 X.a r) (c106 X.a r) (c117 X.a r) (c128 X.a r) (c139 X.a r) (c150 X.a r) (c161 X.a r) (c172 X.a r) (c183 X.a r) (c185 X.a r) (c192 X.a) (c194 X.a r) X.tot0 (ix2 0 n)
        = ((p n * q : ℝ) : EReal) := by
      unfold k1_pay65
      pointwise
      rw [hq, EReal.coe_mul, ← hP n, ← pos_row h r n]
      rfl
    refine ⟨?_, ?_⟩
    · exact (show _ = Ideal.sin _ from rfl).trans ((congrArg Ideal.sin e).trans rfl)
    · exact (show _ = Ideal.cos _ from rfl).trans ((congrArg Ideal.cos e).trans rfl)
  rw [hP i]
  refine (pay73_at (u25 X.a) _ _ _ _ _ _ _ X.Wpos X.bpos X.sp hq p h0 rfl rfl rfl rfl rfl i j).trans ?_
  exact congrArg (fun u => Spec.state u _ _ _ _ j) (funext fun k => pay9_at X.a i k)

/-- The coordinates in the parent's frame. -/
theorem xi_at (i : Fin 4096) (d : Fin 3) : xi (F := Ideal) r X (ix2 i d) = X.params.xi (wrow X.a i) (prow r X i) d := by
  unfold xi head query
  rw [pay76_at]
  simp only [pay75_at, pay74_at, feat_at h r hp]
  rfl

theorem xiBlk_at (i : Fin 4096) (d : Fin 3) : xiBlk (F := Ideal) r X (ix3 0 i d) = X.params.xi (wrow X.a i) (prow r X i) d := by
  rw [← xi_at h r hp i d]
  pointwise [xiBlk, k1_pay1]

theorem xhatBlk_at (i : Fin 4096) (d : Fin 3) : xhatBlk (F := Ideal) r X (ix3 0 i d) = X.params.xhat (wrow X.a i) (prow r X i) d := by
  unfold xhatBlk
  rw [pay84_at, pay77_at]
  simp only [pay79_at (wrow X.a) (h23 X.a) (fun r k => pay8_at X.a r k) X.R9, pay78_at]
  have e : ∀ d : Fin 3, k1_pay76 (F := Ideal) (head r X) X.Wm3 X.bm3 (ix2 i d) = X.params.xi (wrow X.a i) (prow r X i) d := xi_at h r hp i
  have u : ∀ k : Fin 64, u25 (F := Ideal) X.a (ix2 i k) = Spec.use (wrow X.a i) k := fun k => pay9_at X.a i k
  simp only [e, u]
  rfl

end Cert.KernelIdeal.Fused

end
-- ==== Proof.Blocks.lean ====
module

public import proofs.«01_k».proof.Proof.Region1
public import proofs.«01_k».proof.Proof.KBlk
public import Idealize.ShloMosaic.Lib.Pipeline.ValueKit

/-! # The blocks of the fused call, read off its arrays -/

@[expose] public section

set_option maxRecDepth 16384

noncomputable section

namespace Cert.KernelIdeal.Fused

open Idealize.ShloMosaic Idealize.ShloMosaic.TcCoe Idealize.SL.Sem Cert.KernelIdeal Cert.KernelIdeal.Gen

/-- Where each tiled window's block lies at a point. -/
theorem idx : ∀ t : Fin cfg1.N, win1_0.index t = ![t.val / 2, t.val % 2, 0] ∧ win1_1.index t = ![t.val / 2, 0, 0] ∧ win1_2.index t = ![t.val / 2, 0, 0]
    ∧ win1_3.index t = ![t.val / 2, 0, 0] ∧ win1_4.index t = ![t.val / 2, 0, 0] ∧ win1_5.index t = ![t.val / 2, 0, 0] ∧ t.val / 2 < 4 :=
  (by decide +kernel : ∀ t : Fin grid1.N, _)

/-- Where each output's block lies at a point. -/
theorem idxOut : ∀ t : Fin cfg1.N, win1_22.index t = ![t.val / 2, t.val % 2, 0] ∧ win1_23.index t = ![t.val / 2, t.val % 2, 0]
    ∧ win1_24.index t = ![t.val / 2, t.val % 2, 0] ∧ win1_25.index t = ![t.val / 2, t.val % 2, 0] ∧ win1_26.index t = ![t.val / 2, t.val % 2, 0] ∧ t.val / 2 < 4 :=
  (by decide +kernel : ∀ t : Fin grid1.N, _)

/-- The whole arrays' windows stay at the origin. -/
theorem idxWhole : ∀ t : Fin cfg1.N, win1_6.index t = ![0, 0] ∧ win1_7.index t = ![0, 0] ∧ win1_8.index t = ![0, 0] ∧ win1_9.index t = ![0, 0]
    ∧ win1_10.index t = ![0, 0] ∧ win1_11.index t = ![0, 0] ∧ win1_12.index t = ![0, 0] ∧ win1_13.index t = ![0, 0] ∧ win1_14.index t = ![0, 0]
    ∧ win1_15.index t = ![0, 0] ∧ win1_16.index t = ![0, 0] ∧ win1_17.index t = ![0, 0] ∧ win1_18.index t = ![0, 0] ∧ win1_19.index t = ![0, 0]
    ∧ win1_20.index t = ![0, 0] ∧ win1_21.index t = ![0, 0] :=
  (by decide +kernel : ∀ t : Fin grid1.N, _)

variable (V : (c : Dev nD) → (b : Ref sig .tc) → Buf (Elt Ideal) ((c : Thread nD τ).loc b)) (c : Dev nD) (t : Fin cfg1.N)

/-- The batch of a point. -/
def bat (t : Fin cfg1.N) : Fin 4 := ⟨t.val / 2, (idx t).2.2.2.2.2.2⟩

/-- The row of the array that a point's row `i` is. -/
def at_ (t : Fin cfg1.N) (i : Fin 4096) : Fin 8192 := ⟨t.val % 2 * 4096 + i, by omega⟩

theorem blk0_at (i : Fin 4096) (k : Fin 64) : (blk V c 0 t : FVec Ideal S1x4096x64 .f32) (ix3 0 i k) = (V c main_arg1 : FVec Ideal S4x8192x64 .f32) (ix3 (bat t) (at_ t i) k) := by
  blk_ext [blk, idx t, bat, at_]

theorem blk1_at (i : Fin 8) (k : Fin 64) : (blk V c 1 t : FVec Ideal S1x8x64 .f32) (ix3 0 i k) = (V c main_v0 : FVec Ideal S4x8x64 .f32) (ix3 (bat t) i k) := by
  blk_ext [blk, idx t, bat]

theorem blk2_at (i : Fin 64) (k : Fin 768) : (blk V c 2 t : FVec Ideal S1x64x768 .f32) (ix3 0 i k) = (V c main_arg0 : FVec Ideal S4x64x768 .f32) (ix3 (bat t) i k) := by
  blk_ext [blk, idx t, bat]

theorem blk3_at (i : Fin 64) (k : Fin 3) : (blk V c 3 t : FVec Ideal S1x64x3 .f32) (ix3 0 i k) = (V c main_arg4 : FVec Ideal S4x64x3 .f32) (ix3 (bat t) i k) := by
  blk_ext [blk, idx t, bat]

theorem blk4_at (i : Fin 64) (k : Fin 9) : (blk V c 4 t : FVec Ideal S1x64x9 .f32) (ix3 0 i k) = (V c main_v1 : FVec Ideal S4x64x9 .f32) (ix3 (bat t) i k) := by
  blk_ext [blk, idx t, bat]

theorem blk5_at (i : Fin 64) (k : Fin 3) : (blk V c 5 t : FVec Ideal S1x64x3 .f32) (ix3 0 i k) = (V c main_arg6 : FVec Ideal S4x64x3 .f32) (ix3 (bat t) i k) := by
  blk_ext [blk, idx t, bat]

theorem blk6_at (i : Fin 18) (j : Fin 768) : (blk V c 6 t : FVec Ideal S18x768 .f32) (ix2 i j) = (V c main_arg7 : FVec Ideal S18x768 .f32) (ix2 i j) := by
  blk_ext [blk, idxWhole t]

theorem blk7_at (i : Fin 1) (j : Fin 768) : (blk V c 7 t : FVec Ideal S1x768 .f32) (ix2 i j) = (V c main_v2 : FVec Ideal S1x768 .f32) (ix2 i j) := by
  blk_ext [blk, idxWhole t]

theorem blk8_at (i : Fin 1) (j : Fin 768) : (blk V c 8 t : FVec Ideal S1x768 .f32) (ix2 i j) = (V c main_v3 : FVec Ideal S1x768 .f32) (ix2 i j) := by
  blk_ext [blk, idxWhole t]

theorem blk9_at (i : Fin 1) (j : Fin 768) : (blk V c 9 t : FVec Ideal S1x768 .f32) (ix2 i j) = (V c main_v4 : FVec Ideal S1x768 .f32) (ix2 i j) := by
  blk_ext [blk, idxWhole t]

theorem blk10_at (i : Fin 768) (j : Fin 768) : (blk V c 10 t : FVec Ideal S768x768 .f32) (ix2 i j) = (V c main_arg11 : FVec Ideal S768x768 .f32) (ix2 i j) := by
  blk_ext [blk, idxWhole t]

theorem blk11_at (i : Fin 1) (j : Fin 768) : (blk V c 11 t : FVec Ideal S1x768 .f32) (ix2 i j) = (V c main_v5 : FVec Ideal S1x768 .f32) (ix2 i j) := by
  blk_ext [blk, idxWhole t]

theorem blk12_at (i : Fin 768) (j : Fin 768) : (blk V c 12 t : FVec Ideal S768x768 .f32) (ix2 i j) = (V c main_arg13 : FVec Ideal S768x768 .f32) (ix2 i j) := by
  blk_ext [blk, idxWhole t]

theorem blk13_at (i : Fin 1) (j : Fin 768) : (blk V c 13 t : FVec Ideal S1x768 .f32) (ix2 i j) = (V c main_v6 : FVec Ideal S1x768 .f32) (ix2 i j) := by
  blk_ext [blk, idxWhole t]

theorem blk14_at (i : Fin 1) (j : Fin 768) : (blk V c 14 t : FVec Ideal S1x768 .f32) (ix2 i j) = (V c main_v7 : FVec Ideal S1x768 .f32) (ix2 i j) := by
  blk_ext [blk, idxWhole t]

theorem blk15_at (i : Fin 1) (j : Fin 768) : (blk V c 15 t : FVec Ideal S1x768 .f32) (ix2 i j) = (V c main_v8 : FVec Ideal S1x768 .f32) (ix2 i j) := by
  blk_ext [blk, idxWhole t]

theorem blk16_at (i : Fin 768) (j : Fin 256) : (blk V c 16 t : FVec Ideal S768x256 .f32) (ix2 i j) = (V c main_arg17 : FVec Ideal S768x256 .f32) (ix2 i j) := by
  blk_ext [blk, idxWhole t]

theorem blk17_at (i : Fin 1) (j : Fin 256) : (blk V c 17 t : FVec Ideal S1x256 .f32) (ix2 i j) = (V c main_v9 : FVec Ideal S1x256 .f32) (ix2 i j) := by
  blk_ext [blk, idxWhole t]

theorem blk18_at (i : Fin 256) (j : Fin 256) : (blk V c 18 t : FVec Ideal S256x256 .f32) (ix2 i j) = (V c main_arg19 : FVec Ideal S256x256 .f32) (ix2 i j) := by
  blk_ext [blk, idxWhole t]

theorem blk19_at (i : Fin 1) (j : Fin 256) : (blk V c 19 t : FVec Ideal S1x256 .f32) (ix2 i j) = (V c main_v10 : FVec Ideal S1x256 .f32) (ix2 i j) := by
  blk_ext [blk, idxWhole t]

theorem blk20_at (i : Fin 256) (j : Fin 3) : (blk V c 20 t : FVec Ideal S256x3 .f32) (ix2 i j) = (V c main_arg21 : FVec Ideal S256x3 .f32) (ix2 i j) := by
  blk_ext [blk, idxWhole t]

theorem blk21_at (i : Fin 1) (j : Fin 3) : (blk V c 21 t : FVec Ideal S1x3 .f32) (ix2 i j) = (V c main_v11 : FVec Ideal S1x3 .f32) (ix2 i j) := by
  blk_ext [blk, idxWhole t]

/-- What a batch's rows are decoded with, off the arrays. -/
def arrParams (b : Fin 4) : Spec.Params where
  sp k j := (V c main_arg0 : FVec Ideal S4x64x768 .f32) (ix3 b k j)
  mu k d := (V c main_arg4 : FVec Ideal S4x64x3 .f32) (ix3 b k d)
  R k i d := (V c main_v1 : FVec Ideal S4x64x9 .f32) (ix3 b k ⟨3 * i + d, by omega⟩)
  sk k d := (V c main_arg6 : FVec Ideal S4x64x3 .f32) (ix3 b k d)
  Wpos i j := (V c main_arg7 : FVec Ideal S18x768 .f32) (ix2 i j)
  bpos j := (V c main_v2 : FVec Ideal S1x768 .f32) (ix2 0 j)
  g1 j := (V c main_v3 : FVec Ideal S1x768 .f32) (ix2 0 j)
  be1 j := (V c main_v4 : FVec Ideal S1x768 .f32) (ix2 0 j)
  Wq1 i j := (V c main_arg11 : FVec Ideal S768x768 .f32) (ix2 i j)
  bq1 j := (V c main_v5 : FVec Ideal S1x768 .f32) (ix2 0 j)
  Wq2 i j := (V c main_arg13 : FVec Ideal S768x768 .f32) (ix2 i j)
  bq2 j := (V c main_v6 : FVec Ideal S1x768 .f32) (ix2 0 j)
  g2 j := (V c main_v7 : FVec Ideal S1x768 .f32) (ix2 0 j)
  be2 j := (V c main_v8 : FVec Ideal S1x768 .f32) (ix2 0 j)
  Wm1 i j := (V c main_arg17 : FVec Ideal S768x256 .f32) (ix2 i j)
  bm1 j := (V c main_v9 : FVec Ideal S1x256 .f32) (ix2 0 j)
  Wm2 i j := (V c main_arg19 : FVec Ideal S256x256 .f32) (ix2 i j)
  bm2 j := (V c main_v10 : FVec Ideal S1x256 .f32) (ix2 0 j)
  Wm3 i j := (V c main_arg21 : FVec Ideal S256x3 .f32) (ix2 i j)
  bm3 j := (V c main_v11 : FVec Ideal S1x3 .f32) (ix2 0 j)

theorem ins_params : (ins V c t).params = arrParams V c (bat t) := by
  unfold Ins.params arrParams
  rw [Spec.Params.mk.injEq]
  exact ⟨funext fun i => funext fun j => blk2_at V c t i j,
    funext fun i => funext fun j => blk3_at V c t i j,
    funext fun k => funext fun i => funext fun d => blk4_at V c t k _,
    funext fun i => funext fun j => blk5_at V c t i j,
    funext fun i => funext fun j => blk6_at V c t i j,
    funext fun j => blk7_at V c t 0 j,
    funext fun j => blk8_at V c t 0 j,
    funext fun j => blk9_at V c t 0 j,
    funext fun i => funext fun j => blk10_at V c t i j,
    funext fun j => blk11_at V c t 0 j,
    funext fun i => funext fun j => blk12_at V c t i j,
    funext fun j => blk13_at V c t 0 j,
    funext fun j => blk14_at V c t 0 j,
    funext fun j => blk15_at V c t 0 j,
    funext fun i => funext fun j => blk16_at V c t i j,
    funext fun j => blk17_at V c t 0 j,
    funext fun i => funext fun j => blk18_at V c t i j,
    funext fun j => blk19_at V c t 0 j,
    funext fun i => funext fun j => blk20_at V c t i j,
    funext fun j => blk21_at V c t 0 j⟩

end Cert.KernelIdeal.Fused

end
-- ==== Proof.ArgMax.lean ====
module

public import proofs.«01_k».proof.Proof.Words
public import proofs.«01_k».proof.ReferenceIdeal

/-! # The first position of a maximum, as a fold of (value, position) pairs -/

@[expose] public section

noncomputable section

namespace Cert.Spec

open Idealize.ShloMosaic

/-- A fold that keeps one of two elements, and one that is as good as both, ends in the best element. -/
theorem fold_best {α : Type} (f : α → α → α) (R : α → α → Prop) (refl : ∀ a, R a a) (trans : ∀ a b c, R a b → R b c → R a c)
    (mem : ∀ a b, f a b = a ∨ f a b = b) (left : ∀ a b, R (f a b) a) (right : ∀ a b, R (f a b) b) :
    ∀ (L : List α) (i : α), (L.foldl f i = i ∨ L.foldl f i ∈ L) ∧ R (L.foldl f i) i ∧ ∀ x ∈ L, R (L.foldl f i) x := by
  intro L
  induction L with
  | nil => intro i; exact ⟨.inl rfl, refl i, by simp⟩
  | cons a L ih =>
    intro i
    obtain ⟨h1, h2, h3⟩ := ih (f i a)
    rw [List.foldl_cons]
    refine ⟨?_, trans _ _ _ h2 (left i a), ?_⟩
    · rcases h1 with h | h
      · rcases mem i a with e | e
        · exact .inl (h.trans e)
        · exact .inr (by rw [h, e]; simp)
      · exact .inr (List.mem_cons_of_mem _ h)
    · intro x hx
      rcases List.mem_cons.1 hx with rfl | hx
      · exact trans _ _ _ h2 (right i x)
      · exact h3 x hx

/-- `p` is a larger value than `q`, or the same value at no later a position. -/
def Beats (p q : EReal × BitVec 32) : Prop := q.1 < p.1 ∨ (q.1 = p.1 ∧ p.2.toInt ≤ q.2.toInt)

theorem Beats.trans (a b c : EReal × BitVec 32) (h : Beats a b) (k : Beats b c) : Beats a c := by
  unfold Beats at *
  rcases h with h | ⟨h, h'⟩ <;> rcases k with k | ⟨k, k'⟩
  · exact .inl (k.trans h)
  · exact .inl (k ▸ h)
  · exact .inl (h ▸ k)
  · exact .inr ⟨k.trans h, h'.trans k'⟩

variable [Cert.ReferenceIdeal.Facts₀]

open Classical in
theorem reducer_eq (a b : EReal × BitVec 32) :
    Cert.ReferenceIdeal.reducer_argmax_f32_i32 (F := Ideal) a b = if b.1 < a.1 ∨ (a.1 = b.1 ∧ a.2.toInt < b.2.toInt) then a else b := by
  obtain ⟨x, i⟩ := a
  obtain ⟨y, j⟩ := b
  unfold Cert.ReferenceIdeal.reducer_argmax_f32_i32
  have hs : IntOp.cmpi .slt i j = BitVec.ofBool (decide (i.toInt < j.toInt)) := by
    show BitVec.ofBool (i.slt j) = _
    rw [BitVec.slt_eq_decide]
  simp only [Ideal.cmpf_def, Ideal.cmp, hs]
  by_cases h1 : y < x
  · simp [h1, h1.ne', Scalar.select, IntOp.ori, IntOp.andi]
  · by_cases h2 : x = y
    · subst h2
      by_cases h3 : i.toInt < j.toInt
      · simp [h3, Scalar.select, IntOp.ori, IntOp.andi]
      · simp [h3, Scalar.select, IntOp.ori, IntOp.andi]
    · simp [h1, h2, Scalar.select, IntOp.ori, IntOp.andi]

/-- Folding a row's (value, position) pairs leaves the position of the first maximum. -/
theorem fold_pairs_lit (w : Fin 64 → EReal) (L : List (EReal × BitVec 32)) (hL : ∀ p, p ∈ L ↔ ∃ k : Fin 64, p = (w k, BitVec.ofNat 32 (k : ℕ))) :
    (L.foldl (Cert.ReferenceIdeal.reducer_argmax_f32_i32 (F := Ideal)) (Ideal.ofBits .f32 0xFF800000#32, 0#32)).2 = BitVec.ofNat 32 (top w : ℕ) := by
  classical
  obtain ⟨h1, -, h3⟩ := fold_best (Cert.ReferenceIdeal.reducer_argmax_f32_i32 (F := Ideal)) Beats (fun a => .inr ⟨rfl, le_rfl⟩) Beats.trans
    (fun a b => by rw [reducer_eq]; split <;> simp)
    (fun a b => by
      rw [reducer_eq]; unfold Beats; split
      · exact .inr ⟨rfl, le_rfl⟩
      · rename_i h
        push Not at h
        rcases lt_or_eq_of_le h.1 with e | e
        · exact .inl e
        · exact .inr ⟨e, h.2 e⟩)
    (fun a b => by
      rw [reducer_eq]; unfold Beats; split
      · rename_i h
        rcases h with h | h
        · exact .inl h
        · exact .inr ⟨h.1.symm, h.2.le⟩
      · exact .inr ⟨rfl, le_rfl⟩) L (Ideal.ofBits .f32 0xFF800000#32, 0#32)
  have hb : ∀ k : Fin 64, Beats (L.foldl (Cert.ReferenceIdeal.reducer_argmax_f32_i32 (F := Ideal)) (Ideal.ofBits .f32 0xFF800000#32, 0#32)) (w k, BitVec.ofNat 32 (k : ℕ)) :=
    fun k => h3 _ ((hL _).2 ⟨k, rfl⟩)
  have key : ∀ (v : EReal) (i : Fin 64), v = w i → (∀ k : Fin 64, Beats (v, BitVec.ofNat 32 (i : ℕ)) (w k, BitVec.ofNat 32 (k : ℕ))) → i = top w := by
    rintro v i rfl h
    refine IsTop.unique ⟨fun j => ?_, fun j hj => ?_⟩ (top_spec w)
    · rcases h j with e | ⟨e, -⟩
      · exact le_of_lt e
      · exact le_of_eq e
    · rcases h j with e | ⟨-, e⟩
      · exact e
      · have e' : (BitVec.ofNat 32 (i : ℕ)).toInt ≤ (BitVec.ofNat 32 (j : ℕ)).toInt := e
        rw [toInt_small _ (by omega), toInt_small _ (by omega)] at e'
        rw [Fin.lt_def] at hj
        omega
  rcases h1 with e | e
  · rw [e] at hb ⊢
    have z : (⊥ : EReal) = w 0 := by
      rcases hb 0 with h | ⟨h, -⟩
      · rw [neg_inf] at h; exact absurd h not_lt_bot
      · rw [neg_inf] at h; exact h.symm
    rw [← key _ 0 (neg_inf.trans z) hb]
    rfl
  · obtain ⟨k, hk⟩ := (hL _).1 e
    rw [hk] at hb ⊢
    rw [← key _ k rfl hb]

/-- The same from any spelling of the initial pair, as an equation of the fold itself. -/
theorem fold_pairs (w : Fin 64 → EReal) (L : List (EReal × BitVec 32)) (i : EReal × BitVec 32) (hi : i = (Ideal.ofBits .f32 0xFF800000#32, 0#32))
    (hL : ∀ p, p ∈ L ↔ ∃ k : Fin 64, p = (w k, BitVec.ofNat 32 (k : ℕ))) :
    ∃ v, L.foldl (Cert.ReferenceIdeal.reducer_argmax_f32_i32 (F := Ideal)) i = (v, BitVec.ofNat 32 (top w : ℕ)) :=
  ⟨_, Prod.ext rfl (hi ▸ fold_pairs_lit w L hL)⟩

end Cert.Spec

end
-- ==== Proof.RefRow.lean ====
module

public import proofs.«01_k».proof.Proof.RefRun
public import proofs.«01_k».proof.Proof.ArgMax
public import proofs.«01_k».proof.Proof.Row

/-! # The reference, row by row: the weights and the dense layers

With both masks one, each of the reference's arrays is read at an index as the row's mathematics. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The (value, position) pairs a row's reduction folds over. -/
theorem mem_fiber (x : FVec Ideal S4x8192x64 .f32) (w : Fin 4 → Fin 8192 → Fin 64 → EReal) (hx : ∀ b n k, x (ix3 b n k) = w b n k) (b : Fin 4) (n : Fin 8192)
    (p : EReal × BitVec 32) :
    p ∈ Host.argReduceFiber x (iotaInDim S4x8192x64 32 2) reducesTo_S4x8192x64_S4x8192_d2 (ix2 b n) ↔ ∃ k : Fin 64, p = (w b n k, BitVec.ofNat 32 (k : ℕ)) := by
  unfold Host.argReduceFiber
  simp only [List.mem_map, List.mem_filter, List.mem_finRange, true_and, decide_eq_true_eq]
  constructor
  · rintro ⟨m, hm, rfl⟩
    generalize S4x8192x64.rowMajor.symm m = i at hm ⊢
    obtain ⟨c, d, k, rfl⟩ : ∃ (c : Fin 4) (d : Fin 8192) (k : Fin 64), i = ix3 c d k := ⟨i 0, i 1, i 2, eq_ix3 i⟩
    have h0 : c = b := congrFun hm 0
    have h1 : d = n := congrFun hm 1
    subst h0 h1
    exact ⟨k, congrArg (·, BitVec.ofNat 32 (k : ℕ)) (hx c d k)⟩
  · rintro ⟨k, rfl⟩
    refine ⟨S4x8192x64.rowMajor (ix3 b n k), ?_, ?_⟩
    · rw [Equiv.symm_apply_apply]
      funext a
      fin_cases a <;> rfl
    · rw [Equiv.symm_apply_apply, hx]
      rfl

/-- The reduction of any array's row: the position of the first maximum. -/
theorem argmax_at (x : FVec Ideal S4x8192x64 .f32) (w : Fin 4 → Fin 8192 → Fin 64 → EReal) (hx : ∀ b n k, x (ix3 b n k) = w b n k) (b : Fin 4) (n : Fin 8192) :
    ∃ v, Host.argReduce (reducer_argmax_f32_i32 (F := Ideal)) x (iotaInDim S4x8192x64 32 2) (constant S_ .f32 0xFF800000#32) (constantI S_ 32 0#32)
      reducesTo_S4x8192x64_S4x8192_d2 h_S_ (ix2 b n) = (v, BitVec.ofNat 32 (Spec.top (w b n))) := by
  rw [Ideal.argReduce_eq_reduce2, Host.reduce2_eq_foldl_fiber]
  exact Spec.fold_pairs _ _ _ rfl (mem_fiber x w hx b n)

/-- The parents, over any floats: the reduction of the scaled weights. -/
theorem v13_eq {F : FTy → Type} [FloatOps F] (V0 : Valuation τ sig (Elt F)) : (res_main_v13 V0 : IVec S4x8192 32)
    = fun j => (Host.argReduce reducer_argmax_f32_i32 (res_main_v12 V0 : FVec F S4x8192x64 .f32) (iotaInDim S4x8192x64 32 2) (constant S_ .f32 0xFF800000#32)
      (constantI S_ 32 0#32) reducesTo_S4x8192x64_S4x8192_d2 h_S_ j).2 := by
  delta res_main_v13
  rfl

/-- The straight-through weights of a mask, weights and parents. -/
def useOf {F : FTy → Type} [FloatOps F] (m : FVec F S4x8192x1 .f32) (w : FVec F S4x8192x64 .f32) (t : IVec S4x8192 32) : FVec F S4x8192x64 .f32 :=
  addf (subf (mulf (uitofp .f32 (cmpi .eq (broadcastInDim S4x8192x64 ![0, 1, 2] bcast_S4x8192x1_S4x8192x64_0_1_2 (broadcastInDim S4x8192x1 ![0, 1] bcast_S4x8192_S4x8192x1_0_1 t))
    (broadcastInDim S4x8192x64 ![0, 1, 2] bcast_S1x1x64_S4x8192x64_0_1_2 (iotaInDim S1x1x64 32 2))))
    (broadcastInDim S4x8192x64 ![0, 1, 2] bcast_S4x8192x1_S4x8192x64_0_1_2 m)) w) w

theorem v18_eq {F : FTy → Type} [FloatOps F] (V0 : Valuation τ sig (Elt F)) : (res_main_v18 V0 : FVec F S4x8192x64 .f32)
    = useOf (res_main_v0 V0) (res_main_v12 V0) (res_main_v13 V0) := by
  delta res_main_v18 useOf
  rfl

theorem useOf_at (m : FVec Ideal S4x8192x1 .f32) (w : FVec Ideal S4x8192x64 .f32) (t : IVec S4x8192 32) (b : Fin 4) (n : Fin 8192) (k : Fin 64)
    (hm : m (ix3 b n 0) = 1) (u : Fin 64 → EReal) (hu : w (ix3 b n k) = u k) (ht : t (ix2 b n) = BitVec.ofNat 32 (Spec.top u)) :
    useOf m w t (ix3 b n k) = Spec.use u k := by
  pointwise [useOf]
  rw [hm, hu, ht, Spec.bit_unsigned, mul_one]
  simp only [Spec.cmpi_eq_small (show ((Spec.top u : Fin 64) : ℕ) < 2 ^ 31 by omega) (show (k : ℕ) < 2 ^ 31 by omega)]
  simp only [Spec.use, Spec.hot, Fin.ext_iff, eq_comm]

/-- The two masks are one. -/
structure Unmasked (V0 : Valuation τ sig (Elt Ideal)) : Prop where
  parent : ∀ (b : Fin 4) (k : Fin 64), (V0 (Proc.devRef .tc main_arg2) : FVec Ideal S4x64 .f32) (ix2 b k) = (1 : EReal)
  node : ∀ (b : Fin 4) (n : Fin 8192), (V0 (Proc.devRef .tc main_arg3) : FVec Ideal S4x8192 .f32) (ix2 b n) = (1 : EReal)

/-- The router weights of one row. -/
def arow (V0 : Valuation τ sig (Elt Ideal)) (b : Fin 4) (n : Fin 8192) : Fin 64 → EReal := fun k =>
  (V0 (Proc.devRef .tc main_arg1) : FVec Ideal S4x8192x64 .f32) (ix3 b n k)

/-- The scaled weights of one row. -/
def wrow (V0 : Valuation τ sig (Elt Ideal)) (b : Fin 4) (n : Fin 8192) : Fin 64 → EReal := Spec.norm (arow V0 b n)

/-- What the rows of batch `b` are decoded with. -/
def params (V0 : Valuation τ sig (Elt Ideal)) (b : Fin 4) : Spec.Params where
  sp k j := (V0 (Proc.devRef .tc main_arg0) : FVec Ideal S4x64x768 .f32) (ix3 b k j)
  mu k d := (V0 (Proc.devRef .tc main_arg4) : FVec Ideal S4x64x3 .f32) (ix3 b k d)
  R k i d := (V0 (Proc.devRef .tc main_arg5) : FVec Ideal S4x64x3x3 .f32) (ix4 b k i d)
  sk k d := (V0 (Proc.devRef .tc main_arg6) : FVec Ideal S4x64x3 .f32) (ix3 b k d)
  Wpos i j := (V0 (Proc.devRef .tc main_arg7) : FVec Ideal S18x768 .f32) (ix2 i j)
  bpos j := (V0 (Proc.devRef .tc main_arg8) : FVec Ideal S768 .f32) (ix1 j)
  g1 j := (V0 (Proc.devRef .tc main_arg9) : FVec Ideal S768 .f32) (ix1 j)
  be1 j := (V0 (Proc.devRef .tc main_arg10) : FVec Ideal S768 .f32) (ix1 j)
  Wq1 i j := (V0 (Proc.devRef .tc main_arg11) : FVec Ideal S768x768 .f32) (ix2 i j)
  bq1 j := (V0 (Proc.devRef .tc main_arg12) : FVec Ideal S768 .f32) (ix1 j)
  Wq2 i j := (V0 (Proc.devRef .tc main_arg13) : FVec Ideal S768x768 .f32) (ix2 i j)
  bq2 j := (V0 (Proc.devRef .tc main_arg14) : FVec Ideal S768 .f32) (ix1 j)
  g2 j := (V0 (Proc.devRef .tc main_arg15) : FVec Ideal S768 .f32) (ix1 j)
  be2 j := (V0 (Proc.devRef .tc main_arg16) : FVec Ideal S768 .f32) (ix1 j)
  Wm1 i j := (V0 (Proc.devRef .tc main_arg17) : FVec Ideal S768x256 .f32) (ix2 i j)
  bm1 j := (V0 (Proc.devRef .tc main_arg18) : FVec Ideal S256 .f32) (ix1 j)
  Wm2 i j := (V0 (Proc.devRef .tc main_arg19) : FVec Ideal S256x256 .f32) (ix2 i j)
  bm2 j := (V0 (Proc.devRef .tc main_arg20) : FVec Ideal S256 .f32) (ix1 j)
  Wm3 i j := (V0 (Proc.devRef .tc main_arg21) : FVec Ideal S256x3 .f32) (ix2 i j)
  bm3 j := (V0 (Proc.devRef .tc main_arg22) : FVec Ideal S3 .f32) (ix1 j)

variable {V0 : Valuation τ sig (Elt Ideal)} (U : Unmasked V0)

include U

theorem v0_at (b : Fin 4) (n : Fin 8192) : res_main_v0 V0 (ix3 b n 0) = (1 : EReal) := by
  pointwise [res_main_v0]
  exact U.node b n

theorem v5_at (b : Fin 4) (n : Fin 8192) (k : Fin 64) : res_main_v5 V0 (ix3 b n k) = arow V0 b n k := by
  pointwise [res_main_v5, v0_at U]
  rw [U.parent b k]
  exact mul_one (arow V0 b n k)

theorem v12_at (b : Fin 4) (n : Fin 8192) (k : Fin 64) : res_main_v12 V0 (ix3 b n k) = wrow V0 b n k := by
  pointwise [res_main_v12, v0_at U]
  simp only [v5_at U]
  rfl

theorem v20_at (b : Fin 4) (n : Fin 8192) (k : Fin 64) : res_main_v20 V0 (ix3 b n k) = wrow V0 b n k := by
  pointwise [res_main_v20, v0_at U]
  exact v12_at U b n k

/-- The parent of each row. -/
theorem v13_at (b : Fin 4) (n : Fin 8192) : (res_main_v13 V0 : IVec S4x8192 32) (ix2 b n) = BitVec.ofNat 32 (Spec.top (wrow V0 b n)) := by
  obtain ⟨v, hv⟩ := argmax_at (res_main_v12 V0) (wrow V0) (v12_at U) b n
  rw [v13_eq]
  exact congrArg Prod.snd hv

/-- The straight-through weights of each row. -/
theorem v18_at (b : Fin 4) (n : Fin 8192) (k : Fin 64) : (res_main_v18 V0 : FVec Ideal S4x8192x64 .f32) (ix3 b n k) = Spec.use (wrow V0 b n) k := by
  rw [v18_eq]
  exact useOf_at _ _ _ b n k (v0_at U b n) _ (v12_at U b n k) (v13_at U b n)

end Cert.ReferenceIdeal.Value

end
-- ==== Proof.Window.lean ====
module

public import Idealize.ShloMosaic.Lib.Pointwise

/-! # A running sum down the middle axis -/

@[expose] public section

set_option maxRecDepth 16384

noncomputable section

namespace Cert.Spec

open Idealize.ShloMosaic

theorem foldl_add {α : Type} (f : α → EReal) : ∀ (L : List α) (v : EReal), L.foldl (fun r x => r + f x) v = v + (L.map f).sum := by
  intro L
  induction L with
  | nil => intro v; simp
  | cons a L ih => intro v; rw [List.foldl_cons, ih, List.map_cons, List.sum_cons, add_assoc]

/-- A sum over the indices of a window. -/
theorem sum_window {W : Shape} (f : W.Idx → EReal) : ((List.finRange W.numel).map fun n => f (W.rowMajor.symm n)).sum = ∑ i, f i := by
  rw [← List.ofFn_eq_map, List.sum_ofFn]
  exact Equiv.sum_comp W.rowMajor.symm f

/-- The terms a running sum reads, moved to the rows they come from. -/
theorem sum_shift (N : ℕ) (g : ℕ → EReal) (n : ℕ) (hn : n < N) :
    (∑ t : Fin N, if N - 1 ≤ n + (t : ℕ) then g (n + t - (N - 1)) else 0) = ∑ m ∈ Finset.range (n + 1), g m := by
  rw [Fin.sum_univ_eq_sum_range (fun t => if N - 1 ≤ n + t then g (n + t - (N - 1)) else 0) N, ← Finset.sum_filter]
  refine Finset.sum_bij' (fun t _ => n + t - (N - 1)) (fun m _ => m + (N - 1) - n) ?_ ?_ ?_ ?_ ?_
  · intro t ht
    simp only [Finset.mem_filter, Finset.mem_range] at ht ⊢
    omega
  · intro m hm
    simp only [Finset.mem_filter, Finset.mem_range] at hm ⊢
    omega
  · intro t ht
    simp only [Finset.mem_filter, Finset.mem_range] at ht ⊢
    omega
  · intro m hm
    simp only [Finset.mem_range] at hm ⊢
    omega
  · intro t ht
    rfl

end Cert.Spec

end
-- ==== Proof.RefPos.lean ====
module

public import proofs.«01_k».proof.Proof.RefRow
public import proofs.«01_k».proof.Proof.Window

/-! # The reference's positions and angles -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

section Generic

variable {F : FTy → Type} [FloatOps F]

/-- The running column sums of an array of weights. -/
def cumOf (w : FVec F S4x8192x64 .f32) : FVec F S4x8192x64 .f32 :=
  Host.reduceWindowAdd ![1, 8192, 1] ![1, 1, 1] ![0, 8191, 0] ![0, 0, 0] w (broadcastInDim S_ ![] bcast_S_S_ (constant S_ .f32 0x00000000#32))
    reduceWindows_S4x8192x64_S4x8192x64_w1s1p0_0_w8192s1p8191_0_w1s1p0_0 h_S_

/-- The positions of weights `w`, running sums `c` and a mask. -/
def placeOf (w c : FVec F S4x8192x64 .f32) (m : FVec F S4x8192 .f32) : FVec F S4x8192 .f32 :=
  mulf (Host.reduceAdd (mulf w (Host.divf c (broadcastInDim S4x8192x64 ![0, 1, 2] bcast_S4x1x64_S4x8192x64_0_1_2 (maximumf (broadcastInDim S4x1x64 ![] bcast_S_S4x1x64 (id (constant S_ .f32 0x322BCC77#32)))
    (broadcastInDim S4x1x64 ![0, 2] bcast_S4x64_S4x1x64_0_2 (Host.reduceAdd w (constant S_ .f32 0x00000000#32) reducesTo_S4x8192x64_S4x64_d1 h_S_))))))
    (constant S_ .f32 0x00000000#32) reducesTo_S4x8192x64_S4x8192_d2 h_S_) m

/-- The angles of an array of positions. -/
def angOf (p : FVec F S4x8192 .f32) : FVec F S4x8192x9 .f32 :=
  mulf (broadcastInDim S4x8192x9 ![0, 1, 2] bcast_S4x8192x1_S4x8192x9_0_1_2 (broadcastInDim S4x8192x1 ![0, 1] bcast_S4x8192_S4x8192x1_0_1 p))
    (broadcastInDim S4x8192x9 ![0, 1, 2] bcast_S1x1x9_S4x8192x9_0_1_2 (broadcastInDim S1x1x9 ![2] bcast_S9_S1x1x9_2
      (mulf (Host.powf (broadcastInDim S9 ![] bcast_S_S9 (constant S_ .f32 0x40000000#32)) (sitofp .f32 (iotaInDim S9 32 0))) (broadcastInDim S9 ![] bcast_S_S9 (constant S_ .f32 0x40490FDB#32)))))

theorem v29_eq (V0 : Valuation τ sig (Elt F)) : (res_main_v29 V0 : FVec F S4x8192 .f32)
    = placeOf (res_main_v20 V0) (cumOf (res_main_v20 V0)) (V0 (Proc.devRef .tc main_arg3)) := by
  delta res_main_v29 placeOf cumOf
  rfl

theorem v39_eq (V0 : Valuation τ sig (Elt F)) : (res_main_v39 V0 : FVec F S4x8192x9 .f32)
    = angOf (placeOf (res_main_v20 V0) (cumOf (res_main_v20 V0)) (V0 (Proc.devRef .tc main_arg3))) := by
  delta res_main_v39 angOf placeOf cumOf
  rfl

end Generic

/-- Column `k` of the rows of one batch, by row number. -/
def colOf (w : Fin 8192 → Fin 64 → EReal) (k : Fin 64) (m : ℕ) : EReal := if h : m < 8192 then w ⟨m, h⟩ k else 0

theorem colOf_lt (w : Fin 8192 → Fin 64 → EReal) (k : Fin 64) {m : ℕ} (h : m < 8192) : colOf w k m = w ⟨m, h⟩ k := by
  unfold colOf
  exact dif_pos h

theorem cumOf_at (w : FVec Ideal S4x8192x64 .f32) (u : Fin 4 → Fin 8192 → Fin 64 → EReal) (hw : ∀ b n k, w (ix3 b n k) = u b n k) (b : Fin 4) (n : Fin 8192) (k : Fin 64) :
    cumOf w (ix3 b n k) = ∑ m ∈ Finset.range (n + 1), colOf (u b) k m := by
  have hv : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold cumOf Host.reduceWindowAdd
  rw [Ideal.hostReduceWindowAdd_def, hv]
  unfold Ideal.hostReduceWindowAdd Host.reduceWindow
  refine (Spec.foldl_add _ _ _).trans ?_
  rw [zero_add]
  refine (congrArg List.sum (List.map_congr_left fun m _ => ?_)).trans ((Spec.sum_window (W := ⟨S4x8192x64.rank, ![1, 8192, 1]⟩) fun i =>
    if 8192 - 1 ≤ (n : ℕ) + (i 1 : ℕ) then colOf (u b) k (n + (i 1 : ℕ) - (8192 - 1)) else 0).trans ?_)
  · let I := (⟨S4x8192x64.rank, ![1, 8192, 1]⟩ : Shape).rowMajor.symm m
    have f0 : (I 0 : ℕ) = 0 := Nat.lt_one_iff.1 (show (I 0 : ℕ) < 1 from (I 0).2)
    have f1 : (I 1 : ℕ) < 8192 := (I 1).2
    have f2 : (I 2 : ℕ) = 0 := Nat.lt_one_iff.1 (show (I 2 : ℕ) < 1 from (I 2).2)
    show _ = if 8192 - 1 ≤ (n : ℕ) + (I 1 : ℕ) then colOf (u b) k (n + (I 1 : ℕ) - (8192 - 1)) else 0
    by_cases h : 8192 - 1 ≤ (n : ℕ) + (I 1 : ℕ)
    · refine (dif_pos ?_).trans (Eq.trans ?_ (if_pos h).symm)
      · intro a
        fin_cases a
        · exact ⟨Nat.zero_le _, by show (b : ℕ) * 1 + (I 0 : ℕ) - 0 < 4; omega⟩
        · exact ⟨by show 8191 ≤ (n : ℕ) * 1 + (I 1 : ℕ); omega, by show (n : ℕ) * 1 + (I 1 : ℕ) - 8191 < 8192; omega⟩
        · exact ⟨Nat.zero_le _, by show (k : ℕ) * 1 + (I 2 : ℕ) - 0 < 64; omega⟩
      · refine Eq.trans (congrArg w ?_) ((hw b ⟨n + (I 1 : ℕ) - (8192 - 1), by omega⟩ k).trans (colOf_lt (u b) k (by omega)).symm)
        funext a
        fin_cases a
        · exact Fin.ext (by show (b : ℕ) * 1 + (I 0 : ℕ) - 0 = b; omega)
        · exact Fin.ext (by show (n : ℕ) * 1 + (I 1 : ℕ) - 8191 = n + (I 1 : ℕ) - (8192 - 1); omega)
        · exact Fin.ext (by show (k : ℕ) * 1 + (I 2 : ℕ) - 0 = k; omega)
    · refine (dif_neg fun hin => h ?_).trans (if_neg h).symm
      have h1 : 8191 ≤ (n : ℕ) * 1 + (I 1 : ℕ) := (hin 1).1
      omega
  · rw [← Spec.sum_shift 8192 _ n n.2]
    refine (sum_idx3 _).trans ?_
    rw [Fin.sum_univ_one]
    refine Finset.sum_congr rfl fun t _ => ?_
    rw [Fin.sum_univ_one]
    rfl

theorem placeOf_at (w c : FVec Ideal S4x8192x64 .f32) (m : FVec Ideal S4x8192 .f32) (b : Fin 4) (n : Fin 8192) (hm : m (ix2 b n) = 1) :
    placeOf w c m (ix2 b n) = Spec.place (fun k => w (ix3 b n k)) (fun k => c (ix3 b n k)) (fun k => ∑ x : Fin 8192, w (ix3 b x k)) := by
  pointwise [placeOf]
  rw [hm, mul_one]
  rfl

theorem angOf_at (p : FVec Ideal S4x8192 .f32) (b : Fin 4) (n : Fin 8192) (i : Fin 9) : angOf p (ix3 b n i) = Spec.ang (p (ix2 b n)) i := by
  pointwise [angOf]
  have e : FloatOps.sitofp (F := Ideal) .f32 (BitVec.ofNat 32 (i : ℕ)) = (((i : ℕ) : ℝ) : EReal) := by
    show (((BitVec.ofNat 32 (i : ℕ)).toInt : ℝ) : EReal) = _
    rw [Spec.toInt_small _ (by omega)]
    rfl
  rw [e]
  rfl

/-- The position of row `n` of batch `b`. -/
def prow (V0 : Valuation τ sig (Elt Ideal)) (b : Fin 4) (n : Fin 8192) : EReal :=
  Spec.place (wrow V0 b n) (fun k => ∑ m ∈ Finset.range (n + 1), colOf (wrow V0 b) k m) (fun k => ∑ x : Fin 8192, wrow V0 b x k)

variable {V0 : Valuation τ sig (Elt Ideal)} (U : Unmasked V0)

include U

theorem place_at (b : Fin 4) (n : Fin 8192) :
    placeOf (res_main_v20 V0) (cumOf (res_main_v20 V0)) (V0 (Proc.devRef .tc main_arg3)) (ix2 b n) = prow V0 b n := by
  rw [placeOf_at _ _ _ b n (U.node b n)]
  unfold prow
  exact congr (congr (congrArg Spec.place (funext fun k => v20_at U b n k)) (funext fun k => cumOf_at _ (wrow V0) (v20_at U) b n k))
    (funext fun k => Finset.sum_congr rfl fun x _ => v20_at U b x k)

theorem v29_at (b : Fin 4) (n : Fin 8192) : (res_main_v29 V0 : FVec Ideal S4x8192 .f32) (ix2 b n) = prow V0 b n := by
  rw [v29_eq]
  exact place_at U b n

theorem v39_at (b : Fin 4) (n : Fin 8192) (i : Fin 9) : (res_main_v39 V0 : FVec Ideal S4x8192x9 .f32) (ix3 b n i) = Spec.ang (prow V0 b n) i := by
  rw [v39_eq]
  exact (angOf_at _ b n i).trans (congrArg (fun p => Spec.ang p i) (place_at U b n))

end Cert.ReferenceIdeal.Value

end
-- ==== Proof.Final.lean ====
module

public import proofs.«01_k».proof.Proof.Blocks
public import proofs.«01_k».proof.Proof.RefPos

/-! # The fused call's five arrays

Each point writes its own block of every output, so the arrays end at the row functions of the
arrays the call reads. The row carried into a batch's second half is the first half's column sums. -/

@[expose] public section

set_option maxRecDepth 16384

noncomputable section

namespace Cert.KernelIdeal.Fused

open Idealize.ShloMosaic Idealize.ShloMosaic.TcCoe Idealize.SL.Sem Cert.KernelIdeal Cert.KernelIdeal.Gen
open Cert.Spec (IsR)
open Cert.ReferenceIdeal.Value (colOf colOf_lt)

variable (V : (c : Dev nD) → (b : Ref sig .tc) → Buf (Elt Ideal) ((c : Thread nD τ).loc b)) (c : Dev nD) (t : Fin cfg1.N)

/-- The weights of a row. -/
def wArr (b : Fin 4) (n : Fin 8192) : Fin 64 → EReal := Spec.norm fun k => (V c main_arg1 : FVec Ideal S4x8192x64 .f32) (ix3 b n k)

/-- The position of a row, over the totals the call reads. -/
def pArr (b : Fin 4) (n : Fin 8192) : EReal :=
  Spec.place (wArr V c b n) (fun k => ∑ m ∈ Finset.range (n + 1), colOf (wArr V c b) k m) (fun k => (V c main_v0 : FVec Ideal S4x8x64 .f32) (ix3 b 0 k))

theorem wrow_blk (i : Fin 4096) : wrow (blk V c 0 t) i = wArr V c (bat t) (at_ t i) := by
  unfold wrow wArr
  exact congrArg Spec.norm (funext fun k => blk0_at V c t i k)

/-- The point before a batch's second one is its first. -/
theorem bat_prev (h : ¬t.val % 2 = 0) : bat (prev t) = bat t := Fin.ext (by show (t.val - 1) / 2 = t.val / 2; omega)

/-- The coordinates in the world frame, at every row. -/
def xhatArr : FVec Ideal S4x8192x3 .f32 := fun i => (arrParams V c (i 0)).xhat (wArr V c (i 0) (i 1)) (pArr V c (i 0) (i 1)) (i 2)

/-- The coordinates in the parents' frames, at every row. -/
def xiArr : FVec Ideal S4x8192x3 .f32 := fun i => (arrParams V c (i 0)).xi (wArr V c (i 0) (i 1)) (pArr V c (i 0) (i 1)) (i 2)

/-- The positions, in eight equal columns. -/
def posArr : FVec Ideal S4x8192x8 .f32 := fun i => pArr V c (i 0) (i 1)

/-- The used weights. -/
def useArr : FVec Ideal S4x8192x64 .f32 := fun i => Spec.use (wArr V c (i 0) (i 1)) (i 2)

/-- The greatest parents, in eight equal columns. -/
def idxArr : IVec S4x8192x8 32 := fun i => BitVec.ofNat 32 (Spec.top (wArr V c (i 0) (i 1)))

/-- The block's running column sums are the batch's over the block's rows. -/
theorem pre_blk (k : Fin 64) (n : ℕ) (hn : n ≤ 4096) :
    pre (w10 (F := Ideal) (blk V c 0 t)) k n = ∑ m ∈ Finset.range n, colOf (wArr V c (bat t)) k (t.val % 2 * 4096 + m) := by
  refine Finset.sum_congr rfl fun m hm => ?_
  have hm' : m < 4096 := lt_of_lt_of_le (Finset.mem_range.1 hm) hn
  refine Eq.trans ?_ (colOf_lt (wArr V c (bat t)) k (m := t.val % 2 * 4096 + m) (by omega)).symm
  refine (dif_pos hm').trans ((w10_at _ ⟨m, hm'⟩ k).trans ?_)
  rw [wrow_blk]
  rfl

theorem zrow_at (k : Fin 64) : zrow (F := Ideal) (ix2 0 k) = (0 : EReal) := by
  show Ideal.ofBits .f32 0x00000000#32 = 0
  simp [Ideal.ofBits, Ideal.ieee]

/-- No entry of the weights is the least value. -/
abbrev AboveArr : Prop := ∀ (b : Fin 4) (n : Fin 8192) (k : Fin 64), (V c main_arg1 : FVec Ideal S4x8192x64 .f32) (ix3 b n k) ≠ (⊥ : EReal)

variable (hA : AboveArr V c)

include hA

theorem above_blk : Above (blk V c 0 t) := fun i k => by
  rw [blk0_at]
  exact hA _ _ k

/-- The row a point starts from: the batch's column sums before its block. -/
theorem rowAt_at (k : Fin 64) : rowAt (F := Ideal) V c t (ix2 0 k) = ∑ m ∈ Finset.range (t.val % 2 * 4096), colOf (wArr V c (bat t)) k m := by
  unfold rowAt
  by_cases h : t.val % 2 = 0
  · rw [if_pos h, h, zrow_at]
    rfl
  · have e : t.val % 2 = 1 := by omega
    rw [if_neg h, run_row (above_blk V c (prev t) hA), zrow_at, zero_add, pre_blk V c (prev t) k 4096 le_rfl, bat_prev t h, e]
    have e' : (prev t).val % 2 = 0 := by show (t.val - 1) % 2 = 0; omega
    rw [e']
    simp only [zero_mul, zero_add, one_mul]

/-- The block's positions are the batch's. -/
theorem prow_blk (i : Fin 4096) : prow (rowAt V c t) (ins V c t) i = pArr V c (bat t) (at_ t i) := by
  have hc : ∀ k : Fin 64, rowAt (F := Ideal) V c t (ix2 0 k) + pre (w10 (F := Ideal) (blk V c 0 t)) k (i + 1)
      = ∑ m ∈ Finset.range ((at_ t i : ℕ) + 1), colOf (wArr V c (bat t)) k m := fun k => by
    rw [rowAt_at V c t hA k, pre_blk V c t k (i + 1) (by omega), ← Finset.sum_range_add]
    rfl
  have hw : wrow (ins (F := Ideal) V c t).a i = wArr V c (bat t) (at_ t i) := wrow_blk V c t i
  have ht : ∀ k : Fin 64, (ins (F := Ideal) V c t).tot (ix3 0 0 k) = (V c main_v0 : FVec Ideal S4x8x64 .f32) (ix3 (bat t) 0 k) := fun k => blk1_at V c t 0 k
  unfold prow pArr
  rw [hw]
  exact congrArg₂ (Spec.place _) (funext hc) (funext ht)

theorem wArr_real (b : Fin 4) (n : Fin 8192) (k : Fin 64) : IsR (wArr V c b n k) := Spec.norm_real (fun k => hA b n k) k

theorem colOf_real (b : Fin 4) (k : Fin 64) (m : ℕ) : IsR (colOf (wArr V c b) k m) := by
  unfold colOf
  split
  · exact wArr_real V c hA b _ k
  · exact ⟨0, rfl⟩

variable (hT : ∀ (b : Fin 4) (k : Fin 64), IsR ((V c main_v0 : FVec Ideal S4x8x64 .f32) (ix3 b 0 k)))

include hT

theorem prow_blk_real (t : Fin cfg1.N) (i : Fin 4096) : IsR (prow (rowAt V c t) (ins V c t) i) := by
  rw [prow_blk V c t hA i]
  exact Spec.place_real (fun k => wArr_real V c hA _ _ k) (fun k => IsR.sum _ _ fun m => colOf_real V c hA _ k m) (hT (bat t))

/-- The first result. -/
theorem final22 : (dat1 (F := Ideal) V c).arrAt 22 cfg1.N = xhatArr V c := by
  refine (dat1 V c).arrAt_eq_of_covers 22 _ (by decide +kernel) fun t _ y => ?_
  blk_simp
  rw [after_22]
  have hy : ∀ y : (⟨3, ![1, 4096, 3]⟩ : Shape).Idx, ∃ (i : Fin 4096) (d : Fin 3), y = ix3 0 i d := fun y => ⟨y 1, y 2, by idx_ext⟩
  obtain ⟨i, d, rfl⟩ := hy y
  have e : (win1_22.blk t).view.emb (ix3 0 i d) = (ix3 (bat t) (at_ t i) d : (⟨3, ![4, 8192, 3]⟩ : Shape).Idx) := by blk_ext [idxOut t, bat, at_]
  refine Eq.trans ?_ (congrArg (xhatArr V c) e).symm
  refine (xhatBlk_at (above_blk V c t hA) _ (prow_blk_real V c hA hT t) i d).trans ?_
  have hw : wrow (ins (F := Ideal) V c t).a i = wArr V c (bat t) (at_ t i) := wrow_blk V c t i
  rw [hw, prow_blk V c t hA i, ins_params]
  rfl

/-- The second result. -/
theorem final23 : (dat1 (F := Ideal) V c).arrAt 23 cfg1.N = xiArr V c := by
  refine (dat1 V c).arrAt_eq_of_covers 23 _ (by decide +kernel) fun t _ y => ?_
  blk_simp
  rw [after_23]
  have hy : ∀ y : (⟨3, ![1, 4096, 3]⟩ : Shape).Idx, ∃ (i : Fin 4096) (d : Fin 3), y = ix3 0 i d := fun y => ⟨y 1, y 2, by idx_ext⟩
  obtain ⟨i, d, rfl⟩ := hy y
  have e : (win1_23.blk t).view.emb (ix3 0 i d) = (ix3 (bat t) (at_ t i) d : (⟨3, ![4, 8192, 3]⟩ : Shape).Idx) := by blk_ext [idxOut t, bat, at_]
  refine Eq.trans ?_ (congrArg (xiArr V c) e).symm
  refine (xiBlk_at (above_blk V c t hA) _ (prow_blk_real V c hA hT t) i d).trans ?_
  have hw : wrow (ins (F := Ideal) V c t).a i = wArr V c (bat t) (at_ t i) := wrow_blk V c t i
  rw [hw, prow_blk V c t hA i, ins_params]
  rfl

omit hT

/-- The positions. -/
theorem final24 : (dat1 (F := Ideal) V c).arrAt 24 cfg1.N = posArr V c := by
  refine (dat1 V c).arrAt_eq_of_covers 24 _ (by decide +kernel) fun t _ y => ?_
  blk_simp
  rw [after_24]
  have hy : ∀ y : (⟨3, ![1, 4096, 8]⟩ : Shape).Idx, ∃ (i : Fin 4096) (d : Fin 8), y = ix3 0 i d := fun y => ⟨y 1, y 2, by idx_ext⟩
  obtain ⟨i, d, rfl⟩ := hy y
  have e : (win1_24.blk t).view.emb (ix3 0 i d) = (ix3 (bat t) (at_ t i) d : (⟨3, ![4, 8192, 8]⟩ : Shape).Idx) := by blk_ext [idxOut t, bat, at_]
  refine Eq.trans ?_ (congrArg (posArr V c) e).symm
  refine (posBlk_at (above_blk V c t hA) _ i d).trans ?_
  rw [prow_blk V c t hA i]
  rfl

omit hA

/-- The used weights. -/
theorem final25 : (dat1 (F := Ideal) V c).arrAt 25 cfg1.N = useArr V c := by
  refine (dat1 V c).arrAt_eq_of_covers 25 _ (by decide +kernel) fun t _ y => ?_
  blk_simp
  rw [after_25]
  have hy : ∀ y : (⟨3, ![1, 4096, 64]⟩ : Shape).Idx, ∃ (i : Fin 4096) (d : Fin 64), y = ix3 0 i d := fun y => ⟨y 1, y 2, by idx_ext⟩
  obtain ⟨i, d, rfl⟩ := hy y
  have e : (win1_25.blk t).view.emb (ix3 0 i d) = (ix3 (bat t) (at_ t i) d : (⟨3, ![4, 8192, 64]⟩ : Shape).Idx) := by blk_ext [idxOut t, bat, at_]
  refine Eq.trans ?_ (congrArg (useArr V c) e).symm
  refine (useBlk_at _ i d).trans ?_
  have hw : wrow (ins (F := Ideal) V c t).a i = wArr V c (bat t) (at_ t i) := wrow_blk V c t i
  rw [hw]
  rfl

/-- The greatest parents. -/
theorem final26 : (dat1 (F := Ideal) V c).arrAt 26 cfg1.N = idxArr V c := by
  refine (dat1 V c).arrAt_eq_of_covers 26 _ (by decide +kernel) fun t _ y => ?_
  blk_simp
  rw [after_26]
  have hy : ∀ y : (⟨3, ![1, 4096, 8]⟩ : Shape).Idx, ∃ (i : Fin 4096) (d : Fin 8), y = ix3 0 i d := fun y => ⟨y 1, y 2, by idx_ext⟩
  obtain ⟨i, d, rfl⟩ := hy y
  have e : (win1_26.blk t).view.emb (ix3 0 i d) = (ix3 (bat t) (at_ t i) d : (⟨3, ![4, 8192, 8]⟩ : Shape).Idx) := by blk_ext [idxOut t, bat, at_]
  refine Eq.trans ?_ (congrArg (idxArr V c) e).symm
  refine (idxBlk_at _ i d).trans ?_
  have hw : wrow (ins (F := Ideal) V c t).a i = wArr V c (bat t) (at_ t i) := wrow_blk V c t i
  rw [hw]
  rfl

end Cert.KernelIdeal.Fused

end
-- ==== Proof.Entry.lean ====
module

public import proofs.«01_k».proof.Proof.Run
public import proofs.«01_k».proof.Proof.Sums
public import proofs.«01_k».proof.Proof.Final
public import Idealize.ShloMosaic.Lib.StableHlo.RunRead
public import Idealize.ShloMosaic.Lib.ValueLayout

/-! # What the second call is entered from

The host's stretch between the calls only reshapes: each vector becomes a one-row matrix, and the parents'
rotations become rows of nine. -/

@[expose] public section

set_option maxRecDepth 16384

noncomputable section

namespace Cert.KernelIdeal.Run

open Idealize.ShloMosaic Idealize.ShloMosaic.TcCoe Idealize.ShloMosaic.StableHlo Idealize.SL.Sem Cert.KernelIdeal Cert.KernelIdeal.Gen

/-- A vector laid out as one row. -/
theorem asRow {n : ℕ} (x : FVec Ideal ⟨1, ![n]⟩ .f32) (h : Shape.ShapeCasts ⟨1, ![n]⟩ ⟨2, ![1, n]⟩) (j : Fin n) :
    shapeCast ⟨2, ![1, n]⟩ x h (ix2 0 j) = x (ix1 j) :=
  ValueIdx.shapeCast_a_1a_apply x h 0 j

/-- A three by three matrix laid out as nine columns. -/
theorem asNine (x : FVec Ideal S4x64x3x3 .f32) (b : Fin 4) (k : Fin 64) (i d : Fin 3) :
    shapeCast S4x64x9 x shapeCasts_S4x64x3x3_S4x64x9 (ix3 b k ⟨3 * i + d, by omega⟩) = x (ix4 b k i d) := by
  pointwise []

variable (m : (ℓ : Loc nD τ sig) → Buf (Elt Ideal) ℓ) (ρ : Dev nD → PrngReg) (c : Dev nD)

/-- An argument array, as the second call reads it. -/
theorem V2_arg (a : Ref sig .tc) (ha : a ∈ argRefs) : V2 m ρ c a = m ((c : Thread nD τ).loc a) := W2_args m ρ c a ha

theorem V2_v1 (b : Fin 4) (k : Fin 64) (i d : Fin 3) : (V2 m ρ c main_v1 : FVec Ideal S4x64x9 .f32) (ix3 b k ⟨3 * i + d, by omega⟩)
    = (m ((c : Thread nD τ).loc main_arg5) : FVec Ideal S4x64x3x3 .f32) (ix4 b k i d) := by
  have h : (V2 m ρ c main_v1 : FVec Ideal S4x64x9 .f32) = shapeCast S4x64x9 (W1 m ρ c (Proc.devRef .tc main_arg5) : FVec Ideal S4x64x3x3 .f32) shapeCasts_S4x64x3x3_S4x64x9 := by
    show StableHlo.after hostOps1 (W1 m ρ c) (Proc.devRef .tc main_v1) = _
    after_results_simp
    rfl
  rw [h, asNine, W1_args m ρ c main_arg5 (by decide)]

theorem V2_v2 (j : Fin 768) : (V2 m ρ c main_v2 : FVec Ideal S1x768 .f32) (ix2 0 j) = (m ((c : Thread nD τ).loc main_arg8) : FVec Ideal S768 .f32) (ix1 j) := by
  have h : (V2 m ρ c main_v2 : FVec Ideal S1x768 .f32) = shapeCast S1x768 (W1 m ρ c (Proc.devRef .tc main_arg8) : FVec Ideal S768 .f32) shapeCasts_S768_S1x768 := by
    show StableHlo.after hostOps1 (W1 m ρ c) (Proc.devRef .tc main_v2) = _
    after_results_simp
    rfl
  rw [h, asRow, W1_args m ρ c main_arg8 (by decide)]

theorem V2_v3 (j : Fin 768) : (V2 m ρ c main_v3 : FVec Ideal S1x768 .f32) (ix2 0 j) = (m ((c : Thread nD τ).loc main_arg9) : FVec Ideal S768 .f32) (ix1 j) := by
  have h : (V2 m ρ c main_v3 : FVec Ideal S1x768 .f32) = shapeCast S1x768 (W1 m ρ c (Proc.devRef .tc main_arg9) : FVec Ideal S768 .f32) shapeCasts_S768_S1x768 := by
    show StableHlo.after hostOps1 (W1 m ρ c) (Proc.devRef .tc main_v3) = _
    after_results_simp
    rfl
  rw [h, asRow, W1_args m ρ c main_arg9 (by decide)]

theorem V2_v4 (j : Fin 768) : (V2 m ρ c main_v4 : FVec Ideal S1x768 .f32) (ix2 0 j) = (m ((c : Thread nD τ).loc main_arg10) : FVec Ideal S768 .f32) (ix1 j) := by
  have h : (V2 m ρ c main_v4 : FVec Ideal S1x768 .f32) = shapeCast S1x768 (W1 m ρ c (Proc.devRef .tc main_arg10) : FVec Ideal S768 .f32) shapeCasts_S768_S1x768 := by
    show StableHlo.after hostOps1 (W1 m ρ c) (Proc.devRef .tc main_v4) = _
    after_results_simp
    rfl
  rw [h, asRow, W1_args m ρ c main_arg10 (by decide)]

theorem V2_v5 (j : Fin 768) : (V2 m ρ c main_v5 : FVec Ideal S1x768 .f32) (ix2 0 j) = (m ((c : Thread nD τ).loc main_arg12) : FVec Ideal S768 .f32) (ix1 j) := by
  have h : (V2 m ρ c main_v5 : FVec Ideal S1x768 .f32) = shapeCast S1x768 (W1 m ρ c (Proc.devRef .tc main_arg12) : FVec Ideal S768 .f32) shapeCasts_S768_S1x768 := by
    show StableHlo.after hostOps1 (W1 m ρ c) (Proc.devRef .tc main_v5) = _
    after_results_simp
    rfl
  rw [h, asRow, W1_args m ρ c main_arg12 (by decide)]

theorem V2_v6 (j : Fin 768) : (V2 m ρ c main_v6 : FVec Ideal S1x768 .f32) (ix2 0 j) = (m ((c : Thread nD τ).loc main_arg14) : FVec Ideal S768 .f32) (ix1 j) := by
  have h : (V2 m ρ c main_v6 : FVec Ideal S1x768 .f32) = shapeCast S1x768 (W1 m ρ c (Proc.devRef .tc main_arg14) : FVec Ideal S768 .f32) shapeCasts_S768_S1x768 := by
    show StableHlo.after hostOps1 (W1 m ρ c) (Proc.devRef .tc main_v6) = _
    after_results_simp
    rfl
  rw [h, asRow, W1_args m ρ c main_arg14 (by decide)]

theorem V2_v7 (j : Fin 768) : (V2 m ρ c main_v7 : FVec Ideal S1x768 .f32) (ix2 0 j) = (m ((c : Thread nD τ).loc main_arg15) : FVec Ideal S768 .f32) (ix1 j) := by
  have h : (V2 m ρ c main_v7 : FVec Ideal S1x768 .f32) = shapeCast S1x768 (W1 m ρ c (Proc.devRef .tc main_arg15) : FVec Ideal S768 .f32) shapeCasts_S768_S1x768 := by
    show StableHlo.after hostOps1 (W1 m ρ c) (Proc.devRef .tc main_v7) = _
    after_results_simp
    rfl
  rw [h, asRow, W1_args m ρ c main_arg15 (by decide)]

theorem V2_v8 (j : Fin 768) : (V2 m ρ c main_v8 : FVec Ideal S1x768 .f32) (ix2 0 j) = (m ((c : Thread nD τ).loc main_arg16) : FVec Ideal S768 .f32) (ix1 j) := by
  have h : (V2 m ρ c main_v8 : FVec Ideal S1x768 .f32) = shapeCast S1x768 (W1 m ρ c (Proc.devRef .tc main_arg16) : FVec Ideal S768 .f32) shapeCasts_S768_S1x768 := by
    show StableHlo.after hostOps1 (W1 m ρ c) (Proc.devRef .tc main_v8) = _
    after_results_simp
    rfl
  rw [h, asRow, W1_args m ρ c main_arg16 (by decide)]

theorem V2_v9 (j : Fin 256) : (V2 m ρ c main_v9 : FVec Ideal S1x256 .f32) (ix2 0 j) = (m ((c : Thread nD τ).loc main_arg18) : FVec Ideal S256 .f32) (ix1 j) := by
  have h : (V2 m ρ c main_v9 : FVec Ideal S1x256 .f32) = shapeCast S1x256 (W1 m ρ c (Proc.devRef .tc main_arg18) : FVec Ideal S256 .f32) shapeCasts_S256_S1x256 := by
    show StableHlo.after hostOps1 (W1 m ρ c) (Proc.devRef .tc main_v9) = _
    after_results_simp
    rfl
  rw [h, asRow, W1_args m ρ c main_arg18 (by decide)]

theorem V2_v10 (j : Fin 256) : (V2 m ρ c main_v10 : FVec Ideal S1x256 .f32) (ix2 0 j) = (m ((c : Thread nD τ).loc main_arg20) : FVec Ideal S256 .f32) (ix1 j) := by
  have h : (V2 m ρ c main_v10 : FVec Ideal S1x256 .f32) = shapeCast S1x256 (W1 m ρ c (Proc.devRef .tc main_arg20) : FVec Ideal S256 .f32) shapeCasts_S256_S1x256 := by
    show StableHlo.after hostOps1 (W1 m ρ c) (Proc.devRef .tc main_v10) = _
    after_results_simp
    rfl
  rw [h, asRow, W1_args m ρ c main_arg20 (by decide)]

theorem V2_v11 (j : Fin 3) : (V2 m ρ c main_v11 : FVec Ideal S1x3 .f32) (ix2 0 j) = (m ((c : Thread nD τ).loc main_arg22) : FVec Ideal S3 .f32) (ix1 j) := by
  have h : (V2 m ρ c main_v11 : FVec Ideal S1x3 .f32) = shapeCast S1x3 (W1 m ρ c (Proc.devRef .tc main_arg22) : FVec Ideal S3 .f32) shapeCasts_S3_S1x3 := by
    show StableHlo.after hostOps1 (W1 m ρ c) (Proc.devRef .tc main_v11) = _
    after_results_simp
    rfl
  rw [h, asRow, W1_args m ρ c main_arg22 (by decide)]

/-- The totals are the column sums of the weights. -/
theorem V2_v0 : (V2 m ρ c main_v0 : FVec Ideal S4x8x64 .f32) = Totals.totArr (V0 m ρ) c :=
  (W2_of m ρ c main_v0 (by decide)).trans ((W1_arr m ρ c 1).trans (Totals.final (V0 m ρ) c))

end Cert.KernelIdeal.Run

end
-- ==== Proof.Ends.lean ====
module

public import proofs.«01_k».proof.Proof.Entry

/-! # The kernel's results, as functions of the launch

The three arrays returned whole are the second call's; the two returned through the host are one of
the eight equal columns of the call's. -/

@[expose] public section

set_option maxRecDepth 16384

noncomputable section

namespace Cert.KernelIdeal.Run

open Idealize.ShloMosaic Idealize.ShloMosaic.TcCoe Idealize.ShloMosaic.StableHlo Idealize.SL.Sem Cert.KernelIdeal Cert.KernelIdeal.Gen
open Cert.Spec (IsR)

/-- One column of eight, as a matrix. -/
theorem colOf8 {α : Type} (x : S4x8192x8.Idx → α) (b : Fin 4) (n : Fin 8192) :
    shapeCast S4x8192 (extractStridedSlice S4x8192x1 ![0, 0, 0] x slices_S4x8192x8_S4x8192x1_0_0_0) shapeCasts_S4x8192x1_S4x8192 (ix2 b n)
      = x (ix3 b n 0) := by
  pointwise []

variable (m : (ℓ : Loc nD τ sig) → Buf (Elt Ideal) ℓ) (ρ : Dev nD → PrngReg) (c : Dev nD)

theorem end4 (b : Fin 4) (n : Fin 8192) : (W4 m ρ c (Proc.devRef .tc main_v16) : IVec S4x8192 32) (ix2 b n)
    = BitVec.ofNat 32 (Spec.top (Fused.wArr (V2 m ρ) c b n)) := by
  have h : (W4 m ρ c (Proc.devRef .tc main_v16) : IVec S4x8192 32)
      = shapeCast S4x8192 (extractStridedSlice S4x8192x1 ![0, 0, 0] (W3 m ρ c (Proc.devRef .tc main_v12_4) : IVec S4x8192x8 32) slices_S4x8192x8_S4x8192x1_0_0_0) shapeCasts_S4x8192x1_S4x8192 := by
    show StableHlo.after hostOps2 (W3 m ρ c) (Proc.devRef .tc main_v16) = _
    after_results_simp
    rfl
  have h' : (W3 m ρ c (Proc.devRef .tc main_v12_4) : IVec S4x8192x8 32) = Fused.idxArr (V2 m ρ) c :=
    (W3_arr m ρ c 26).trans (Fused.final26 (V2 m ρ) c)
  rw [h, colOf8, h']; rfl

theorem end3 (b : Fin 4) (n : Fin 8192) (k : Fin 64) : (W4 m ρ c (Proc.devRef .tc main_v12_3) : FVec Ideal S4x8192x64 .f32) (ix3 b n k)
    = Spec.use (Fused.wArr (V2 m ρ) c b n) k := by
  have h : (W4 m ρ c (Proc.devRef .tc main_v12_3) : FVec Ideal S4x8192x64 .f32) = Fused.useArr (V2 m ρ) c :=
    (W4_of m ρ c main_v12_3 (by decide)).trans ((W3_arr m ρ c 25).trans (Fused.final25 (V2 m ρ) c))
  rw [h]; rfl

/-- No router weight is minus infinity. -/
abbrev AboveMem : Prop := ∀ i, (m ((c : Thread nD τ).loc main_arg1) : FVec Ideal S4x8192x64 .f32) i ≠ (⊥ : EReal)

variable (hA : AboveMem m c)

include hA

theorem above2 : Fused.AboveArr (V2 m ρ) c := fun b n k => by
  rw [V2_arg m ρ c main_arg1 (by decide)]
  exact hA _

theorem totals_real (b : Fin 4) (k : Fin 64) : IsR ((V2 m ρ c main_v0 : FVec Ideal S4x8x64 .f32) (ix3 b 0 k)) := by
  rw [V2_v0]
  exact IsR.sum _ _ fun n => Spec.norm_real (fun k => hA _) k

theorem end0 (b : Fin 4) (n : Fin 8192) (i : Fin 3) : (W4 m ρ c (Proc.devRef .tc main_v12_0) : FVec Ideal S4x8192x3 .f32) (ix3 b n i)
    = (Fused.arrParams (V2 m ρ) c b).xhat (Fused.wArr (V2 m ρ) c b n) (Fused.pArr (V2 m ρ) c b n) i := by
  have h : (W4 m ρ c (Proc.devRef .tc main_v12_0) : FVec Ideal S4x8192x3 .f32) = Fused.xhatArr (V2 m ρ) c :=
    (W4_of m ρ c main_v12_0 (by decide)).trans ((W3_arr m ρ c 22).trans (Fused.final22 (V2 m ρ) c (above2 m ρ c hA) (totals_real m ρ c hA)))
  rw [h]; rfl

theorem end1 (b : Fin 4) (n : Fin 8192) (i : Fin 3) : (W4 m ρ c (Proc.devRef .tc main_v12_1) : FVec Ideal S4x8192x3 .f32) (ix3 b n i)
    = (Fused.arrParams (V2 m ρ) c b).xi (Fused.wArr (V2 m ρ) c b n) (Fused.pArr (V2 m ρ) c b n) i := by
  have h : (W4 m ρ c (Proc.devRef .tc main_v12_1) : FVec Ideal S4x8192x3 .f32) = Fused.xiArr (V2 m ρ) c :=
    (W4_of m ρ c main_v12_1 (by decide)).trans ((W3_arr m ρ c 23).trans (Fused.final23 (V2 m ρ) c (above2 m ρ c hA) (totals_real m ρ c hA)))
  rw [h]; rfl

theorem end2 (b : Fin 4) (n : Fin 8192) : (W4 m ρ c (Proc.devRef .tc main_v14) : FVec Ideal S4x8192 .f32) (ix2 b n) = Fused.pArr (V2 m ρ) c b n := by
  have h : (W4 m ρ c (Proc.devRef .tc main_v14) : FVec Ideal S4x8192 .f32)
      = shapeCast S4x8192 (extractStridedSlice S4x8192x1 ![0, 0, 0] (W3 m ρ c (Proc.devRef .tc main_v12_2) : FVec Ideal S4x8192x8 .f32) slices_S4x8192x8_S4x8192x1_0_0_0) shapeCasts_S4x8192x1_S4x8192 := by
    show StableHlo.after hostOps2 (W3 m ρ c) (Proc.devRef .tc main_v14) = _
    after_results_simp
    rfl
  have h' : (W3 m ρ c (Proc.devRef .tc main_v12_2) : FVec Ideal S4x8192x8 .f32) = Fused.posArr (V2 m ρ) c :=
    (W3_arr m ρ c 24).trans (Fused.final24 (V2 m ρ) c (above2 m ρ c hA))
  rw [h, colOf8, h']; rfl

end Cert.KernelIdeal.Run

end
-- ==== Proof.RefNet.lean ====
module

public import proofs.«01_k».proof.Proof.RefPos

/-! # The reference's networks, row by row -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

section Generic

variable {F : FTy → Type} [FloatOps F]

/-- Layer normalisation of the rows. -/
def lnOf (s : FVec F S4x8192x768 .f32) (g b : FVec F S768 .f32) : FVec F S4x8192x768 .f32 :=
  addf (mulf (Host.divf (subf s (broadcastInDim S4x8192x768 ![0, 1, 2] bcast_S4x8192x1_S4x8192x768_0_1_2 (Host.divf (broadcastInDim S4x8192x1 ![0, 1] bcast_S4x8192_S4x8192x1_0_1 (Host.reduceAdd s (constant S_ .f32 0x00000000#32) reducesTo_S4x8192x768_S4x8192_d2 h_S_)) (broadcastInDim S4x8192x1 ![] bcast_S_S4x8192x1 (constant S_ .f32 0x44400000#32))))) (broadcastInDim S4x8192x768 ![0, 1, 2] bcast_S4x8192x1_S4x8192x768_0_1_2 (Host.sqrt (addf (select (broadcastInDim S4x8192x1 ![] bcast_S_S4x8192x1 (cmpf .ogt (subf (constant (F := F) S_ .f32 0x44400000#32) (sitofp .f32 (constantI S_ 32 0#32))) (constant S_ .f32 0x00000000#32))) (Host.divf (broadcastInDim S4x8192x1 ![0, 1] bcast_S4x8192_S4x8192x1_0_1 (Host.reduceAdd (mulf (subf s (broadcastInDim S4x8192x768 ![0, 1, 2] bcast_S4x8192x1_S4x8192x768_0_1_2 (Host.divf (broadcastInDim S4x8192x1 ![0, 1] bcast_S4x8192_S4x8192x1_0_1 (Host.reduceAdd s (constant S_ .f32 0x00000000#32) reducesTo_S4x8192x768_S4x8192_d2 h_S_)) (broadcastInDim S4x8192x1 ![] bcast_S_S4x8192x1 (constant S_ .f32 0x44400000#32))))) (subf s (broadcastInDim S4x8192x768 ![0, 1, 2] bcast_S4x8192x1_S4x8192x768_0_1_2 (Host.divf (broadcastInDim S4x8192x1 ![0, 1] bcast_S4x8192_S4x8192x1_0_1 (Host.reduceAdd s (constant S_ .f32 0x00000000#32) reducesTo_S4x8192x768_S4x8192_d2 h_S_)) (broadcastInDim S4x8192x1 ![] bcast_S_S4x8192x1 (constant S_ .f32 0x44400000#32)))))) (constant S_ .f32 0x00000000#32) reducesTo_S4x8192x768_S4x8192_d2 h_S_)) (broadcastInDim S4x8192x1 ![] bcast_S_S4x8192x1 (subf (constant S_ .f32 0x44400000#32) (sitofp .f32 (constantI S_ 32 0#32))))) (broadcastInDim S4x8192x1 ![] bcast_S_S4x8192x1 (id (constant S_ .f32 0x7FC00000#32)))) (broadcastInDim S4x8192x1 ![] bcast_S_S4x8192x1 (constant S_ .f32 0x3727C5AC#32)))))) (broadcastInDim S4x8192x768 ![0, 1, 2] bcast_S1x1x768_S4x8192x768_0_1_2 (broadcastInDim S1x1x768 ![2] bcast_S768_S1x1x768_2 g))) (broadcastInDim S4x8192x768 ![0, 1, 2] bcast_S1x1x768_S4x8192x768_0_1_2 (broadcastInDim S1x1x768 ![2] bcast_S768_S1x1x768_2 b))

/-- The activation, at the wide layer. -/
def siluWide (x : FVec F S4x8192x768 .f32) : FVec F S4x8192x768 .f32 :=
  mulf x (Host.divf (broadcastInDim S4x8192x768 ![] bcast_S_S4x8192x768 (constant S_ .f32 0x3F800000#32)) (addf (broadcastInDim S4x8192x768 ![] bcast_S_S4x8192x768 (constant S_ .f32 0x3F800000#32)) (Host.exp (Host.negf x))))

/-- The activation, at the narrow layer. -/
def siluNarrow (x : FVec F S4x8192x256 .f32) : FVec F S4x8192x256 .f32 :=
  mulf x (Host.divf (broadcastInDim S4x8192x256 ![] bcast_S_S4x8192x256 (constant S_ .f32 0x3F800000#32)) (addf (broadcastInDim S4x8192x256 ![] bcast_S_S4x8192x256 (constant S_ .f32 0x3F800000#32)) (Host.exp (Host.negf x))))

/-- The parents' states plus the embedded features. -/
def stateOf (u : FVec F S4x8192x64 .f32) (sp : FVec F S4x64x768 .f32) (th : FVec F S4x8192x9 .f32) (W : FVec F S18x768 .f32) (b : FVec F S768 .f32)
    (m : FVec F S4x8192x1 .f32) : FVec F S4x8192x768 .f32 :=
  mulf (addf (Host.dotGeneral dot_S4x8192x64_S4x64x768_S4x8192x768_2_1_1_2_0_0 none u sp) (mulf (broadcastInDim S4x8192x768 ![] bcast_S_S4x8192x768 (constant S_ .f32 0x3F800000#32)) (mulf (addf (Host.dotGeneral dot_S4x8192x18_S18x768_S4x8192x768_2_0_01_1_n_n none (concatenate S4x8192x18 2 [⟨S4x8192x9, (Host.sin th)⟩, ⟨S4x8192x9, (Host.cos th)⟩] concatenates_S4x8192x9_S4x8192x9_S4x8192x18_d2) W) (broadcastInDim S4x8192x768 ![0, 1, 2] bcast_S1x1x768_S4x8192x768_0_1_2 (broadcastInDim S1x1x768 ![2] bcast_S768_S1x1x768_2 b))) (broadcastInDim S4x8192x768 ![0, 1, 2] bcast_S4x8192x1_S4x8192x768_0_1_2 m)))) (broadcastInDim S4x8192x768 ![0, 1, 2] bcast_S4x8192x1_S4x8192x768_0_1_2 m)

/-- An affine layer, wide to wide. -/
def wideOf (x : FVec F S4x8192x768 .f32) (W : FVec F S768x768 .f32) (b : FVec F S768 .f32) : FVec F S4x8192x768 .f32 :=
  addf (Host.dotGeneral dot_S4x8192x768_S768x768_S4x8192x768_2_0_01_1_n_n none x W) (broadcastInDim S4x8192x768 ![0, 1, 2] bcast_S1x1x768_S4x8192x768_0_1_2 (broadcastInDim S1x1x768 ![2] bcast_S768_S1x1x768_2 b))

/-- The mask of the wide layer. -/
def maskOf (x : FVec F S4x8192x768 .f32) (m : FVec F S4x8192x1 .f32) : FVec F S4x8192x768 .f32 :=
  mulf x (broadcastInDim S4x8192x768 ![0, 1, 2] bcast_S4x8192x1_S4x8192x768_0_1_2 m)

/-- An affine layer, wide to narrow. -/
def stepOf (x : FVec F S4x8192x768 .f32) (W : FVec F S768x256 .f32) (b : FVec F S256 .f32) : FVec F S4x8192x256 .f32 :=
  addf (Host.dotGeneral dot_S4x8192x768_S768x256_S4x8192x256_2_0_01_1_n_n none x W) (broadcastInDim S4x8192x256 ![0, 1, 2] bcast_S1x1x256_S4x8192x256_0_1_2 (broadcastInDim S1x1x256 ![2] bcast_S256_S1x1x256_2 b))

/-- An affine layer, narrow to narrow. -/
def narrowOf (x : FVec F S4x8192x256 .f32) (W : FVec F S256x256 .f32) (b : FVec F S256 .f32) : FVec F S4x8192x256 .f32 :=
  addf (Host.dotGeneral dot_S4x8192x256_S256x256_S4x8192x256_2_0_01_1_n_n none x W) (broadcastInDim S4x8192x256 ![0, 1, 2] bcast_S1x1x256_S4x8192x256_0_1_2 (broadcastInDim S1x1x256 ![2] bcast_S256_S1x1x256_2 b))

/-- The coordinates in the parents' frames. -/
def xiOf (x : FVec F S4x8192x256 .f32) (W : FVec F S256x3 .f32) (b : FVec F S3 .f32) (m : FVec F S4x8192x1 .f32) : FVec F S4x8192x3 .f32 :=
  mulf (Host.tanh (mulf (addf (Host.dotGeneral dot_S4x8192x256_S256x3_S4x8192x3_2_0_01_1_n_n none x W) (broadcastInDim S4x8192x3 ![0, 1, 2] bcast_S1x1x3_S4x8192x3_0_1_2 (broadcastInDim S1x1x3 ![2] bcast_S3_S1x1x3_2 b))) (broadcastInDim S4x8192x3 ![0, 1, 2] bcast_S4x8192x1_S4x8192x3_0_1_2 m))) (broadcastInDim S4x8192x3 ![] bcast_S_S4x8192x3 (constant S_ .f32 0x3FC00000#32))

theorem v54_eq (V0 : Valuation τ sig (Elt F)) : (res_main_v54 V0 : FVec F S4x8192x768 .f32)
    = stateOf (res_main_v18 V0) (V0 (Proc.devRef .tc main_arg0)) (res_main_v39 V0) (V0 (Proc.devRef .tc main_arg7)) (V0 (Proc.devRef .tc main_arg8)) (res_main_v0 V0) := by
  delta res_main_v54 stateOf
  rfl

theorem v76_eq (V0 : Valuation τ sig (Elt F)) : (res_main_v76 V0 : FVec F S4x8192x768 .f32)
    = wideOf (lnOf (res_main_v54 V0) (V0 (Proc.devRef .tc main_arg9)) (V0 (Proc.devRef .tc main_arg10))) (V0 (Proc.devRef .tc main_arg11)) (V0 (Proc.devRef .tc main_arg12)) := by
  delta res_main_v76 wideOf lnOf res_main_call5_v5 res_main_call5_v8
  rfl

theorem v89_eq (V0 : Valuation τ sig (Elt F)) : (res_main_v89 V0 : FVec F S4x8192x768 .f32)
    = maskOf (wideOf (siluWide (res_main_v76 V0)) (V0 (Proc.devRef .tc main_arg13)) (V0 (Proc.devRef .tc main_arg14))) (res_main_v0 V0) := by
  delta res_main_v89 maskOf wideOf siluWide
  rfl

theorem v111_eq (V0 : Valuation τ sig (Elt F)) : (res_main_v111 V0 : FVec F S4x8192x256 .f32)
    = stepOf (lnOf (res_main_v89 V0) (V0 (Proc.devRef .tc main_arg15)) (V0 (Proc.devRef .tc main_arg16))) (V0 (Proc.devRef .tc main_arg17)) (V0 (Proc.devRef .tc main_arg18)) := by
  delta res_main_v111 stepOf lnOf res_main_call6_v5 res_main_call6_v8
  rfl

theorem v122_eq (V0 : Valuation τ sig (Elt F)) : (res_main_v122 V0 : FVec F S4x8192x256 .f32)
    = narrowOf (siluNarrow (res_main_v111 V0)) (V0 (Proc.devRef .tc main_arg19)) (V0 (Proc.devRef .tc main_arg20)) := by
  delta res_main_v122 narrowOf siluNarrow
  rfl

theorem v138_eq (V0 : Valuation τ sig (Elt F)) : (res_main_v138 V0 : FVec F S4x8192x3 .f32)
    = xiOf (siluNarrow (res_main_v122 V0)) (V0 (Proc.devRef .tc main_arg21)) (V0 (Proc.devRef .tc main_arg22)) (res_main_v0 V0) := by
  delta res_main_v138 xiOf siluNarrow
  rfl

end Generic

/-- The rows of a wide array. -/
abbrev row {n : ℕ} (x : FVec Ideal ⟨3, ![4, 8192, n]⟩ .f32) (b : Fin 4) (r : Fin 8192) : Fin n → EReal := fun k => x (ix3 b r k)

/-- A vector's entries. -/
abbrev vec {n : ℕ} (x : FVec Ideal ⟨1, ![n]⟩ .f32) : Fin n → EReal := fun k => x (ix1 k)

/-- A matrix's entries. -/
abbrev mat {n m : ℕ} (x : FVec Ideal ⟨2, ![n, m]⟩ .f32) : Fin n → Fin m → EReal := fun i j => x (ix2 i j)

theorem count_pos : (0 : EReal) < Ideal.ofBits .f32 0x44400000#32 := by
  simp [Ideal.ofBits, Ideal.ieee]
  rw [← EReal.coe_mul]
  exact_mod_cast (by norm_num)

theorem lnOf_at (s : FVec Ideal S4x8192x768 .f32) (g b : FVec Ideal S768 .f32) (c : Fin 4) (n : Fin 8192) (j : Fin 768) :
    lnOf s g b (ix3 c n j) = Spec.ln (row s c n) (vec g) (vec b) j := by
  have e : FloatOps.sitofp (F := Ideal) .f32 (0#32 : BitVec 32) = (0 : EReal) := by
    show (((0#32).toInt : ℝ) : EReal) = 0
    simp
  pointwise [lnOf]
  rw [e, sub_zero, if_pos count_pos]
  rfl

theorem siluWide_at (x : FVec Ideal S4x8192x768 .f32) (c : Fin 4) (n : Fin 8192) (j : Fin 768) : siluWide x (ix3 c n j) = Spec.silu (row x c n) j := by
  pointwise [siluWide]
  rfl

theorem siluNarrow_at (x : FVec Ideal S4x8192x256 .f32) (c : Fin 4) (n : Fin 8192) (j : Fin 256) : siluNarrow x (ix3 c n j) = Spec.silu (row x c n) j := by
  pointwise [siluNarrow]
  rfl

theorem wideOf_at (x : FVec Ideal S4x8192x768 .f32) (W : FVec Ideal S768x768 .f32) (b : FVec Ideal S768 .f32) (c : Fin 4) (n : Fin 8192) (j : Fin 768) :
    wideOf x W b (ix3 c n j) = Spec.dense (row x c n) (mat W) (vec b) j := by
  pointwise [wideOf]
  rfl

theorem stepOf_at (x : FVec Ideal S4x8192x768 .f32) (W : FVec Ideal S768x256 .f32) (b : FVec Ideal S256 .f32) (c : Fin 4) (n : Fin 8192) (j : Fin 256) :
    stepOf x W b (ix3 c n j) = Spec.dense (row x c n) (mat W) (vec b) j := by
  pointwise [stepOf]
  rfl

theorem narrowOf_at (x : FVec Ideal S4x8192x256 .f32) (W : FVec Ideal S256x256 .f32) (b : FVec Ideal S256 .f32) (c : Fin 4) (n : Fin 8192) (j : Fin 256) :
    narrowOf x W b (ix3 c n j) = Spec.dense (row x c n) (mat W) (vec b) j := by
  pointwise [narrowOf]
  rfl

theorem maskOf_at (x : FVec Ideal S4x8192x768 .f32) (m : FVec Ideal S4x8192x1 .f32) (c : Fin 4) (n : Fin 8192) (hm : m (ix3 c n 0) = 1) (j : Fin 768) :
    maskOf x m (ix3 c n j) = x (ix3 c n j) := by
  pointwise [maskOf]
  rw [hm, mul_one]

theorem xiOf_at (x : FVec Ideal S4x8192x256 .f32) (W : FVec Ideal S256x3 .f32) (b : FVec Ideal S3 .f32) (m : FVec Ideal S4x8192x1 .f32) (c : Fin 4) (n : Fin 8192)
    (hm : m (ix3 c n 0) = 1) (d : Fin 3) : xiOf x W b m (ix3 c n d) = Spec.coords (row x c n) (mat W) (vec b) d := by
  pointwise [xiOf]
  rw [hm, mul_one]
  rfl

theorem stateOf_at (u : FVec Ideal S4x8192x64 .f32) (sp : FVec Ideal S4x64x768 .f32) (th : FVec Ideal S4x8192x9 .f32) (W : FVec Ideal S18x768 .f32) (b : FVec Ideal S768 .f32)
    (m : FVec Ideal S4x8192x1 .f32) (c : Fin 4) (n : Fin 8192) (hm : m (ix3 c n 0) = 1) (p : EReal) (hth : ∀ i : Fin 9, th (ix3 c n i) = Spec.ang p i) (j : Fin 768) :
    stateOf u sp th W b m (ix3 c n j) = Spec.state (row u c n) (Spec.feat p) (fun k j => sp (ix3 c k j)) (mat W) (vec b) j := by
  pointwise [stateOf]
  rw [hm, mul_one, mul_one]
  unfold Spec.state Spec.dense
  rw [Fin.sum_univ_add (a := 9) (b := 9)]
  refine congrArg₂ _ rfl (congrArg₂ _ (congrArg₂ _ (Finset.sum_congr rfl fun i _ => congrArg₂ _ ?_ rfl) (Finset.sum_congr rfl fun i _ => congrArg₂ _ ?_ rfl)) rfl)
  · rw [hth]
    exact (if_pos i.isLt).symm
  · rw [hth]
    refine ((if_neg (by simp)).trans ?_).symm
    exact congrArg (fun k => Ideal.cos (Spec.ang p k)) (by simp)

section Chain

variable {V0 : Valuation τ sig (Elt Ideal)} (U : Unmasked V0) (b : Fin 4) (n : Fin 8192)

include U

/-- The state's row. -/
theorem v54_at : row (res_main_v54 V0 : FVec Ideal S4x8192x768 .f32) b n
    = Spec.state (Spec.use (wrow V0 b n)) (Spec.feat (prow V0 b n)) (params V0 b).sp (params V0 b).Wpos (params V0 b).bpos := by
  funext j
  show (res_main_v54 V0 : FVec Ideal S4x8192x768 .f32) (ix3 b n j) = _
  rw [v54_eq]
  refine (stateOf_at _ _ _ _ _ _ b n (v0_at U b n) (prow V0 b n) (v39_at U b n) j).trans ?_
  exact congrArg (fun u => Spec.state u _ _ _ _ j) (funext fun k => v18_at U b n k)

theorem v76_at : row (res_main_v76 V0 : FVec Ideal S4x8192x768 .f32) b n
    = Spec.dense (Spec.ln (row (res_main_v54 V0 : FVec Ideal S4x8192x768 .f32) b n) (params V0 b).g1 (params V0 b).be1) (params V0 b).Wq1 (params V0 b).bq1 := by
  funext j
  show (res_main_v76 V0 : FVec Ideal S4x8192x768 .f32) (ix3 b n j) = _
  rw [v76_eq]
  refine (wideOf_at _ _ _ b n j).trans ?_
  exact congrArg (fun x => Spec.dense x _ _ j) (funext fun k => lnOf_at _ _ _ b n k)

/-- The query's row. -/
theorem v89_at : row (res_main_v89 V0 : FVec Ideal S4x8192x768 .f32) b n
    = Spec.query (row (res_main_v54 V0 : FVec Ideal S4x8192x768 .f32) b n) (params V0 b).g1 (params V0 b).be1 (params V0 b).Wq1 (params V0 b).bq1
        (params V0 b).Wq2 (params V0 b).bq2 := by
  funext j
  show (res_main_v89 V0 : FVec Ideal S4x8192x768 .f32) (ix3 b n j) = _
  rw [v89_eq]
  refine (maskOf_at _ _ b n (v0_at U b n) j).trans ((wideOf_at _ _ _ b n j).trans ?_)
  refine congrArg (fun x => Spec.dense x _ _ j) (funext fun k => (siluWide_at _ b n k).trans ?_)
  exact congrArg (fun x => Spec.silu x k) (v76_at U b n)

theorem v111_at : row (res_main_v111 V0 : FVec Ideal S4x8192x256 .f32) b n
    = Spec.dense (Spec.ln (row (res_main_v89 V0 : FVec Ideal S4x8192x768 .f32) b n) (params V0 b).g2 (params V0 b).be2) (params V0 b).Wm1 (params V0 b).bm1 := by
  funext j
  show (res_main_v111 V0 : FVec Ideal S4x8192x256 .f32) (ix3 b n j) = _
  rw [v111_eq]
  refine (stepOf_at _ _ _ b n j).trans ?_
  exact congrArg (fun x => Spec.dense x _ _ j) (funext fun k => lnOf_at _ _ _ b n k)

theorem v122_at : row (res_main_v122 V0 : FVec Ideal S4x8192x256 .f32) b n
    = Spec.dense (Spec.silu (row (res_main_v111 V0 : FVec Ideal S4x8192x256 .f32) b n)) (params V0 b).Wm2 (params V0 b).bm2 := by
  funext j
  show (res_main_v122 V0 : FVec Ideal S4x8192x256 .f32) (ix3 b n j) = _
  rw [v122_eq]
  refine (narrowOf_at _ _ _ b n j).trans ?_
  exact congrArg (fun x => Spec.dense x _ _ j) (funext fun k => siluNarrow_at _ b n k)

/-- The reference's coordinates in the parents' frames. -/
theorem v138_at (d : Fin 3) : (res_main_v138 V0 : FVec Ideal S4x8192x3 .f32) (ix3 b n d) = (params V0 b).xi (wrow V0 b n) (prow V0 b n) d := by
  rw [v138_eq]
  refine (xiOf_at _ _ _ _ b n (v0_at U b n) d).trans ?_
  refine congrArg (fun x => Spec.coords x _ _ d) (funext fun k => (siluNarrow_at _ b n k).trans ?_)
  rw [v122_at U, v111_at U, v89_at U, v54_at U]
  rfl

end Chain

end Cert.ReferenceIdeal.Value

end
-- ==== Proof.RefDec.lean ====
module

public import proofs.«01_k».proof.Proof.RefNet

/-! # The reference's coordinates in the world frame

The reference takes the chosen parent's frame by a gather at the pair of a row's batch and its greatest
parent. Both are in bounds, so the wraps and clamps about them do nothing. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The chosen parents, clamped to the table. -/
def clampOf (top : IVec S4x8192 32) : IVec S4x8192 32 :=
  minsi (broadcastInDim S4x8192 ![] bcast_S_S4x8192 (id (constantI S_ 32 63#32))) (maxsi (broadcastInDim S4x8192 ![] bcast_S_S4x8192 (id (constantI S_ 32 0#32))) top)

/-- The batch numbers. -/
def batchOf : IVec S4x1 32 :=
  broadcastInDim S4x1 ![0] bcast_S4_S4x1_0 (iotaInDim S4 32 0)

/-- The pairs of a batch and a parent, negative ones wrapped. -/
def pairsOf (v142 : IVec S4x1 32) (v140 : IVec S4x8192 32) : IVec S4x8192x2 32 :=
  concatenate S4x8192x2 2 [⟨S4x8192x1, (broadcastInDim S4x8192x1 ![0, 1] bcast_S4x8192_S4x8192x1_0_1 (broadcastInDim S4x8192 ![0, 1] bcast_S4x1_S4x8192_0_1 (select (cmpi .slt v142 (broadcastInDim S4x1 ![] bcast_S_S4x1 (constantI S_ 32 0#32))) (addi v142 (broadcastInDim S4x1 ![] bcast_S_S4x1 (constantI S_ 32 4#32))) v142)))⟩, ⟨S4x8192x1, (broadcastInDim S4x8192x1 ![0, 1] bcast_S4x8192_S4x8192x1_0_1 (select (cmpi .slt v140 (broadcastInDim S4x8192 ![] bcast_S_S4x8192 (constantI S_ 32 0#32))) (addi v140 (broadcastInDim S4x8192 ![] bcast_S_S4x8192 (constantI S_ 32 64#32))) v140))⟩] concatenates_S4x8192x1_S4x8192x1_S4x8192x2_d2

section Generic

variable {F : FTy → Type} [FloatOps F]

/-- The parents' frames at the pairs. -/
def framesOf (a5 : FVec F S4x64x3x3 .f32) (ix : IVec S4x8192x2 32) : FVec F S4x8192x3x3 .f32 :=
  Host.gather gather_S4x64x3x3_S4x8192x2_S4x8192x3x3_23_01_n_n_01_2_1133 a5 ix

/-- The coordinates in the world frame. -/
def worldOf (v18 : FVec F S4x8192x64 .f32) (a4 : FVec F S4x64x3 .f32) (R : FVec F S4x8192x3x3 .f32) (xi : FVec F S4x8192x3 .f32) (a6 : FVec F S4x64x3 .f32)
    (v0 : FVec F S4x8192x1 .f32) : FVec F S4x8192x3 .f32 :=
  mulf (mulf (addf (Host.dotGeneral dot_S4x8192x64_S4x64x3_S4x8192x3_2_1_1_2_0_0 none v18 a4) (Host.dotGeneral dot_S4x8192x3x3_S4x8192x3_S4x8192x3_3_2_2_n_01_01 none R (mulf xi (maximumf (broadcastInDim S4x8192x3 ![] bcast_S_S4x8192x3 (id (constant S_ .f32 0x358637BD#32))) (Host.dotGeneral dot_S4x8192x64_S4x64x3_S4x8192x3_2_1_1_2_0_0 none v18 (maximumf (broadcastInDim S4x64x3 ![] bcast_S_S4x64x3 (id (constant S_ .f32 0x322BCC77#32))) a6)))))) (broadcastInDim S4x8192x3 ![0, 1, 2] bcast_S4x8192x1_S4x8192x3_0_1_2 v0)) (broadcastInDim S4x8192x3 ![] bcast_S_S4x8192x3 (constant S_ .f32 0x41200000#32))

theorem v167_eq (V0 : Valuation τ sig (Elt F)) : (res_main_v167 V0 : FVec F S4x8192x3 .f32)
    = worldOf (res_main_v18 V0) (V0 (Proc.devRef .tc main_arg4)) (framesOf (V0 (Proc.devRef .tc main_arg5)) (pairsOf batchOf (clampOf (res_main_v13 V0))))
        (res_main_v138 V0) (V0 (Proc.devRef .tc main_arg6)) (res_main_v0 V0) := by
  delta res_main_v167 res_main_v140 res_main_v142 worldOf framesOf pairsOf batchOf clampOf
  rfl

end Generic

theorem clampOf_at (t : IVec S4x8192 32) (b : Fin 4) (n : Fin 8192) (p : Fin 64) (h : t (ix2 b n) = BitVec.ofNat 32 p) : clampOf t (ix2 b n) = BitVec.ofNat 32 p := by
  pointwise [clampOf]
  rw [h]
  clear h
  revert p
  decide +kernel

theorem batchOf_at (b : Fin 4) : batchOf (ix2 b 0) = BitVec.ofNat 32 b := by
  pointwise [batchOf]

theorem pairsOf_at (u : IVec S4x1 32) (v : IVec S4x8192 32) (b : Fin 4) (n : Fin 8192) (p : Fin 64) (hu : u (ix2 b 0) = BitVec.ofNat 32 b)
    (hv : v (ix2 b n) = BitVec.ofNat 32 p) : pairsOf u v (ix3 b n 0) = BitVec.ofNat 32 b ∧ pairsOf u v (ix3 b n 1) = BitVec.ofNat 32 p := by
  constructor
  · pointwise [pairsOf]
    rw [hu]
    clear hu hv
    revert b
    decide +kernel
  · pointwise [pairsOf]
    rw [hv]
    clear hu hv
    revert p
    decide +kernel

/-- The gather's dimension numbers. -/
abbrev gth := gather_S4x64x3x3_S4x8192x2_S4x8192x3x3_23_01_n_n_01_2_1133

theorem framesOf_at (R : FVec Ideal S4x64x3x3 .f32) (ix : IVec S4x8192x2 32) (b : Fin 4) (n : Fin 8192) (p : Fin 64) (h0 : ix (ix3 b n 0) = BitVec.ofNat 32 b)
    (h1 : ix (ix3 b n 1) = BitVec.ofNat 32 p) (i d : Fin 3) : framesOf R ix (ix4 b n i d) = R (ix4 b p i d) := by
  have hs0 : gth.siIdx (ix4 b n i d) ⟨0, by decide⟩ = ix3 b n 0 := by
    funext a
    refine Fin.ext ?_
    match a with
    | ⟨0, _⟩ => rfl
    | ⟨1, _⟩ => rfl
    | ⟨2, _⟩ => rfl
  have hs1 : gth.siIdx (ix4 b n i d) ⟨1, by decide⟩ = ix3 b n 1 := by
    funext a
    refine Fin.ext ?_
    match a with
    | ⟨0, _⟩ => rfl
    | ⟨1, _⟩ => rfl
    | ⟨2, _⟩ => rfl
  refine congrArg R (funext fun a => Fin.ext ?_)
  show gth.start (ix4 b n i d) ix a + gth.batchCoord (ix4 b n i d) a + gth.offCoord (ix4 b n i d) a = _
  rw [GatherDims.batchCoord_eq_zero _ _ _ List.not_mem_nil]
  match a with
  | ⟨0, _⟩ =>
    show min (ix (gth.siIdx (ix4 b n i d) ⟨0, _⟩)).toInt.toNat 3 + 0 + 0 = (b : ℕ)
    rw [hs0, h0]
    clear hs0 hs1 h0 h1
    revert b
    decide +kernel
  | ⟨1, _⟩ =>
    show min (ix (gth.siIdx (ix4 b n i d) ⟨1, _⟩)).toInt.toNat 63 + 0 + 0 = (p : ℕ)
    rw [hs1, h1]
    clear hs0 hs1 h0 h1
    revert p
    decide +kernel
  | ⟨2, _⟩ =>
    show 0 + 0 + (i : ℕ) = i
    omega
  | ⟨3, _⟩ =>
    show 0 + 0 + (d : ℕ) = d
    omega

theorem worldOf_at (u : FVec Ideal S4x8192x64 .f32) (mu : FVec Ideal S4x64x3 .f32) (R : FVec Ideal S4x8192x3x3 .f32) (xi : FVec Ideal S4x8192x3 .f32)
    (sk : FVec Ideal S4x64x3 .f32) (m : FVec Ideal S4x8192x1 .f32) (b : Fin 4) (n : Fin 8192) (hm : m (ix3 b n 0) = 1) (i : Fin 3) :
    worldOf u mu R xi sk m (ix3 b n i)
      = ((∑ k, u (ix3 b n k) * mu (ix3 b k i)) + ∑ d, R (ix4 b n i d) * (xi (ix3 b n d) * Spec.scale (row u b n) (fun k d => sk (ix3 b k d)) d))
          * Ideal.ofBits .f32 0x41200000#32 := by
  pointwise [worldOf]
  rw [hm, mul_one]
  rfl

section Chain

variable {V0 : Valuation τ sig (Elt Ideal)} (U : Unmasked V0) (b : Fin 4) (n : Fin 8192)

include U

/-- The reference's coordinates in the world frame. -/
theorem v167_at (i : Fin 3) : (res_main_v167 V0 : FVec Ideal S4x8192x3 .f32) (ix3 b n i) = (params V0 b).xhat (wrow V0 b n) (prow V0 b n) i := by
  have hp := pairsOf_at batchOf (clampOf (res_main_v13 V0)) b n (Spec.top (wrow V0 b n)) (batchOf_at b) (clampOf_at _ b n _ (v13_at U b n))
  rw [v167_eq]
  refine (worldOf_at _ _ _ _ _ _ b n (v0_at U b n) i).trans ?_
  have hu : row (res_main_v18 V0 : FVec Ideal S4x8192x64 .f32) b n = Spec.use (wrow V0 b n) := funext fun k => v18_at U b n k
  rw [hu]
  refine congrArg (· * Ideal.ofBits .f32 0x41200000#32) (congrArg₂ (· + ·) (Finset.sum_congr rfl fun k _ => congrArg (· * _) (v18_at U b n k))
    (Finset.sum_congr rfl fun d _ => congrArg₂ (· * ·) (framesOf_at _ _ b n _ hp.1 hp.2 i d) (congrArg (· * _) (v138_at U b n d))))

end Chain

end Cert.ReferenceIdeal.Value

end
-- ==== Proof.Agree.lean ====
module

public import proofs.«01_k».proof.Proof.Ends
public import proofs.«01_k».proof.Proof.RefDec
public import proofs.«01_k».proof.Proof.RefRun

/-! # The two programs' results agree

Launched on equal arguments, with masks of ones and no weight at minus infinity, each of the kernel's
results is the row function the reference's result is. -/

@[expose] public section

set_option maxRecDepth 16384

noncomputable section

namespace Cert.KernelIdeal.Run

open Idealize.ShloMosaic Idealize.ShloMosaic.TcCoe Idealize.ShloMosaic.StableHlo Idealize.SL.Sem Cert.KernelIdeal Cert.KernelIdeal.Gen
open Cert.ReferenceIdeal.Value (Unmasked wrow prow params res_main_v13 res_main_v18 res_main_v29 res_main_v138 res_main_v167)

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The two launches hold the same arguments. -/
def SameArgs : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

/-- The masks are all ones. -/
structure OnesMem : Prop where
  parent : ∀ i, (m ((c : Thread nD τ).loc main_arg2) : FVec Ideal S4x64 .f32) i = (1 : EReal)
  node : ∀ i, (m ((c : Thread nD τ).loc main_arg3) : FVec Ideal S4x8192 .f32) i = (1 : EReal)

/-- Matrices equal at every pair of coordinates. -/
theorem ext2 {α : Type} {p q : ℕ} {x y : (⟨2, ![p, q]⟩ : Shape).Idx → α} (h : ∀ b n, x (ix2 b n) = y (ix2 b n)) : x = y := by
  funext i
  rw [eq_ix2 i]
  exact h _ _

/-- Stacks of matrices equal at every triple of coordinates. -/
theorem ext3 {α : Type} {p q r : ℕ} {x y : (⟨3, ![p, q, r]⟩ : Shape).Idx → α} (h : ∀ b n d, x (ix3 b n d) = y (ix3 b n d)) : x = y := by
  funext i
  rw [eq_ix3 i]
  exact h _ _ _

variable (hS : SameArgs m m' c)

include hS

theorem unmasked (hO : OnesMem m c) : Unmasked (launchContents m' c) := by
  obtain ⟨h0, h1, h2, h3, h4, h5, h6, h7, h8, h9, h10, h11, h12, h13, h14, h15, h16, h17, h18, h19, h20, h21, h22⟩ := hS
  exact ⟨fun b k => (congrFun h2 (ix2 b k)).trans (hO.parent _), fun b n => (congrFun h3 (ix2 b n)).trans (hO.node _)⟩

theorem params_same (b : Fin 4) : Fused.arrParams (V2 m ρ) c b = params (launchContents m' c) b := by
  obtain ⟨h0, h1, h2, h3, h4, h5, h6, h7, h8, h9, h10, h11, h12, h13, h14, h15, h16, h17, h18, h19, h20, h21, h22⟩ := hS
  unfold Fused.arrParams params
  rw [Spec.Params.mk.injEq]
  exact ⟨funext fun i => funext fun j => (congrFun (V2_arg m ρ c main_arg0 (by decide)) (ix3 b i j)).trans (congrFun h0 (ix3 b i j)).symm,
    funext fun i => funext fun j => (congrFun (V2_arg m ρ c main_arg4 (by decide)) (ix3 b i j)).trans (congrFun h4 (ix3 b i j)).symm,
    funext fun k => funext fun i => funext fun d => (V2_v1 m ρ c b k i d).trans (congrFun h5 (ix4 b k i d)).symm,
    funext fun i => funext fun j => (congrFun (V2_arg m ρ c main_arg6 (by decide)) (ix3 b i j)).trans (congrFun h6 (ix3 b i j)).symm,
    funext fun i => funext fun j => (congrFun (V2_arg m ρ c main_arg7 (by decide)) (ix2 i j)).trans (congrFun h7 (ix2 i j)).symm,
    funext fun j => (V2_v2 m ρ c j).trans (congrFun h8 (ix1 j)).symm,
    funext fun j => (V2_v3 m ρ c j).trans (congrFun h9 (ix1 j)).symm,
    funext fun j => (V2_v4 m ρ c j).trans (congrFun h10 (ix1 j)).symm,
    funext fun i => funext fun j => (congrFun (V2_arg m ρ c main_arg11 (by decide)) (ix2 i j)).trans (congrFun h11 (ix2 i j)).symm,
    funext fun j => (V2_v5 m ρ c j).trans (congrFun h12 (ix1 j)).symm,
    funext fun i => funext fun j => (congrFun (V2_arg m ρ c main_arg13 (by decide)) (ix2 i j)).trans (congrFun h13 (ix2 i j)).symm,
    funext fun j => (V2_v6 m ρ c j).trans (congrFun h14 (ix1 j)).symm,
    funext fun j => (V2_v7 m ρ c j).trans (congrFun h15 (ix1 j)).symm,
    funext fun j => (V2_v8 m ρ c j).trans (congrFun h16 (ix1 j)).symm,
    funext fun i => funext fun j => (congrFun (V2_arg m ρ c main_arg17 (by decide)) (ix2 i j)).trans (congrFun h17 (ix2 i j)).symm,
    funext fun j => (V2_v9 m ρ c j).trans (congrFun h18 (ix1 j)).symm,
    funext fun i => funext fun j => (congrFun (V2_arg m ρ c main_arg19 (by decide)) (ix2 i j)).trans (congrFun h19 (ix2 i j)).symm,
    funext fun j => (V2_v10 m ρ c j).trans (congrFun h20 (ix1 j)).symm,
    funext fun i => funext fun j => (congrFun (V2_arg m ρ c main_arg21 (by decide)) (ix2 i j)).trans (congrFun h21 (ix2 i j)).symm,
    funext fun j => (V2_v11 m ρ c j).trans (congrFun h22 (ix1 j)).symm⟩

theorem row_same (b : Fin 4) (n : Fin 8192) : Fused.wArr (V2 m ρ) c b n = wrow (launchContents m' c) b n := by
  obtain ⟨h0, h1, h2, h3, h4, h5, h6, h7, h8, h9, h10, h11, h12, h13, h14, h15, h16, h17, h18, h19, h20, h21, h22⟩ := hS
  exact congrArg Spec.norm (funext fun k => (congrFun (V2_arg m ρ c main_arg1 (by decide)) (ix3 b n k)).trans (congrFun h1 (ix3 b n k)).symm)

theorem totals_same (b : Fin 4) (k : Fin 64) : (V2 m ρ c main_v0 : FVec Ideal S4x8x64 .f32) (ix3 b 0 k) = (∑ x : Fin 8192, wrow (launchContents m' c) b x k : EReal) := by
  obtain ⟨h0, h1, h2, h3, h4, h5, h6, h7, h8, h9, h10, h11, h12, h13, h14, h15, h16, h17, h18, h19, h20, h21, h22⟩ := hS
  refine (congrFun (V2_v0 m ρ c) (ix3 b 0 k)).trans ?_
  show (∑ n : Fin 8192, Totals.wArr (V0 m ρ) c b n k : EReal) = ∑ x : Fin 8192, wrow (launchContents m' c) b x k
  exact Finset.sum_congr rfl fun n _ => congrFun (congrArg Spec.norm (funext fun k => (congrFun h1 (ix3 b n k)).symm)) k

theorem place_same (b : Fin 4) (n : Fin 8192) : Fused.pArr (V2 m ρ) c b n = prow (launchContents m' c) b n := by
  have hw : Fused.wArr (V2 m ρ) c b = wrow (launchContents m' c) b := funext fun n => row_same m ρ m' c hS b n
  unfold Fused.pArr prow
  rw [hw]
  exact congrArg _ (funext fun k => totals_same m ρ m' c hS b k)

variable (hA : AboveMem m c) (h1 : OnesMem m c)

include hA h1

theorem result0 : (res_main_v167 (launchContents m' c) : FVec Ideal S4x8192x3 .f32) = (W4 m ρ c (Proc.devRef .tc main_v12_0) : FVec Ideal S4x8192x3 .f32) := by
  refine ext3 fun b n d => ?_
  refine (Cert.ReferenceIdeal.Value.v167_at (unmasked m m' c hS h1) b n d).trans (Eq.trans ?_ (end0 m ρ c hA b n d).symm)
  rw [params_same m ρ m' c hS, row_same m ρ m' c hS, place_same m ρ m' c hS]

theorem result1 : (res_main_v138 (launchContents m' c) : FVec Ideal S4x8192x3 .f32) = (W4 m ρ c (Proc.devRef .tc main_v12_1) : FVec Ideal S4x8192x3 .f32) := by
  refine ext3 fun b n d => ?_
  refine (Cert.ReferenceIdeal.Value.v138_at (unmasked m m' c hS h1) b n d).trans (Eq.trans ?_ (end1 m ρ c hA b n d).symm)
  rw [params_same m ρ m' c hS, row_same m ρ m' c hS, place_same m ρ m' c hS]

theorem result2 : (res_main_v29 (launchContents m' c) : FVec Ideal S4x8192 .f32) = (W4 m ρ c (Proc.devRef .tc main_v14) : FVec Ideal S4x8192 .f32) := by
  refine ext2 fun b n => ?_
  refine (Cert.ReferenceIdeal.Value.v29_at (unmasked m m' c hS h1) b n).trans (Eq.trans ?_ (end2 m ρ c hA b n).symm)
  rw [place_same m ρ m' c hS]

theorem result3 : (res_main_v18 (launchContents m' c) : FVec Ideal S4x8192x64 .f32) = (W4 m ρ c (Proc.devRef .tc main_v12_3) : FVec Ideal S4x8192x64 .f32) := by
  refine ext3 fun b n d => ?_
  refine (Cert.ReferenceIdeal.Value.v18_at (unmasked m m' c hS h1) b n d).trans (Eq.trans ?_ (end3 m ρ c b n d).symm)
  rw [row_same m ρ m' c hS]

theorem result4 : (res_main_v13 (launchContents m' c) : IVec S4x8192 32) = (W4 m ρ c (Proc.devRef .tc main_v16) : IVec S4x8192 32) := by
  refine ext2 fun b n => ?_
  refine (Cert.ReferenceIdeal.Value.v13_at (unmasked m m' c hS h1) b n).trans (Eq.trans ?_ (end4 m ρ c b n).symm)
  rw [row_same m ρ m' c hS]

end Cert.KernelIdeal.Run

end
-- ==== Proof.Masks.lean ====
module

public import proofs.«01_k».proof.Proof.Spec
public import proofs.«01_k».proof.Defs
public import Idealize.ShloMosaic.Lib.ReduceAll

/-! # What the precondition says

The masks are all ones, and no router weight is minus infinity. -/

@[expose] public section

set_option maxRecDepth 16384

noncomputable section

namespace Cert.Proof

open Idealize.ShloMosaic Idealize.ShloMosaic.TcCoe Idealize.SL.Sem

/-- The precondition's shapes. -/
theorem preFacts : Cert.Pre_unmasked_weights.Facts where
  bcast_S_S4x64 := by decide
  reducesTo_S4x64_S_d0_1 := by decide
  h_S_ := by decide
  bcast_S_S4x8192 := by decide
  reducesTo_S4x8192_S_d0_1 := by decide
  bcast_S_S4x8192x64 := by decide
  reducesTo_S4x8192x64_S_d0_1_2 := by decide

local instance : Cert.Pre_unmasked_weights.Facts := preFacts

theorem ofBits_one : Ideal.ofBits .f32 0x3F800000#32 = 1 := by
  simp [Ideal.ofBits, Ideal.ieee]
  norm_num [← EReal.coe_mul]

/-- A comparison for equality that holds. -/
theorem eq_of_cmp {x y : EReal} (h : Ideal.cmp .oeq x y = 1#1) : x = y := by
  by_contra hn
  simp [Ideal.cmp, hn] at h

/-- A comparison for greater that holds. -/
theorem lt_of_cmp {x y : EReal} (h : Ideal.cmp .ogt x y = 1#1) : y < x := by
  by_contra hn
  simp [Ideal.cmp, hn] at h

instance : Subsingleton Cert.Pre_unmasked_weights.S_.Idx := ⟨fun a b => funext fun i => i.elim0⟩

theorem pre_read (m : (ℓ : Loc Cert.KernelIdeal.nD Cert.KernelIdeal.τ Cert.KernelIdeal.sig) → Buf (Elt Ideal) ℓ)
    (h : Cert.Pre_KernelIdeal_unmasked_weights m) (c : Dev Cert.KernelIdeal.nD) :
    (∀ i, (m ((c.tc : Thread Cert.KernelIdeal.nD Cert.KernelIdeal.τ).loc Cert.KernelIdeal.main_arg2) : FVec Ideal Cert.KernelIdeal.S4x64 .f32) i = (1 : EReal))
    ∧ (∀ i, (m ((c.tc : Thread Cert.KernelIdeal.nD Cert.KernelIdeal.τ).loc Cert.KernelIdeal.main_arg3) : FVec Ideal Cert.KernelIdeal.S4x8192 .f32) i = (1 : EReal))
    ∧ (∀ i, (m ((c.tc : Thread Cert.KernelIdeal.nD Cert.KernelIdeal.τ).loc Cert.KernelIdeal.main_arg1) : FVec Ideal Cert.KernelIdeal.S4x8192x64 .f32) i ≠ (⊥ : EReal)) := by
  have h0 := congrFun (h c) ix0
  unfold Cert.Pre_unmasked_weights.fn at h0
  obtain ⟨hAB, hC⟩ := IntOp.andi_eq_one.1 h0
  obtain ⟨hA, hB⟩ := IntOp.andi_eq_one.1 hAB
  refine ⟨fun i => ?_, fun i => ?_, fun i => ?_⟩
  · exact (eq_of_cmp (Host.reduce_andi_all _ _ _ _ _ hA i)).trans ofBits_one
  · exact (eq_of_cmp (Host.reduce_andi_all _ _ _ _ _ hB i)).trans ofBits_one
  · have := lt_of_cmp (Host.reduce_andi_all _ _ _ _ _ hC i)
    exact (lt_of_le_of_lt bot_le this).ne'

end Cert.Proof

end
-- ==== Proof.lean ====
/- The proof of the certificate's claim. -/
module

public import proofs.«01_k».proof.Proof.Frames
public import proofs.«01_k».proof.Proof.Agree
public import proofs.«01_k».proof.Proof.Masks

@[expose] public section

noncomputable section

namespace Cert.Proof

open Idealize.ShloMosaic Idealize.SL.Sem

attribute [local instance] Cert.Kernel.Gen.facts Cert.KernelIdeal.Gen.facts Cert.ReferenceIdeal.Gen.facts preFacts

open Cert.KernelIdeal.Run (W4 W4_args mem_uc OnesMem SameArgs)

/-- The idealized kernel and the reference leave equal results. -/
theorem algebraic : Cert.algebraic_KernelIdeal_ReferenceIdeal_pre_unmasked_weights := by
  intro m g m' g' hp hs
  have hA := fun c => (pre_read m hp c).2.2
  have h1 : ∀ c, OnesMem m c := fun c => ⟨(pre_read m hp c).1, (pre_read m hp c).2.1⟩
  have hS : ∀ c, SameArgs m m' c := hs
  refine ⟨fun c => W4 m g c (Proc.devRef .tc Cert.KernelIdeal.main_v12_0), fun c => W4 m g c (Proc.devRef .tc Cert.KernelIdeal.main_v12_1),
    fun c => W4 m g c (Proc.devRef .tc Cert.KernelIdeal.main_v14), fun c => W4 m g c (Proc.devRef .tc Cert.KernelIdeal.main_v12_3),
    fun c => W4 m g c (Proc.devRef .tc Cert.KernelIdeal.main_v16), ?_, ?_⟩
  · refine θ_run_mono (Cert.KernelIdeal.Run.run m g) fun r h c => ?_
    have a : ∀ a ∈ Cert.KernelIdeal.Run.argRefs, r.2.mem ((c.tc : Thread Cert.KernelIdeal.nD Cert.KernelIdeal.τ).loc a) = m ((c.tc : Thread Cert.KernelIdeal.nD Cert.KernelIdeal.τ).loc a) :=
      fun a ha => (h.1 c _ (mem_uc a (by revert a; decide))).trans (W4_args m g c a ha)
    exact ⟨h.1 c _ (mem_uc Cert.KernelIdeal.main_v12_0 (by decide)), h.1 c _ (mem_uc Cert.KernelIdeal.main_v12_1 (by decide)), h.1 c _ (mem_uc Cert.KernelIdeal.main_v14 (by decide)),
      h.1 c _ (mem_uc Cert.KernelIdeal.main_v12_3 (by decide)), h.1 c _ (mem_uc Cert.KernelIdeal.main_v16 (by decide)),
      a Cert.KernelIdeal.main_arg0 (by decide), a Cert.KernelIdeal.main_arg1 (by decide), a Cert.KernelIdeal.main_arg2 (by decide), a Cert.KernelIdeal.main_arg3 (by decide), a Cert.KernelIdeal.main_arg4 (by decide), a Cert.KernelIdeal.main_arg5 (by decide), a Cert.KernelIdeal.main_arg6 (by decide), a Cert.KernelIdeal.main_arg7 (by decide), a Cert.KernelIdeal.main_arg8 (by decide), a Cert.KernelIdeal.main_arg9 (by decide), a Cert.KernelIdeal.main_arg10 (by decide), a Cert.KernelIdeal.main_arg11 (by decide), a Cert.KernelIdeal.main_arg12 (by decide), a Cert.KernelIdeal.main_arg13 (by decide), a Cert.KernelIdeal.main_arg14 (by decide), a Cert.KernelIdeal.main_arg15 (by decide), a Cert.KernelIdeal.main_arg16 (by decide), a Cert.KernelIdeal.main_arg17 (by decide), a Cert.KernelIdeal.main_arg18 (by decide), a Cert.KernelIdeal.main_arg19 (by decide), a Cert.KernelIdeal.main_arg20 (by decide), a Cert.KernelIdeal.main_arg21 (by decide), a Cert.KernelIdeal.main_arg22 (by decide)⟩
  · refine θ_run_mono (Cert.ReferenceIdeal.Value.run m' g') fun r h c => ?_
    obtain ⟨r0, r1, r2, r3, r4, a⟩ := h c
    exact ⟨r0.trans (Cert.KernelIdeal.Run.result0 m g m' c (hS c) (hA c) (h1 c)), r1.trans (Cert.KernelIdeal.Run.result1 m g m' c (hS c) (hA c) (h1 c)),
      r2.trans (Cert.KernelIdeal.Run.result2 m g m' c (hS c) (hA c) (h1 c)), r3.trans (Cert.KernelIdeal.Run.result3 m g m' c (hS c) (hA c) (h1 c)),
      r4.trans (Cert.KernelIdeal.Run.result4 m g m' c (hS c) (hA c) (h1 c)),
      a Cert.ReferenceIdeal.main_arg0 (by decide), a Cert.ReferenceIdeal.main_arg1 (by decide), a Cert.ReferenceIdeal.main_arg2 (by decide), a Cert.ReferenceIdeal.main_arg3 (by decide), a Cert.ReferenceIdeal.main_arg4 (by decide), a Cert.ReferenceIdeal.main_arg5 (by decide), a Cert.ReferenceIdeal.main_arg6 (by decide), a Cert.ReferenceIdeal.main_arg7 (by decide), a Cert.ReferenceIdeal.main_arg8 (by decide), a Cert.ReferenceIdeal.main_arg9 (by decide), a Cert.ReferenceIdeal.main_arg10 (by decide), a Cert.ReferenceIdeal.main_arg11 (by decide), a Cert.ReferenceIdeal.main_arg12 (by decide), a Cert.ReferenceIdeal.main_arg13 (by decide), a Cert.ReferenceIdeal.main_arg14 (by decide), a Cert.ReferenceIdeal.main_arg15 (by decide), a Cert.ReferenceIdeal.main_arg16 (by decide), a Cert.ReferenceIdeal.main_arg17 (by decide), a Cert.ReferenceIdeal.main_arg18 (by decide), a Cert.ReferenceIdeal.main_arg19 (by decide), a Cert.ReferenceIdeal.main_arg20 (by decide), a Cert.ReferenceIdeal.main_arg21 (by decide), a Cert.ReferenceIdeal.main_arg22 (by decide)⟩

theorem claim : Cert.Claim := ⟨Cert.Kernel.Gen.facts, Cert.KernelIdeal.Gen.facts, Cert.ReferenceIdeal.Gen.facts, preFacts,
  frame_p, frame_pi, fun m g _ => keeps m g, frame_ri, fun m g _ => keepsRef m g, trivial, algebraic⟩

end Cert.Proof

end
